-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S8x128x2048 : Shape := ⟨3, ![8, 128, 2048]⟩
abbrev S8x256x2048 : Shape := ⟨3, ![8, 256, 2048]⟩
abbrev S2x128x2048 : Shape := ⟨3, ![2, 128, 2048]⟩
abbrev S2x256x2048 : Shape := ⟨3, ![2, 256, 2048]⟩
abbrev S8 : Shape := ⟨1, ![8]⟩
abbrev S2 : Shape := ⟨1, ![2]⟩
abbrev S3 : Shape := ⟨1, ![3]⟩
abbrev S_ : Shape := ⟨0, ![]⟩
abbrev S1 : Shape := ⟨1, ![1]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S1x2048 : Shape := ⟨2, ![1, 2048]⟩
abbrev S1x256x2048 : Shape := ⟨3, ![1, 256, 2048]⟩
abbrev S256x2048 : Shape := ⟨2, ![256, 2048]⟩

abbrev nBuf : Space → Nat
  | .hbm => 4
  | .vmem => 14
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .f32⟩
  | .local _ .vmem, ⟨0, _⟩ => ⟨S2048, .f32⟩
  | .local _ .vmem, ⟨1, _⟩ => ⟨S8x128x2048, .bf16⟩
  | .local _ .vmem, ⟨2, _⟩ => ⟨S8x128x2048, .bf16⟩
  | .local _ .vmem, ⟨3, _⟩ => ⟨S8x256x2048, .bf16⟩
  | .local _ .vmem, ⟨4, _⟩ => ⟨S8x256x2048, .bf16⟩
  | .local _ .vmem, ⟨5, _⟩ => ⟨S8x256x2048, .bf16⟩
  | .local _ .vmem, ⟨6, _⟩ => ⟨S8x128x2048, .bf16⟩
  | .local _ .vmem, ⟨7, _⟩ => ⟨S8x128x2048, .bf16⟩
  | .local _ .vmem, ⟨8, _⟩ => ⟨S2x128x2048, .f32⟩
  | .local _ .vmem, ⟨9, _⟩ => ⟨S2x128x2048, .f32⟩
  | .local _ .vmem, ⟨10, _⟩ => ⟨S2x128x2048, .f32⟩
  | .local _ .vmem, ⟨11, _⟩ => ⟨S2x128x2048, .f32⟩
  | .local _ .vmem, ⟨12, _⟩ => ⟨S2x256x2048, .f32⟩
  | .local _ .vmem, ⟨13, _⟩ => ⟨S2x128x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => true
  | ⟨1, _⟩ => true
  | ⟨2, _⟩ => true
  | ⟨3, _⟩ => false
  | _ => false

abbrev dmaSemScoped : Fin 109 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | _ => false

abbrev sig : RefSig :=
  (ofTc nBuf bufTy 4 109 bufScoped semScoped dmaSemScoped tileCredit tileCredit_eq_zero tileCredit_pos).withBarriers [(0, 3)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_sem0_0 : DmaSem sig := 0
abbrev barrier0 : Sem sig := 3

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v25 : BitVec 32 := Scalar.muli v9 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_21 : BitVec 32 := 2#32
  let v33 : BitVec 32 := Scalar.muli v10 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v41 : BitVec 32 := Scalar.muli v11 c1_i32_27
  let v42 : BitVec 32 := Scalar.addi v40 v41
  v42.toNat
def k0_dev4 (d0 : Dev nD) : Nat :=
  let c0_i32_31 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_30 : BitVec 32 := 4#32
  let v45 : BitVec 32 := Scalar.muli v9 c4_i32_30
  let v46 : BitVec 32 := Scalar.addi c0_i32_31 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v47 : BitVec 32 := Scalar.muli v5 c2_i32_32
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v49 : BitVec 32 := Scalar.muli v8 c1_i32_33
  let v50 : BitVec 32 := Scalar.addi v48 v49
  v50.toNat
def k0_dev5 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v53 : BitVec 32 := Scalar.muli v2 c4_i32_36
  let v54 : BitVec 32 := Scalar.addi c0_i32_37 v53
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_38 : BitVec 32 := 2#32
  let v55 : BitVec 32 := Scalar.muli v10 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
def k0_dev6 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v61 : BitVec 32 := Scalar.muli v2 c4_i32_42
  let v62 : BitVec 32 := Scalar.addi c0_i32_43 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v63 : BitVec 32 := Scalar.muli v5 c2_i32_44
  let v64 : BitVec 32 := Scalar.addi v62 v63
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_45 : BitVec 32 := 1#32
  let v65 : BitVec 32 := Scalar.muli v11 c1_i32_45
  let v66 : BitVec 32 := Scalar.addi v64 v65
  v66.toNat
def k0_off1 (d0 : Dev nD) (c0_i32_57 : BitVec 32) : Fin 3 → Nat :=
  let c0_i32_58 : BitVec 32 := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2048_i32 : BitVec 32 := 2048#32
  let v73 : BitVec 32 := Scalar.muli v13 c2048_i32
  let v77 : BitVec 32 := Scalar.addi v73 c0_i32_57
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_55 v2
  let c128_i32_56 : BitVec 32 := 128#32
  let v76 : BitVec 32 := Scalar.muli v75 c128_i32_56
  let v78 : BitVec 32 := Scalar.addi v77 v76
  let c0_i32_63 : BitVec 32 := 0#32
  ![0, v78.toNat, 0]
def k0_off2 (d0 : Dev nD) (c0_i32_70 : BitVec 32) : Fin 3 → Nat :=
  let c0_i32_71 : BitVec 32 := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2048_i32 : BitVec 32 := 2048#32
  let v73 : BitVec 32 := Scalar.muli v13 c2048_i32
  let v93 : BitVec 32 := Scalar.addi v73 c0_i32_70
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c128_i32 : BitVec 32 := 128#32
  let v74 : BitVec 32 := Scalar.muli v2 c128_i32
  let v94 : BitVec 32 := Scalar.addi v93 v74
  let c0_i32_76 : BitVec 32 := 0#32
  ![0, v94.toNat, 0]
def k0_off3 (d0 : Dev nD) (c0_i32_84 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2048_i32 : BitVec 32 := 2048#32
  let v73 : BitVec 32 := Scalar.muli v13 c2048_i32
  let v109 : BitVec 32 := Scalar.addi v73 c0_i32_84
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c128_i32 : BitVec 32 := 128#32
  let v74 : BitVec 32 := Scalar.muli v2 c128_i32
  let v110 : BitVec 32 := Scalar.addi v109 v74
  let c0_i32_89 : BitVec 32 := 0#32
  ![v110.toNat, 0]
def k0_dev7 (d0 : Dev nD) : Nat :=
  let c0_i32_118 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_117 : BitVec 32 := 4#32
  let v143 : BitVec 32 := Scalar.muli v9 c4_i32_117
  let v144 : BitVec 32 := Scalar.addi c0_i32_118 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v145 : BitVec 32 := Scalar.muli v5 c2_i32_119
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v147 : BitVec 32 := Scalar.muli v8 c1_i32_120
  let v148 : BitVec 32 := Scalar.addi v146 v147
  v148.toNat
def k0_dev8 (d0 : Dev nD) : Nat :=
  let c0_i32_147 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_146 : BitVec 32 := 4#32
  let v177 : BitVec 32 := Scalar.muli v9 c4_i32_146
  let v178 : BitVec 32 := Scalar.addi c0_i32_147 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v179 : BitVec 32 := Scalar.muli v5 c2_i32_148
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v181 : BitVec 32 := Scalar.muli v8 c1_i32_149
  let v182 : BitVec 32 := Scalar.addi v180 v181
  v182.toNat
def k0_dev9 (d0 : Dev nD) : Nat :=
  let c0_i32_176 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_175 : BitVec 32 := 4#32
  let v211 : BitVec 32 := Scalar.muli v9 c4_i32_175
  let v212 : BitVec 32 := Scalar.addi c0_i32_176 v211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_177 : BitVec 32 := 2#32
  let v213 : BitVec 32 := Scalar.muli v5 c2_i32_177
  let v214 : BitVec 32 := Scalar.addi v212 v213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_178 : BitVec 32 := 1#32
  let v215 : BitVec 32 := Scalar.muli v8 c1_i32_178
  let v216 : BitVec 32 := Scalar.addi v214 v215
  v216.toNat
def k0_dev10 (d0 : Dev nD) : Nat :=
  let c0_i32_205 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_204 : BitVec 32 := 4#32
  let v245 : BitVec 32 := Scalar.muli v9 c4_i32_204
  let v246 : BitVec 32 := Scalar.addi c0_i32_205 v245
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_206 : BitVec 32 := 2#32
  let v247 : BitVec 32 := Scalar.muli v5 c2_i32_206
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v249 : BitVec 32 := Scalar.muli v8 c1_i32_207
  let v250 : BitVec 32 := Scalar.addi v248 v249
  v250.toNat
def k0_dev11 (d0 : Dev nD) : Nat :=
  let c0_i32_234 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_233 : BitVec 32 := 4#32
  let v279 : BitVec 32 := Scalar.muli v9 c4_i32_233
  let v280 : BitVec 32 := Scalar.addi c0_i32_234 v279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_235 : BitVec 32 := 2#32
  let v281 : BitVec 32 := Scalar.muli v5 c2_i32_235
  let v282 : BitVec 32 := Scalar.addi v280 v281
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_236 : BitVec 32 := 1#32
  let v283 : BitVec 32 := Scalar.muli v8 c1_i32_236
  let v284 : BitVec 32 := Scalar.addi v282 v283
  v284.toNat
def k0_dev12 (d0 : Dev nD) : Nat :=
  let c0_i32_262 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_261 : BitVec 32 := 4#32
  let v313 : BitVec 32 := Scalar.muli v9 c4_i32_261
  let v314 : BitVec 32 := Scalar.addi c0_i32_262 v313
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_263 : BitVec 32 := 2#32
  let v315 : BitVec 32 := Scalar.muli v5 c2_i32_263
  let v316 : BitVec 32 := Scalar.addi v314 v315
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_264 : BitVec 32 := 1#32
  let v317 : BitVec 32 := Scalar.muli v8 c1_i32_264
  let v318 : BitVec 32 := Scalar.addi v316 v317
  v318.toNat
def k0_dev13 (d0 : Dev nD) : Nat :=
  let c0_i32_284 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_283 : BitVec 32 := 4#32
  let v339 : BitVec 32 := Scalar.muli v9 c4_i32_283
  let v340 : BitVec 32 := Scalar.addi c0_i32_284 v339
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_285 : BitVec 32 := 2#32
  let v341 : BitVec 32 := Scalar.muli v5 c2_i32_285
  let v342 : BitVec 32 := Scalar.addi v340 v341
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v343 : BitVec 32 := Scalar.muli v8 c1_i32_286
  let v344 : BitVec 32 := Scalar.addi v342 v343
  v344.toNat
def k0_dev14 (d0 : Dev nD) : Nat :=
  let c0_i32_306 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_305 : BitVec 32 := 4#32
  let v365 : BitVec 32 := Scalar.muli v9 c4_i32_305
  let v366 : BitVec 32 := Scalar.addi c0_i32_306 v365
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_307 : BitVec 32 := 2#32
  let v367 : BitVec 32 := Scalar.muli v5 c2_i32_307
  let v368 : BitVec 32 := Scalar.addi v366 v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_308 : BitVec 32 := 1#32
  let v369 : BitVec 32 := Scalar.muli v8 c1_i32_308
  let v370 : BitVec 32 := Scalar.addi v368 v369
  v370.toNat
def k0_off4 (d0 : Dev nD) : Fin 3 → Nat :=
  let c0_i32_369 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c128_i32 : BitVec 32 := 128#32
  let v74 : BitVec 32 := Scalar.muli v2 c128_i32
  let c0_i32_376 : BitVec 32 := 0#32
  ![0, v74.toNat, 0]
def k0_dev15 (d0 : Dev nD) : Nat :=
  let c0_i32_373 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_372 : BitVec 32 := 4#32
  let v451 : BitVec 32 := Scalar.muli v9 c4_i32_372
  let v452 : BitVec 32 := Scalar.addi c0_i32_373 v451
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_374 : BitVec 32 := 2#32
  let v453 : BitVec 32 := Scalar.muli v5 c2_i32_374
  let v454 : BitVec 32 := Scalar.addi v452 v453
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_375 : BitVec 32 := 1#32
  let v455 : BitVec 32 := Scalar.muli v8 c1_i32_375
  let v456 : BitVec 32 := Scalar.addi v454 v455
  v456.toNat
def k0_off5 (d0 : Dev nD) : Fin 3 → Nat :=
  let c1_i32_441 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c128_i32 : BitVec 32 := 128#32
  let v74 : BitVec 32 := Scalar.muli v2 c128_i32
  let c0_i32_448 : BitVec 32 := 0#32
  ![1, v74.toNat, 0]
def k0_dev16 (d0 : Dev nD) : Nat :=
  let c0_i32_445 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_444 : BitVec 32 := 4#32
  let v544 : BitVec 32 := Scalar.muli v9 c4_i32_444
  let v545 : BitVec 32 := Scalar.addi c0_i32_445 v544
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_446 : BitVec 32 := 2#32
  let v546 : BitVec 32 := Scalar.muli v5 c2_i32_446
  let v547 : BitVec 32 := Scalar.addi v545 v546
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_447 : BitVec 32 := 1#32
  let v548 : BitVec 32 := Scalar.muli v8 c1_i32_447
  let v549 : BitVec 32 := Scalar.addi v547 v548
  v549.toNat
def k0_dev17 (d0 : Dev nD) : Nat :=
  let c0_i32_471 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_470 : BitVec 32 := 4#32
  let v577 : BitVec 32 := Scalar.muli v2 c4_i32_470
  let v578 : BitVec 32 := Scalar.addi c0_i32_471 v577
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_472 : BitVec 32 := 2#32
  let v579 : BitVec 32 := Scalar.muli v10 c2_i32_472
  let v580 : BitVec 32 := Scalar.addi v578 v579
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_473 : BitVec 32 := 1#32
  let v581 : BitVec 32 := Scalar.muli v8 c1_i32_473
  let v582 : BitVec 32 := Scalar.addi v580 v581
  v582.toNat
def k0_dev18 (d0 : Dev nD) : Nat :=
  let c0_i32_483 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_482 : BitVec 32 := 4#32
  let v591 : BitVec 32 := Scalar.muli v2 c4_i32_482
  let v592 : BitVec 32 := Scalar.addi c0_i32_483 v591
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_484 : BitVec 32 := 2#32
  let v593 : BitVec 32 := Scalar.muli v5 c2_i32_484
  let v594 : BitVec 32 := Scalar.addi v592 v593
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_485 : BitVec 32 := 1#32
  let v595 : BitVec 32 := Scalar.muli v11 c1_i32_485
  let v596 : BitVec 32 := Scalar.addi v594 v595
  v596.toNat
def k0_off6 (d0 : Dev nD) (c0_i32_494 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2048_i32 : BitVec 32 := 2048#32
  let v73 : BitVec 32 := Scalar.muli v13 c2048_i32
  let v611 : BitVec 32 := Scalar.addi v73 c0_i32_494
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_55 v2
  let c128_i32_56 : BitVec 32 := 128#32
  let v76 : BitVec 32 := Scalar.muli v75 c128_i32_56
  let v612 : BitVec 32 := Scalar.addi v611 v76
  let c0_i32_497 : BitVec 32 := 0#32
  ![v612.toNat, 0]
def k0_off7 (d0 : Dev nD) : Fin 3 → Nat :=
  let c2_i32_562 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c128_i32 : BitVec 32 := 128#32
  let v74 : BitVec 32 := Scalar.muli v2 c128_i32
  let c0_i32_569 : BitVec 32 := 0#32
  ![2, v74.toNat, 0]
def k0_dev19 (d0 : Dev nD) : Nat :=
  let c0_i32_566 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_565 : BitVec 32 := 4#32
  let v695 : BitVec 32 := Scalar.muli v9 c4_i32_565
  let v696 : BitVec 32 := Scalar.addi c0_i32_566 v695
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_567 : BitVec 32 := 2#32
  let v697 : BitVec 32 := Scalar.muli v5 c2_i32_567
  let v698 : BitVec 32 := Scalar.addi v696 v697
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_568 : BitVec 32 := 1#32
  let v699 : BitVec 32 := Scalar.muli v8 c1_i32_568
  let v700 : BitVec 32 := Scalar.addi v698 v699
  v700.toNat
def k0_dev20 (d0 : Dev nD) : Nat :=
  let c0_i32_592 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_591 : BitVec 32 := 4#32
  let v728 : BitVec 32 := Scalar.muli v2 c4_i32_591
  let v729 : BitVec 32 := Scalar.addi c0_i32_592 v728
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_593 : BitVec 32 := 2#32
  let v730 : BitVec 32 := Scalar.muli v10 c2_i32_593
  let v731 : BitVec 32 := Scalar.addi v729 v730
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_594 : BitVec 32 := 1#32
  let v732 : BitVec 32 := Scalar.muli v8 c1_i32_594
  let v733 : BitVec 32 := Scalar.addi v731 v732
  v733.toNat
def k0_dev21 (d0 : Dev nD) : Nat :=
  let c0_i32_604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_603 : BitVec 32 := 4#32
  let v742 : BitVec 32 := Scalar.muli v2 c4_i32_603
  let v743 : BitVec 32 := Scalar.addi c0_i32_604 v742
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_605 : BitVec 32 := 2#32
  let v744 : BitVec 32 := Scalar.muli v5 c2_i32_605
  let v745 : BitVec 32 := Scalar.addi v743 v744
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_606 : BitVec 32 := 1#32
  let v746 : BitVec 32 := Scalar.muli v11 c1_i32_606
  let v747 : BitVec 32 := Scalar.addi v745 v746
  v747.toNat
def k0_off8 (d0 : Dev nD) : Fin 3 → Nat :=
  let c3_i32_683 : BitVec 32 := 3#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c128_i32 : BitVec 32 := 128#32
  let v74 : BitVec 32 := Scalar.muli v2 c128_i32
  let c0_i32_690 : BitVec 32 := 0#32
  ![3, v74.toNat, 0]
def k0_dev22 (d0 : Dev nD) : Nat :=
  let c0_i32_687 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_686 : BitVec 32 := 4#32
  let v846 : BitVec 32 := Scalar.muli v9 c4_i32_686
  let v847 : BitVec 32 := Scalar.addi c0_i32_687 v846
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_688 : BitVec 32 := 2#32
  let v848 : BitVec 32 := Scalar.muli v5 c2_i32_688
  let v849 : BitVec 32 := Scalar.addi v847 v848
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_689 : BitVec 32 := 1#32
  let v850 : BitVec 32 := Scalar.muli v8 c1_i32_689
  let v851 : BitVec 32 := Scalar.addi v849 v850
  v851.toNat
def k0_dev23 (d0 : Dev nD) : Nat :=
  let c0_i32_713 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_712 : BitVec 32 := 4#32
  let v879 : BitVec 32 := Scalar.muli v2 c4_i32_712
  let v880 : BitVec 32 := Scalar.addi c0_i32_713 v879
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_714 : BitVec 32 := 2#32
  let v881 : BitVec 32 := Scalar.muli v10 c2_i32_714
  let v882 : BitVec 32 := Scalar.addi v880 v881
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_715 : BitVec 32 := 1#32
  let v883 : BitVec 32 := Scalar.muli v8 c1_i32_715
  let v884 : BitVec 32 := Scalar.addi v882 v883
  v884.toNat
def k0_dev24 (d0 : Dev nD) : Nat :=
  let c0_i32_725 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_724 : BitVec 32 := 4#32
  let v893 : BitVec 32 := Scalar.muli v2 c4_i32_724
  let v894 : BitVec 32 := Scalar.addi c0_i32_725 v893
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_726 : BitVec 32 := 2#32
  let v895 : BitVec 32 := Scalar.muli v5 c2_i32_726
  let v896 : BitVec 32 := Scalar.addi v894 v895
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_727 : BitVec 32 := 1#32
  let v897 : BitVec 32 := Scalar.muli v11 c1_i32_727
  let v898 : BitVec 32 := Scalar.addi v896 v897
  v898.toNat
def k0_off9 (d0 : Dev nD) : Fin 3 → Nat :=
  let c4_i32_809 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c128_i32 : BitVec 32 := 128#32
  let v74 : BitVec 32 := Scalar.muli v2 c128_i32
  let c0_i32_816 : BitVec 32 := 0#32
  ![4, v74.toNat, 0]
def k0_dev25 (d0 : Dev nD) : Nat :=
  let c0_i32_813 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_812 : BitVec 32 := 4#32
  let v1002 : BitVec 32 := Scalar.muli v9 c4_i32_812
  let v1003 : BitVec 32 := Scalar.addi c0_i32_813 v1002
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_814 : BitVec 32 := 2#32
  let v1004 : BitVec 32 := Scalar.muli v5 c2_i32_814
  let v1005 : BitVec 32 := Scalar.addi v1003 v1004
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_815 : BitVec 32 := 1#32
  let v1006 : BitVec 32 := Scalar.muli v8 c1_i32_815
  let v1007 : BitVec 32 := Scalar.addi v1005 v1006
  v1007.toNat
def k0_dev26 (d0 : Dev nD) : Nat :=
  let c0_i32_839 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_838 : BitVec 32 := 4#32
  let v1035 : BitVec 32 := Scalar.muli v2 c4_i32_838
  let v1036 : BitVec 32 := Scalar.addi c0_i32_839 v1035
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_840 : BitVec 32 := 2#32
  let v1037 : BitVec 32 := Scalar.muli v10 c2_i32_840
  let v1038 : BitVec 32 := Scalar.addi v1036 v1037
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_841 : BitVec 32 := 1#32
  let v1039 : BitVec 32 := Scalar.muli v8 c1_i32_841
  let v1040 : BitVec 32 := Scalar.addi v1038 v1039
  v1040.toNat
def k0_dev27 (d0 : Dev nD) : Nat :=
  let c0_i32_851 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_850 : BitVec 32 := 4#32
  let v1049 : BitVec 32 := Scalar.muli v2 c4_i32_850
  let v1050 : BitVec 32 := Scalar.addi c0_i32_851 v1049
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_852 : BitVec 32 := 2#32
  let v1051 : BitVec 32 := Scalar.muli v5 c2_i32_852
  let v1052 : BitVec 32 := Scalar.addi v1050 v1051
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_853 : BitVec 32 := 1#32
  let v1053 : BitVec 32 := Scalar.muli v11 c1_i32_853
  let v1054 : BitVec 32 := Scalar.addi v1052 v1053
  v1054.toNat
def k0_off10 (d0 : Dev nD) : Fin 3 → Nat :=
  let c5_i32_935 : BitVec 32 := 5#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c128_i32 : BitVec 32 := 128#32
  let v74 : BitVec 32 := Scalar.muli v2 c128_i32
  let c0_i32_942 : BitVec 32 := 0#32
  ![5, v74.toNat, 0]
def k0_dev28 (d0 : Dev nD) : Nat :=
  let c0_i32_939 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_938 : BitVec 32 := 4#32
  let v1158 : BitVec 32 := Scalar.muli v9 c4_i32_938
  let v1159 : BitVec 32 := Scalar.addi c0_i32_939 v1158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_940 : BitVec 32 := 2#32
  let v1160 : BitVec 32 := Scalar.muli v5 c2_i32_940
  let v1161 : BitVec 32 := Scalar.addi v1159 v1160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_941 : BitVec 32 := 1#32
  let v1162 : BitVec 32 := Scalar.muli v8 c1_i32_941
  let v1163 : BitVec 32 := Scalar.addi v1161 v1162
  v1163.toNat
def k0_dev29 (d0 : Dev nD) : Nat :=
  let c0_i32_965 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_964 : BitVec 32 := 4#32
  let v1191 : BitVec 32 := Scalar.muli v2 c4_i32_964
  let v1192 : BitVec 32 := Scalar.addi c0_i32_965 v1191
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_966 : BitVec 32 := 2#32
  let v1193 : BitVec 32 := Scalar.muli v10 c2_i32_966
  let v1194 : BitVec 32 := Scalar.addi v1192 v1193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_967 : BitVec 32 := 1#32
  let v1195 : BitVec 32 := Scalar.muli v8 c1_i32_967
  let v1196 : BitVec 32 := Scalar.addi v1194 v1195
  v1196.toNat
def k0_dev30 (d0 : Dev nD) : Nat :=
  let c0_i32_977 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_976 : BitVec 32 := 4#32
  let v1205 : BitVec 32 := Scalar.muli v2 c4_i32_976
  let v1206 : BitVec 32 := Scalar.addi c0_i32_977 v1205
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_978 : BitVec 32 := 2#32
  let v1207 : BitVec 32 := Scalar.muli v5 c2_i32_978
  let v1208 : BitVec 32 := Scalar.addi v1206 v1207
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_979 : BitVec 32 := 1#32
  let v1209 : BitVec 32 := Scalar.muli v11 c1_i32_979
  let v1210 : BitVec 32 := Scalar.addi v1208 v1209
  v1210.toNat
def k0_off11 (d0 : Dev nD) : Fin 3 → Nat :=
  let c6_i32_1048 : BitVec 32 := 6#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c128_i32 : BitVec 32 := 128#32
  let v74 : BitVec 32 := Scalar.muli v2 c128_i32
  let c0_i32_1055 : BitVec 32 := 0#32
  ![6, v74.toNat, 0]
def k0_dev31 (d0 : Dev nD) : Nat :=
  let c0_i32_1052 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1051 : BitVec 32 := 4#32
  let v1299 : BitVec 32 := Scalar.muli v9 c4_i32_1051
  let v1300 : BitVec 32 := Scalar.addi c0_i32_1052 v1299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1053 : BitVec 32 := 2#32
  let v1301 : BitVec 32 := Scalar.muli v5 c2_i32_1053
  let v1302 : BitVec 32 := Scalar.addi v1300 v1301
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1054 : BitVec 32 := 1#32
  let v1303 : BitVec 32 := Scalar.muli v8 c1_i32_1054
  let v1304 : BitVec 32 := Scalar.addi v1302 v1303
  v1304.toNat
def k0_dev32 (d0 : Dev nD) : Nat :=
  let c0_i32_1078 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1077 : BitVec 32 := 4#32
  let v1332 : BitVec 32 := Scalar.muli v2 c4_i32_1077
  let v1333 : BitVec 32 := Scalar.addi c0_i32_1078 v1332
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1079 : BitVec 32 := 2#32
  let v1334 : BitVec 32 := Scalar.muli v10 c2_i32_1079
  let v1335 : BitVec 32 := Scalar.addi v1333 v1334
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1080 : BitVec 32 := 1#32
  let v1336 : BitVec 32 := Scalar.muli v8 c1_i32_1080
  let v1337 : BitVec 32 := Scalar.addi v1335 v1336
  v1337.toNat
def k0_dev33 (d0 : Dev nD) : Nat :=
  let c0_i32_1090 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1089 : BitVec 32 := 4#32
  let v1346 : BitVec 32 := Scalar.muli v2 c4_i32_1089
  let v1347 : BitVec 32 := Scalar.addi c0_i32_1090 v1346
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1091 : BitVec 32 := 2#32
  let v1348 : BitVec 32 := Scalar.muli v5 c2_i32_1091
  let v1349 : BitVec 32 := Scalar.addi v1347 v1348
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1092 : BitVec 32 := 1#32
  let v1350 : BitVec 32 := Scalar.muli v11 c1_i32_1092
  let v1351 : BitVec 32 := Scalar.addi v1349 v1350
  v1351.toNat
def k0_off12 (d0 : Dev nD) : Fin 3 → Nat :=
  let c7_i32_1161 : BitVec 32 := 7#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c128_i32 : BitVec 32 := 128#32
  let v74 : BitVec 32 := Scalar.muli v2 c128_i32
  let c0_i32_1168 : BitVec 32 := 0#32
  ![7, v74.toNat, 0]
def k0_dev34 (d0 : Dev nD) : Nat :=
  let c0_i32_1165 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1164 : BitVec 32 := 4#32
  let v1440 : BitVec 32 := Scalar.muli v9 c4_i32_1164
  let v1441 : BitVec 32 := Scalar.addi c0_i32_1165 v1440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1166 : BitVec 32 := 2#32
  let v1442 : BitVec 32 := Scalar.muli v5 c2_i32_1166
  let v1443 : BitVec 32 := Scalar.addi v1441 v1442
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1167 : BitVec 32 := 1#32
  let v1444 : BitVec 32 := Scalar.muli v8 c1_i32_1167
  let v1445 : BitVec 32 := Scalar.addi v1443 v1444
  v1445.toNat
def k0_dev35 (d0 : Dev nD) : Nat :=
  let c0_i32_1191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1190 : BitVec 32 := 4#32
  let v1473 : BitVec 32 := Scalar.muli v2 c4_i32_1190
  let v1474 : BitVec 32 := Scalar.addi c0_i32_1191 v1473
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1192 : BitVec 32 := 2#32
  let v1475 : BitVec 32 := Scalar.muli v10 c2_i32_1192
  let v1476 : BitVec 32 := Scalar.addi v1474 v1475
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1193 : BitVec 32 := 1#32
  let v1477 : BitVec 32 := Scalar.muli v8 c1_i32_1193
  let v1478 : BitVec 32 := Scalar.addi v1476 v1477
  v1478.toNat
def k0_dev36 (d0 : Dev nD) : Nat :=
  let c0_i32_1203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1202 : BitVec 32 := 4#32
  let v1487 : BitVec 32 := Scalar.muli v2 c4_i32_1202
  let v1488 : BitVec 32 := Scalar.addi c0_i32_1203 v1487
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1204 : BitVec 32 := 2#32
  let v1489 : BitVec 32 := Scalar.muli v5 c2_i32_1204
  let v1490 : BitVec 32 := Scalar.addi v1488 v1489
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1205 : BitVec 32 := 1#32
  let v1491 : BitVec 32 := Scalar.muli v11 c1_i32_1205
  let v1492 : BitVec 32 := Scalar.addi v1490 v1491
  v1492.toNat
def k0_dev37 (d0 : Dev nD) : Nat :=
  let c0_i32_1240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1239 : BitVec 32 := 4#32
  let v1531 : BitVec 32 := Scalar.muli v2 c4_i32_1239
  let v1532 : BitVec 32 := Scalar.addi c0_i32_1240 v1531
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1241 : BitVec 32 := 2#32
  let v1533 : BitVec 32 := Scalar.muli v10 c2_i32_1241
  let v1534 : BitVec 32 := Scalar.addi v1532 v1533
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1242 : BitVec 32 := 1#32
  let v1535 : BitVec 32 := Scalar.muli v8 c1_i32_1242
  let v1536 : BitVec 32 := Scalar.addi v1534 v1535
  v1536.toNat
def k0_dev38 (d0 : Dev nD) : Nat :=
  let c0_i32_1252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1251 : BitVec 32 := 4#32
  let v1545 : BitVec 32 := Scalar.muli v2 c4_i32_1251
  let v1546 : BitVec 32 := Scalar.addi c0_i32_1252 v1545
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1253 : BitVec 32 := 2#32
  let v1547 : BitVec 32 := Scalar.muli v5 c2_i32_1253
  let v1548 : BitVec 32 := Scalar.addi v1546 v1547
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1254 : BitVec 32 := 1#32
  let v1549 : BitVec 32 := Scalar.muli v11 c1_i32_1254
  let v1550 : BitVec 32 := Scalar.addi v1548 v1549
  v1550.toNat
def k0_dev39 (d0 : Dev nD) : Nat :=
  let c0_i32_1291 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1290 : BitVec 32 := 4#32
  let v1589 : BitVec 32 := Scalar.muli v2 c4_i32_1290
  let v1590 : BitVec 32 := Scalar.addi c0_i32_1291 v1589
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1292 : BitVec 32 := 2#32
  let v1591 : BitVec 32 := Scalar.muli v5 c2_i32_1292
  let v1592 : BitVec 32 := Scalar.addi v1590 v1591
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1293 : BitVec 32 := 1#32
  let v1593 : BitVec 32 := Scalar.muli v11 c1_i32_1293
  let v1594 : BitVec 32 := Scalar.addi v1592 v1593
  v1594.toNat
def k0_off13 (d0 : Dev nD) (c0_i32_1299 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32_1298 : BitVec 32 := 2048#32
  let v1603 : BitVec 32 := Scalar.muli v16 c2048_i32_1298
  let v1604 : BitVec 32 := Scalar.addi v1603 c0_i32_1299
  let c0_i32_1308 : BitVec 32 := 0#32
  ![v1604.toNat, 0]
def k0_dev40 (d0 : Dev nD) : Nat :=
  let c0_i32_1328 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1327 : BitVec 32 := 4#32
  let v1628 : BitVec 32 := Scalar.muli v2 c4_i32_1327
  let v1629 : BitVec 32 := Scalar.addi c0_i32_1328 v1628
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1329 : BitVec 32 := 2#32
  let v1630 : BitVec 32 := Scalar.muli v10 c2_i32_1329
  let v1631 : BitVec 32 := Scalar.addi v1629 v1630
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1330 : BitVec 32 := 1#32
  let v1632 : BitVec 32 := Scalar.muli v8 c1_i32_1330
  let v1633 : BitVec 32 := Scalar.addi v1631 v1632
  v1633.toNat
def k0_off14 (d0 : Dev nD) (c0_i32_1336 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c2048_i32_1335 : BitVec 32 := 2048#32
  let v1642 : BitVec 32 := Scalar.muli v19 c2048_i32_1335
  let v1643 : BitVec 32 := Scalar.addi v1642 c0_i32_1336
  let c0_i32_1350 : BitVec 32 := 0#32
  ![v1643.toNat, 0]
def k0_dev41 (d0 : Dev nD) : Nat :=
  let c0_i32_1370 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1369 : BitVec 32 := 4#32
  let v1672 : BitVec 32 := Scalar.muli v2 c4_i32_1369
  let v1673 : BitVec 32 := Scalar.addi c0_i32_1370 v1672
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1371 : BitVec 32 := 2#32
  let v1674 : BitVec 32 := Scalar.muli v5 c2_i32_1371
  let v1675 : BitVec 32 := Scalar.addi v1673 v1674
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1372 : BitVec 32 := 1#32
  let v1676 : BitVec 32 := Scalar.muli v11 c1_i32_1372
  let v1677 : BitVec 32 := Scalar.addi v1675 v1676
  v1677.toNat
def k0_dev42 (d0 : Dev nD) : Nat :=
  let c0_i32_1407 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1406 : BitVec 32 := 4#32
  let v1711 : BitVec 32 := Scalar.muli v2 c4_i32_1406
  let v1712 : BitVec 32 := Scalar.addi c0_i32_1407 v1711
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1408 : BitVec 32 := 2#32
  let v1713 : BitVec 32 := Scalar.muli v10 c2_i32_1408
  let v1714 : BitVec 32 := Scalar.addi v1712 v1713
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1409 : BitVec 32 := 1#32
  let v1715 : BitVec 32 := Scalar.muli v8 c1_i32_1409
  let v1716 : BitVec 32 := Scalar.addi v1714 v1715
  v1716.toNat
def k0_dev43 (d0 : Dev nD) : Nat :=
  let c0_i32_1449 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1448 : BitVec 32 := 4#32
  let v1755 : BitVec 32 := Scalar.muli v2 c4_i32_1448
  let v1756 : BitVec 32 := Scalar.addi c0_i32_1449 v1755
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1450 : BitVec 32 := 2#32
  let v1757 : BitVec 32 := Scalar.muli v5 c2_i32_1450
  let v1758 : BitVec 32 := Scalar.addi v1756 v1757
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1451 : BitVec 32 := 1#32
  let v1759 : BitVec 32 := Scalar.muli v11 c1_i32_1451
  let v1760 : BitVec 32 := Scalar.addi v1758 v1759
  v1760.toNat
def k0_dev44 (d0 : Dev nD) : Nat :=
  let c0_i32_1491 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1490 : BitVec 32 := 4#32
  let v1799 : BitVec 32 := Scalar.muli v2 c4_i32_1490
  let v1800 : BitVec 32 := Scalar.addi c0_i32_1491 v1799
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1492 : BitVec 32 := 2#32
  let v1801 : BitVec 32 := Scalar.muli v10 c2_i32_1492
  let v1802 : BitVec 32 := Scalar.addi v1800 v1801
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1493 : BitVec 32 := 1#32
  let v1803 : BitVec 32 := Scalar.muli v8 c1_i32_1493
  let v1804 : BitVec 32 := Scalar.addi v1802 v1803
  v1804.toNat
def k0_dev45 (d0 : Dev nD) : Nat :=
  let c0_i32_1533 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1532 : BitVec 32 := 4#32
  let v1843 : BitVec 32 := Scalar.muli v2 c4_i32_1532
  let v1844 : BitVec 32 := Scalar.addi c0_i32_1533 v1843
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1534 : BitVec 32 := 2#32
  let v1845 : BitVec 32 := Scalar.muli v5 c2_i32_1534
  let v1846 : BitVec 32 := Scalar.addi v1844 v1845
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1535 : BitVec 32 := 1#32
  let v1847 : BitVec 32 := Scalar.muli v11 c1_i32_1535
  let v1848 : BitVec 32 := Scalar.addi v1846 v1847
  v1848.toNat
def k0_dev46 (d0 : Dev nD) : Nat :=
  let c0_i32_1575 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1574 : BitVec 32 := 4#32
  let v1887 : BitVec 32 := Scalar.muli v2 c4_i32_1574
  let v1888 : BitVec 32 := Scalar.addi c0_i32_1575 v1887
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1576 : BitVec 32 := 2#32
  let v1889 : BitVec 32 := Scalar.muli v10 c2_i32_1576
  let v1890 : BitVec 32 := Scalar.addi v1888 v1889
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1577 : BitVec 32 := 1#32
  let v1891 : BitVec 32 := Scalar.muli v8 c1_i32_1577
  let v1892 : BitVec 32 := Scalar.addi v1890 v1891
  v1892.toNat
def k0_dev47 (d0 : Dev nD) : Nat :=
  let c0_i32_1617 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1616 : BitVec 32 := 4#32
  let v1931 : BitVec 32 := Scalar.muli v2 c4_i32_1616
  let v1932 : BitVec 32 := Scalar.addi c0_i32_1617 v1931
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1618 : BitVec 32 := 2#32
  let v1933 : BitVec 32 := Scalar.muli v5 c2_i32_1618
  let v1934 : BitVec 32 := Scalar.addi v1932 v1933
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1619 : BitVec 32 := 1#32
  let v1935 : BitVec 32 := Scalar.muli v11 c1_i32_1619
  let v1936 : BitVec 32 := Scalar.addi v1934 v1935
  v1936.toNat
def k0_dev48 (d0 : Dev nD) : Nat :=
  let c0_i32_1659 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1658 : BitVec 32 := 4#32
  let v1975 : BitVec 32 := Scalar.muli v2 c4_i32_1658
  let v1976 : BitVec 32 := Scalar.addi c0_i32_1659 v1975
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1660 : BitVec 32 := 2#32
  let v1977 : BitVec 32 := Scalar.muli v10 c2_i32_1660
  let v1978 : BitVec 32 := Scalar.addi v1976 v1977
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1661 : BitVec 32 := 1#32
  let v1979 : BitVec 32 := Scalar.muli v8 c1_i32_1661
  let v1980 : BitVec 32 := Scalar.addi v1978 v1979
  v1980.toNat
def k0_dev49 (d0 : Dev nD) : Nat :=
  let c0_i32_1701 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1700 : BitVec 32 := 4#32
  let v2019 : BitVec 32 := Scalar.muli v2 c4_i32_1700
  let v2020 : BitVec 32 := Scalar.addi c0_i32_1701 v2019
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1702 : BitVec 32 := 2#32
  let v2021 : BitVec 32 := Scalar.muli v5 c2_i32_1702
  let v2022 : BitVec 32 := Scalar.addi v2020 v2021
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1703 : BitVec 32 := 1#32
  let v2023 : BitVec 32 := Scalar.muli v11 c1_i32_1703
  let v2024 : BitVec 32 := Scalar.addi v2022 v2023
  v2024.toNat
def k0_dev50 (d0 : Dev nD) : Nat :=
  let c0_i32_1743 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1742 : BitVec 32 := 4#32
  let v2063 : BitVec 32 := Scalar.muli v2 c4_i32_1742
  let v2064 : BitVec 32 := Scalar.addi c0_i32_1743 v2063
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1744 : BitVec 32 := 2#32
  let v2065 : BitVec 32 := Scalar.muli v10 c2_i32_1744
  let v2066 : BitVec 32 := Scalar.addi v2064 v2065
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1745 : BitVec 32 := 1#32
  let v2067 : BitVec 32 := Scalar.muli v8 c1_i32_1745
  let v2068 : BitVec 32 := Scalar.addi v2066 v2067
  v2068.toNat
def k0_dev51 (d0 : Dev nD) : Nat :=
  let c0_i32_1785 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1784 : BitVec 32 := 4#32
  let v2107 : BitVec 32 := Scalar.muli v2 c4_i32_1784
  let v2108 : BitVec 32 := Scalar.addi c0_i32_1785 v2107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1786 : BitVec 32 := 2#32
  let v2109 : BitVec 32 := Scalar.muli v5 c2_i32_1786
  let v2110 : BitVec 32 := Scalar.addi v2108 v2109
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1787 : BitVec 32 := 1#32
  let v2111 : BitVec 32 := Scalar.muli v11 c1_i32_1787
  let v2112 : BitVec 32 := Scalar.addi v2110 v2111
  v2112.toNat
def k0_dev52 (d0 : Dev nD) : Nat :=
  let c0_i32_1827 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1826 : BitVec 32 := 4#32
  let v2151 : BitVec 32 := Scalar.muli v2 c4_i32_1826
  let v2152 : BitVec 32 := Scalar.addi c0_i32_1827 v2151
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1828 : BitVec 32 := 2#32
  let v2153 : BitVec 32 := Scalar.muli v10 c2_i32_1828
  let v2154 : BitVec 32 := Scalar.addi v2152 v2153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1829 : BitVec 32 := 1#32
  let v2155 : BitVec 32 := Scalar.muli v8 c1_i32_1829
  let v2156 : BitVec 32 := Scalar.addi v2154 v2155
  v2156.toNat
def k0_dev53 (d0 : Dev nD) : Nat :=
  let c0_i32_1869 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1868 : BitVec 32 := 4#32
  let v2195 : BitVec 32 := Scalar.muli v2 c4_i32_1868
  let v2196 : BitVec 32 := Scalar.addi c0_i32_1869 v2195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1870 : BitVec 32 := 2#32
  let v2197 : BitVec 32 := Scalar.muli v5 c2_i32_1870
  let v2198 : BitVec 32 := Scalar.addi v2196 v2197
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1871 : BitVec 32 := 1#32
  let v2199 : BitVec 32 := Scalar.muli v11 c1_i32_1871
  let v2200 : BitVec 32 := Scalar.addi v2198 v2199
  v2200.toNat
def k0_dev54 (d0 : Dev nD) : Nat :=
  let c0_i32_1911 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1910 : BitVec 32 := 4#32
  let v2239 : BitVec 32 := Scalar.muli v2 c4_i32_1910
  let v2240 : BitVec 32 := Scalar.addi c0_i32_1911 v2239
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1912 : BitVec 32 := 2#32
  let v2241 : BitVec 32 := Scalar.muli v10 c2_i32_1912
  let v2242 : BitVec 32 := Scalar.addi v2240 v2241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1913 : BitVec 32 := 1#32
  let v2243 : BitVec 32 := Scalar.muli v8 c1_i32_1913
  let v2244 : BitVec 32 := Scalar.addi v2242 v2243
  v2244.toNat
def k0_off15 (d0 : Dev nD) (c0_i32_1949 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c2048_i32_1948 : BitVec 32 := 2048#32
  let v2283 : BitVec 32 := Scalar.muli v23 c2048_i32_1948
  let v2284 : BitVec 32 := Scalar.addi v2283 c0_i32_1949
  let c0_i32_1963 : BitVec 32 := 0#32
  ![v2284.toNat, 0]
def k0_off16 (d0 : Dev nD) (c0_i32_1979 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c2048_i32_1978 : BitVec 32 := 2048#32
  let v2313 : BitVec 32 := Scalar.muli v23 c2048_i32_1978
  let v2314 : BitVec 32 := Scalar.addi v2313 c0_i32_1979
  let c128_i32_1980 : BitVec 32 := 128#32
  let v2315 : BitVec 32 := Scalar.addi v2314 c128_i32_1980
  let c0_i32_1994 : BitVec 32 := 0#32
  ![v2315.toNat, 0]
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x2048 : Shape := ⟨3, ![2, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Same.lean ====
/-
  The kernel as printed and the kernel printed for reading over the reals are one text: their programs, at any reading of
  the floats, are equal.
-/
module

public import proofs.«01_k».proof.KernelIdeal
public import proofs.«01_k».proof.Proof.Gen.KernelIdeal
public import proofs.«01_k».proof.Kernel
public import proofs.«01_k».proof.Proof.Gen.Kernel

@[expose] public section

noncomputable section

namespace Cert.Same

open Idealize.ShloMosaic Idealize.SL.Sem

variable {F : FTy → Type} [FloatOps F]

set_option maxRecDepth 20000

/-- The bodies' tables are equal, -/
theorem bodies_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) (funext fun l => funext fun a => ?_)
  match l, a with
  | ⟨0, _⟩, (t, s) => rfl
  | ⟨_ + 1, h⟩, _ => exact absurd h (Nat.not_lt.2 (Nat.le_add_left _ _))
/-- the tables with the pipelines, -/
theorem defs_eq : Cert.Kernel.defs (F := F) = Cert.KernelIdeal.defs (F := F) := congrArg (Pipeline.defs Cert.KernelIdeal.pcfgs) bodies_eq
/-- and the main functions. -/
theorem main_eq : Cert.Kernel.main (F := F) = Cert.KernelIdeal.main (F := F) := rfl

end Cert.Same

end
-- ==== Proof.Plain.lean ====
/-
  The run of the reference: what its operations leave in the result, as one expression of the three arguments.
-/
module

public import proofs.«01_k».proof.ReferenceIdeal
public import proofs.«01_k».proof.Proof.Gen.ReferenceIdeal
public import Idealize.ShloMosaic.Lib.Claim
public import Idealize.ShloMosaic.Lib.Quiescent

@[expose] public section

noncomputable section

namespace Cert.Plain

open Cert.ReferenceIdeal Cert.ReferenceIdeal.Gen
open Idealize.ShloMosaic Idealize.ShloMosaic.TcCoe Idealize.SL.Sem

variable {F : FTy → Type} [FloatOps F]

/-- The sum of the two parts and the residual. -/
def total (p : FVec F S2x8192x2048 .f32) (r : FVec F S8192x2048 .f32) : FVec F S8192x2048 .f32 :=
  addf (Host.reduceAdd p (constant S_ .f32 0x00000000#32) reducesTo_S2x8192x2048_S8192x2048_d0 h_S_) r

/-- The root of each row's mean square, the small constant added. -/
def root (y : FVec F S8192x2048 .f32) : FVec F S8192x1 .f32 :=
  Host.sqrt (addf (Host.divf (broadcastInDim S8192x1 ![0] bcast_S8192_S8192x1_0
        (Host.reduceAdd (mulf y y) (constant S_ .f32 0x00000000#32) reducesTo_S8192x2048_S8192_d1 h_S_))
      (broadcastInDim S8192x1 ![] bcast_S_S8192x1 (constant S_ .f32 0x45000000#32)))
    (broadcastInDim S8192x1 ![] bcast_S_S8192x1 (constant S_ .f32 0x358637BD#32)))

/-- The result. -/
def result (p : FVec F S2x8192x2048 .f32) (r : FVec F S8192x2048 .f32) (g : FVec F S2048 .f32) : FVec F S8192x2048 .f32 :=
  mulf (Host.divf (total p r) (broadcastInDim S8192x2048 ![0, 1] bcast_S8192x1_S8192x2048_0_1 (root (total p r))))
    (broadcastInDim S8192x2048 ![0, 1] bcast_S1x2048_S8192x2048_0_1 (broadcastInDim S1x2048 ![1] bcast_S2048_S1x2048_1 g))

/-- Every run ends, with the result described and the arguments as they were. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v14) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  all_goals rfl

end Cert.Plain

end
-- ==== Proof.KernelIdeal.Prog.lean ====
/-
  The kernel's body, written once per kind of step with the chunk number a variable, and the equation saying that the
  printed body is the sequence of these steps.
-/
module

public import proofs.«01_k».proof.Proof.Gen.KernelIdeal.Points
public import Idealize.ShloMosaic.Lib.Pipeline.Regions

@[expose] public section

noncomputable section

namespace Cert.KernelIdeal.AR

open Idealize.ShloMosaic Idealize.ShloMosaic.TcCoe
open Idealize.SL Idealize.SL.Sem
open Cert.KernelIdeal.Gen

variable {F : FTy → Type} [FloatOps F]

/-- A program of one device. -/
abbrev P (F : FTy → Type) [FloatOps F] : Type 1 := Prog (TpuEff nD τ sig (Elt F) Λ₀ .tc) PUnit

/-! ## Devices and slots -/

/-- The device across the first mesh axis. -/
def xp (d : Dev nD) : Dev nD := ⟨k0_dev1 d, k0_dev1_lt d⟩
/-- The device across the second mesh axis. -/
def yp (d : Dev nD) : Dev nD := ⟨k0_dev2 d, k0_dev2_lt d⟩
/-- The device across the third mesh axis. -/
def zp (d : Dev nD) : Dev nD := ⟨k0_dev3 d, k0_dev3_lt d⟩

theorem xp_xp (d : Dev nD) : xp (xp d) = d := by revert d; decide +kernel
theorem yp_yp (d : Dev nD) : yp (yp d) = d := by revert d; decide +kernel
theorem zp_zp (d : Dev nD) : zp (zp d) = d := by revert d; decide +kernel

/-- A device's coordinate on the first mesh axis. -/
def hx (d : Dev nD) : Fin 2 := ⟨d.val / 4, by have := d.isLt; simp only [nD] at this; omega⟩
/-- The other value of it. -/
def hpx (d : Dev nD) : Fin 2 := ⟨1 - d.val / 4, by omega⟩

/-- The slot of a two-slot staging buffer chunk `c` goes through. -/
def sl (c : Fin 8) : Fin 2 := ⟨c.val % 2, by omega⟩

/-! ## Rectangles and views -/

theorem inbC (c : Fin 8) : ∀ a, (![c.val, 0, 0] : Fin 3 → Nat) a + S1x128x2048.size a ≤ S8x128x2048.size a := by revert c; decide
theorem inbH (c : Fin 8) (h : Fin 2) : ∀ a, (![c.val, 128 * h.val, 0] : Fin 3 → Nat) a + S1x128x2048.size a ≤ S8x256x2048.size a := by revert c h; decide
theorem inbW (c : Fin 8) : ∀ a, (![c.val, 0, 0] : Fin 3 → Nat) a + S1x256x2048.size a ≤ S8x256x2048.size a := by revert c; decide
theorem inbS (s : Fin 2) : ∀ a, (![s.val, 0, 0] : Fin 3 → Nat) a + S1x128x2048.size a ≤ S2x128x2048.size a := by revert s; decide
theorem inbSW (s : Fin 2) : ∀ a, (![s.val, 0, 0] : Fin 3 → Nat) a + S1x256x2048.size a ≤ S2x256x2048.size a := by revert s; decide
theorem inbSL (s : Fin 2) : ∀ a, (![s.val, 0, 0] : Fin 3 → Nat) a + S1x128x2048.size a ≤ S2x256x2048.size a := by revert s; decide
theorem inb8 (c : Fin 8) : ∀ a, (![c.val] : Fin 1 → Nat) a + S1.size a ≤ S8.size a := by revert c; decide
theorem inb2 (s : Fin 2) : ∀ a, (![s.val] : Fin 1 → Nat) a + S1.size a ≤ S2.size a := by revert s; decide

/-- Chunk `c` of an eight-chunk buffer of 128 rows. -/
abbrev rC (c : Fin 8) : Rect S8x128x2048 := Rect.unit (s := S8x128x2048) ![c.val, 0, 0] S1x128x2048.size (inbC c)
/-- Half `h` of chunk `c` of an eight-chunk buffer of 256 rows. -/
abbrev rH (c : Fin 8) (h : Fin 2) : Rect S8x256x2048 := Rect.unit (s := S8x256x2048) ![c.val, 128 * h.val, 0] S1x128x2048.size (inbH c h)
/-- Chunk `c` of an eight-chunk buffer of 256 rows. -/
abbrev rW (c : Fin 8) : Rect S8x256x2048 := Rect.unit (s := S8x256x2048) ![c.val, 0, 0] S1x256x2048.size (inbW c)
/-- Slot `s` of a staging buffer of 128 rows. -/
abbrev rS (s : Fin 2) : Rect S2x128x2048 := Rect.unit (s := S2x128x2048) ![s.val, 0, 0] S1x128x2048.size (inbS s)
/-- Slot `s` of a staging buffer of 256 rows. -/
abbrev rSW (s : Fin 2) : Rect S2x256x2048 := Rect.unit (s := S2x256x2048) ![s.val, 0, 0] S1x256x2048.size (inbSW s)
/-- The first 128 rows of slot `s` of a staging buffer of 256 rows. -/
abbrev rSL (s : Fin 2) : Rect S2x256x2048 := Rect.unit (s := S2x256x2048) ![s.val, 0, 0] S1x128x2048.size (inbSL s)

theorem wordsC (c : Fin 8) : (rC c).WholeWords (EltTy.packing .bf16) := by revert c; decide +kernel
theorem wordsH (c : Fin 8) (h : Fin 2) : (rH c h).WholeWords (EltTy.packing .bf16) := by revert c h; decide +kernel
theorem wordsW (c : Fin 8) : (rW c).WholeWords (EltTy.packing .bf16) := by revert c; decide +kernel
theorem packedC (c : Fin 8) : (rC c).PackedRows (EltTy.packing .bf16) := by revert c; decide +kernel
theorem packedH (c : Fin 8) (h : Fin 2) : (rH c h).PackedRows (EltTy.packing .bf16) := by revert c h; decide +kernel

/-- The memref of chunk `c`. -/
abbrev mC (m : Memref sig .tc .vmem S8x128x2048 .bf16) (c : Fin 8) : Memref sig .tc .vmem S128x2048 .bf16 :=
  (m.slice (rC c) (fun _ => rfl)).squeeze S128x2048 squeezes_S1x128x2048_S128x2048
/-- The memref of half `h` of chunk `c`. -/
abbrev mH (m : Memref sig .tc .vmem S8x256x2048 .bf16) (c : Fin 8) (h : Fin 2) : Memref sig .tc .vmem S128x2048 .bf16 :=
  (m.slice (rH c h) (fun _ => rfl)).squeeze S128x2048 squeezes_S1x128x2048_S128x2048
/-- The memref of chunk `c`, 256 rows. -/
abbrev mW (m : Memref sig .tc .vmem S8x256x2048 .bf16) (c : Fin 8) : Memref sig .tc .vmem S256x2048 .bf16 :=
  (m.slice (rW c) (fun _ => rfl)).squeeze S256x2048 squeezes_S1x256x2048_S256x2048
/-- The memref of slot `s`. -/
abbrev mS (m : Memref sig .tc .vmem S2x128x2048 .f32) (s : Fin 2) : Memref sig .tc .vmem S128x2048 .f32 :=
  (m.slice (rS s) (fun _ => rfl)).squeeze S128x2048 squeezes_S1x128x2048_S128x2048
/-- The memref of slot `s`, 256 rows. -/
abbrev mSW (m : Memref sig .tc .vmem S2x256x2048 .f32) (s : Fin 2) : Memref sig .tc .vmem S256x2048 .f32 :=
  (m.slice (rSW s) (fun _ => rfl)).squeeze S256x2048 squeezes_S1x256x2048_S256x2048
/-- The memref of the first 128 rows of slot `s`. -/
abbrev mSL (m : Memref sig .tc .vmem S2x256x2048 .f32) (s : Fin 2) : Memref sig .tc .vmem S128x2048 .f32 :=
  (m.slice (rSL s) (fun _ => rfl)).squeeze S128x2048 squeezes_S1x128x2048_S128x2048

/-- Semaphore `c` of eight. -/
abbrev s8 (A : DmaSems sig S8) (c : Fin 8) : DmaSem sig :=
  ((A.slice (Rect.unit (s := S8) ![c.val] S1.size (inb8 c))).squeeze S_ squeezes_S1_S_).sem
/-- Semaphore `s` of two. -/
abbrev s2 (A : DmaSems sig S2) (s : Fin 2) : DmaSem sig :=
  ((A.slice (Rect.unit (s := S2) ![s.val] S1.size (inb2 s))).squeeze S_ squeezes_S1_S_).sem

/-! ## Buffers -/

abbrev partialM : Memref sig .tc .hbm S1x8192x2048 .f32 := Memref.whole main_arg0
abbrev residM : Memref sig .tc .hbm S8192x2048 .f32 := Memref.whole main_arg1
abbrev gammaM : Memref sig .tc .vmem S2048 .f32 := Memref.whole cc0_stg0_0
abbrev outM : Memref sig .tc .hbm S8192x2048 .f32 := Memref.whole main_v1
abbrev sxM : Memref sig .tc .vmem S8x128x2048 .bf16 := Memref.whole cc0_scratch0
abbrev rxM : Memref sig .tc .vmem S8x128x2048 .bf16 := Memref.whole cc0_scratch1
abbrev rbM : Memref sig .tc .vmem S8x256x2048 .bf16 := Memref.whole cc0_scratch2
abbrev ryM : Memref sig .tc .vmem S8x256x2048 .bf16 := Memref.whole cc0_scratch3
abbrev rzM : Memref sig .tc .vmem S8x256x2048 .bf16 := Memref.whole cc0_scratch4
abbrev zfM : Memref sig .tc .vmem S8x128x2048 .bf16 := Memref.whole cc0_scratch5
abbrev yfM : Memref sig .tc .vmem S8x128x2048 .bf16 := Memref.whole cc0_scratch6
abbrev pxM : Memref sig .tc .vmem S2x128x2048 .f32 := Memref.whole cc0_scratch7
abbrev pmM : Memref sig .tc .vmem S2x128x2048 .f32 := Memref.whole cc0_scratch8
abbrev riM : Memref sig .tc .vmem S2x128x2048 .f32 := Memref.whole cc0_scratch9
abbrev ouM : Memref sig .tc .vmem S2x128x2048 .f32 := Memref.whole cc0_scratch10
abbrev csM : Memref sig .tc .vmem S2x256x2048 .f32 := Memref.whole cc0_scratch11
abbrev phM : Memref sig .tc .vmem S2x128x2048 .f32 := Memref.whole cc0_scratch12

/-- The word naming chunk `c`'s row offset. -/
abbrev w256 (c : Fin 8) : BitVec 32 := BitVec.ofNat 32 (256 * c.val)

/-- The rows of `partial` sent to the device across the first axis, chunk `c`. -/
abbrev pxSrc (d : Dev nD) (c : Fin 8) : Memref sig .tc .hbm S128x2048 .f32 :=
  (partialM.slice (Rect.unit (s := S1x8192x2048) (k0_off1 d (w256 c)) S1x128x2048.size (k0_off1_inb d c)) (fun _ => rfl)).squeeze
    S128x2048 squeezes_S1x128x2048_S128x2048
/-- The rows of `partial` summed here, chunk `c`. -/
abbrev pmSrc (d : Dev nD) (c : Fin 8) : Memref sig .tc .hbm S128x2048 .f32 :=
  (partialM.slice (Rect.unit (s := S1x8192x2048) (k0_off2 d (w256 c)) S1x128x2048.size (k0_off2_inb d c)) (fun _ => rfl)).squeeze
    S128x2048 squeezes_S1x128x2048_S128x2048
/-- The rows of `resid` added here, chunk `c`. -/
abbrev riSrc (d : Dev nD) (c : Fin 8) : Memref sig .tc .hbm S128x2048 .f32 :=
  residM.slice (Rect.unit (s := S8192x2048) (k0_off3 d (w256 c)) S128x2048.size (k0_off3_inb d c)) (fun _ => rfl)
/-- The rows of the result computed here, chunk `c`. -/
abbrev ouDst (d : Dev nD) (c : Fin 8) : Memref sig .tc .hbm S128x2048 .f32 :=
  outM.slice (Rect.unit (s := S8192x2048) (k0_off3 d (w256 c)) S128x2048.size (k0_off3_inb d c)) (fun _ => rfl)
/-- The rows of the result computed across the first axis, chunk `c`. -/
abbrev phDst (d : Dev nD) (c : Fin 8) : Memref sig .tc .hbm S128x2048 .f32 :=
  outM.slice (Rect.unit (s := S8192x2048) (k0_off6 d (w256 c)) S128x2048.size (k0_off6_inb d c)) (fun _ => rfl)
/-- The rows of the result received across the second axis, chunk `c`. -/
abbrev yDst (d : Dev nD) (c : Fin 8) : Memref sig .tc .hbm S256x2048 .f32 :=
  outM.slice (Rect.unit (s := S8192x2048) (k0_off13 d (w256 c)) S256x2048.size (k0_off13_inb d c)) (fun _ => rfl)
/-- The rows of the result received across the third axis, chunk `c`. -/
abbrev zDst (d : Dev nD) (c : Fin 8) : Memref sig .tc .hbm S256x2048 .f32 :=
  outM.slice (Rect.unit (s := S8192x2048) (k0_off14 d (w256 c)) S256x2048.size (k0_off14_inb d c)) (fun _ => rfl)
/-- The first half of the rows of the result received across both axes, chunk `c`. -/
abbrev zfDst (d : Dev nD) (c : Fin 8) : Memref sig .tc .hbm S128x2048 .f32 :=
  outM.slice (Rect.unit (s := S8192x2048) (k0_off15 d (w256 c)) S128x2048.size (k0_off15_inb d c)) (fun _ => rfl)
/-- The second half of them. -/
abbrev yfDst (d : Dev nD) (c : Fin 8) : Memref sig .tc .hbm S128x2048 .f32 :=
  outM.slice (Rect.unit (s := S8192x2048) (k0_off16 d (w256 c)) S128x2048.size (k0_off16_inb d c)) (fun _ => rfl)

/-! ## The pure operations -/

/-- What is sent across the first axis: the rows rounded. -/
def packX (v : Vec F S1x128x2048 .f32) : Vec F S1x128x2048 .bf16 :=
  shapeCast S1x128x2048 (truncf .bf16 (shapeCast S128x2048 v shapeCasts_S1x128x2048_S128x2048) bitsLt_bf16_f32) shapeCasts_S128x2048_S1x128x2048

/-- The normalised rows. -/
def norm (pm : Vec F S1x128x2048 .f32) (px : Vec F S1x128x2048 .bf16) (r : Vec F S1x128x2048 .f32) (g : Vec F S2048 .f32) : FVec F S128x2048 .f32 :=
  have y : FVec F S128x2048 .f32 := addf (addf (shapeCast S128x2048 pm shapeCasts_S1x128x2048_S128x2048)
      (extf .f32 (shapeCast S128x2048 px shapeCasts_S1x128x2048_S128x2048) bitsLt_bf16_f32))
    (shapeCast S128x2048 r shapeCasts_S1x128x2048_S128x2048)
  have q : FVec F S128 .f32 := multiReduction .add [1] S128 (mulf y y) 0x00000000#32 reduces_S128x2048_S128 (.inl rfl) rfl
  have a : FVec F S128x1 .f32 := addf (divf (shapeCast S128x1 q shapeCasts_S128_S128x1) (broadcast S128x1 (Scalar.ofBits .f32 0x45000000#32)))
    (broadcast S128x1 (Scalar.ofBits .f32 0x358637BD#32))
  mulf (mulf y (broadcastTo S128x2048 (rsqrt a) broadcasts_S128x1_S128x2048))
    (broadcastTo S128x2048 (shapeCast S1x2048 (shapeCast S2048 g shapeCasts_S2048_S2048) shapeCasts_S2048_S1x2048) broadcasts_S1x2048_S128x2048)

/-- The normalised rows as stored in the result's staging buffer. -/
def normOut (pm : Vec F S1x128x2048 .f32) (px : Vec F S1x128x2048 .bf16) (r : Vec F S1x128x2048 .f32) (g : Vec F S2048 .f32) : Vec F S1x128x2048 .f32 :=
  shapeCast S1x128x2048 (norm pm px r g) shapeCasts_S128x2048_S1x128x2048

/-- The normalised rows rounded, as sent on. -/
def normB (pm : Vec F S1x128x2048 .f32) (px : Vec F S1x128x2048 .bf16) (r : Vec F S1x128x2048 .f32) (g : Vec F S2048 .f32) : Vec F S1x128x2048 .bf16 :=
  shapeCast S1x128x2048 (truncf .bf16 (norm pm px r g) bitsLt_bf16_f32) shapeCasts_S128x2048_S1x128x2048

/-- Received rows widened, 128 of them. -/
def wide (v : Vec F S1x128x2048 .bf16) : Vec F S1x128x2048 .f32 :=
  shapeCast S1x128x2048 (extf .f32 (shapeCast S128x2048 v shapeCasts_S1x128x2048_S128x2048) bitsLt_bf16_f32) shapeCasts_S128x2048_S1x128x2048

/-- Received rows widened, 256 of them. -/
def wideW (v : Vec F S1x256x2048 .bf16) : Vec F S1x256x2048 .f32 :=
  shapeCast S1x256x2048 (extf .f32 (shapeCast S256x2048 v shapeCasts_S1x256x2048_S256x2048) bitsLt_bf16_f32) shapeCasts_S256x2048_S1x256x2048

/-! ## The steps -/

/-- The handshake: one signal to each neighbour on the barrier, then one on each of three semaphores, each waited for. -/
def handshake (d : Dev nD) : P F := do
  semSignalWord (xp d) (SemArray.scalar (d := S_.size) (sig.barrier 0 rfl)).sem 1#32
  semSignalWord (yp d) (SemArray.scalar (d := S_.size) (sig.barrier 0 rfl)).sem 1#32
  semSignalWord (zp d) (SemArray.scalar (d := S_.size) (sig.barrier 0 rfl)).sem 1#32
  semWaitWord (SemArray.scalar (d := S_.size) (sig.barrier 0 rfl)).sem 3#32
  semSignalWord (xp d) ((cc0_scratch31.slice (Rect.unit (s := S3) ![0] S1.size inb_S3_S1_0)).squeeze S_ squeezes_S1_S_).sem 1#32
  semSignalWord (yp d) ((cc0_scratch31.slice (Rect.unit (s := S3) ![1] S1.size inb_S3_S1_1)).squeeze S_ squeezes_S1_S_).sem 1#32
  semSignalWord (zp d) ((cc0_scratch31.slice (Rect.unit (s := S3) ![2] S1.size inb_S3_S1_2)).squeeze S_ squeezes_S1_S_).sem 1#32
  semWaitWord ((cc0_scratch31.slice (Rect.unit (s := S3) ![0] S1.size inb_S3_S1_0)).squeeze S_ squeezes_S1_S_).sem 1#32
  semWaitWord ((cc0_scratch31.slice (Rect.unit (s := S3) ![1] S1.size inb_S3_S1_1)).squeeze S_ squeezes_S1_S_).sem 1#32
  semWaitWord ((cc0_scratch31.slice (Rect.unit (s := S3) ![2] S1.size inb_S3_S1_2)).squeeze S_ squeezes_S1_S_).sem 1#32

/-- Start the copy of chunk `c`'s rows for the neighbour. -/
def startPx (d : Dev nD) (c : Fin 8) : P F :=
  Prog.lift (.enqueueDma (pxSrc d c) (.here (mS pxM (sl c))) (.dma (s2 cc0_scratch25 (sl c))) ((View.wordExact_bits rfl).reshape _ _) ((View.wordExact_bits rfl).reshape _ _) ⟨Or.inl rfl, trivial⟩)
/-- Start the copy of chunk `c`'s own rows of `partial`. -/
def startPm (d : Dev nD) (c : Fin 8) : P F :=
  Prog.lift (.enqueueDma (pmSrc d c) (.here (mS pmM (sl c))) (.dma (s2 cc0_scratch26 (sl c))) ((View.wordExact_bits rfl).reshape _ _) ((View.wordExact_bits rfl).reshape _ _) ⟨Or.inl rfl, trivial⟩)
/-- Start the copy of chunk `c`'s rows of `resid`. -/
def startRi (d : Dev nD) (c : Fin 8) : P F :=
  Prog.lift (.enqueueDma (riSrc d c) (.here (mS riM (sl c))) (.dma (s2 cc0_scratch27 (sl c))) (View.wordExact_bits rfl) ((View.wordExact_bits rfl).reshape _ _) ⟨Or.inl rfl, trivial⟩)
def waitPx (d : Dev nD) (c : Fin 8) : P F :=
  Prog.lift (.waitDma2 (s2 cc0_scratch25 (sl c)) (pxSrc d c) (mS pxM (sl c)) ((View.wordExact_bits rfl).reshape _ _) ((View.wordExact_bits rfl).reshape _ _))
def waitPm (d : Dev nD) (c : Fin 8) : P F :=
  Prog.lift (.waitDma2 (s2 cc0_scratch26 (sl c)) (pmSrc d c) (mS pmM (sl c)) ((View.wordExact_bits rfl).reshape _ _) ((View.wordExact_bits rfl).reshape _ _))
def waitRi (d : Dev nD) (c : Fin 8) : P F :=
  Prog.lift (.waitDma2 (s2 cc0_scratch27 (sl c)) (riSrc d c) (mS riM (sl c)) (View.wordExact_bits rfl) ((View.wordExact_bits rfl).reshape _ _))

/-- Run `f` on the chunk two ahead, when there is one. -/
def ahead (c : Fin 8) (f : Fin 8 → P F) : P F := if h : c.val + 2 < 8 then f ⟨c.val + 2, h⟩ else pure ⟨⟩
/-- Run `f` on the chunk two behind, when there is one. -/
def behind (c : Fin 8) (f : Fin 8 → P F) : P F := if 2 ≤ c.val then f ⟨c.val - 2, by omega⟩ else pure ⟨⟩

/-- Send chunk `c` of the rounded rows across the first axis. -/
def sendX1 (d : Dev nD) (c : Fin 8) : P F :=
  Prog.lift (.enqueueDma (mC sxM c) (.remote (Dev.tc (xp d)) (mC rxM c) (.dma (s8 cc0_scratch13 c))) (.dma (s8 cc0_scratch14 c))
    (((Memref.isWhole_whole cc0_scratch0).wordExact_slice rfl _ (wordsC c)).reshape _ _) (((Memref.isWhole_whole cc0_scratch1).wordExact_slice rfl _ (wordsC c)).reshape _ _) ⟨⟨rfl, Or.inl rfl⟩, trivial⟩)

/-- Step `c` of the first loop: take chunk `c` of the neighbour's rows, round it, send it. -/
def stepX (d : Dev nD) (c : Fin 8) : P F := do
  waitPx d c
  let v : Vec F S1x128x2048 .f32 ← Prog.lift (.load pxM (rS (sl c)).toLoadRect (View.loadsAt_vmem h_S1x128x2048))
  let _ : Vec F S1x128x2048 .bf16 ← Prog.lift (.load sxM (rC c).toLoadRect (View.loadsAt_vmem h_S1x128x2048))
  Prog.lift (.store sxM (rC c) (packX v) Finset.univ (View.stores_vmem h_S1x128x2048 ((Memref.isWhole_whole cc0_scratch0).storeExact_slice rfl _ (packedC c)) (fun _ => rfl)) (.inl rfl))
  ahead c (startPx d)
  sendX1 d c

def waitX1 (c : Fin 8) : P F :=
  Prog.lift (.waitDma2 (s8 cc0_scratch14 c) (mC sxM c) (mC rxM c) (((Memref.isWhole_whole cc0_scratch0).wordExact_slice rfl _ (wordsC c)).reshape _ _) (((Memref.isWhole_whole cc0_scratch1).wordExact_slice rfl _ (wordsC c)).reshape _ _))
def startOu (d : Dev nD) (c : Fin 8) : P F :=
  Prog.lift (.enqueueDma (mS ouM (sl c)) (.here (ouDst d c)) (.dma (s2 cc0_scratch28 (sl c))) ((View.wordExact_bits rfl).reshape _ _) (View.wordExact_bits rfl) ⟨Or.inl rfl, trivial⟩)
def waitOu (d : Dev nD) (c : Fin 8) : P F :=
  Prog.lift (.waitDma2 (s2 cc0_scratch28 (sl c)) (mS ouM (sl c)) (ouDst d c) ((View.wordExact_bits rfl).reshape _ _) (View.wordExact_bits rfl))
def startPh (d : Dev nD) (c : Fin 8) : P F :=
  Prog.lift (.enqueueDma (mS phM (sl c)) (.here (phDst d c)) (.dma (s2 cc0_scratch30 (sl c))) ((View.wordExact_bits rfl).reshape _ _) (View.wordExact_bits rfl) ⟨Or.inl rfl, trivial⟩)
def waitPh (d : Dev nD) (c : Fin 8) : P F :=
  Prog.lift (.waitDma2 (s2 cc0_scratch30 (sl c)) (mS phM (sl c)) (phDst d c) ((View.wordExact_bits rfl).reshape _ _) (View.wordExact_bits rfl))

/-- Send this device's half of chunk `c` of the rounded result across the first axis. -/
def sendX2 (d : Dev nD) (c : Fin 8) : P F :=
  Prog.lift (.enqueueDma (mH rbM c (hx d)) (.remote (Dev.tc (xp d)) (mH rbM c (hx d)) (.dma (s8 cc0_scratch15 c))) (.dma (s8 cc0_scratch16 c))
    (((Memref.isWhole_whole cc0_scratch2).wordExact_slice rfl _ (wordsH c (hx d))).reshape _ _) (((Memref.isWhole_whole cc0_scratch2).wordExact_slice rfl _ (wordsH c (hx d))).reshape _ _) ⟨⟨rfl, Or.inl rfl⟩, trivial⟩)
def waitX2 (d : Dev nD) (c : Fin 8) : P F :=
  Prog.lift (.waitDma2 (s8 cc0_scratch16 c) (mH rbM c (hx d)) (mH rbM c (hx d))
    (((Memref.isWhole_whole cc0_scratch2).wordExact_slice rfl _ (wordsH c (hx d))).reshape _ _) (((Memref.isWhole_whole cc0_scratch2).wordExact_slice rfl _ (wordsH c (hx d))).reshape _ _))

/-- Store this device's half of chunk `c` of the rounded result. -/
def storeB (d : Dev nD) (c : Fin 8) (w : Vec F S1x128x2048 .bf16) : P F := do
  let _ : Vec F S1x128x2048 .bf16 ← Prog.lift (.load rbM (rH c (hx d)).toLoadRect (View.loadsAt_vmem h_S1x128x2048))
  Prog.lift (.store rbM (rH c (hx d)) w Finset.univ (View.stores_vmem h_S1x128x2048 ((Memref.isWhole_whole cc0_scratch2).storeExact_slice rfl _ (packedH c (hx d))) (fun _ => rfl)) (.inl rfl))

/-- The loads, arithmetic and stores of chunk `c`. -/
def compute (d : Dev nD) (c : Fin 8) : P F := do
  let pm : Vec F S1x128x2048 .f32 ← Prog.lift (.load pmM (rS (sl c)).toLoadRect (View.loadsAt_vmem h_S1x128x2048))
  let px : Vec F S1x128x2048 .bf16 ← Prog.lift (.load rxM (rC c).toLoadRect (View.loadsAt_vmem h_S1x128x2048))
  let r : Vec F S1x128x2048 .f32 ← Prog.lift (.load riM (rS (sl c)).toLoadRect (View.loadsAt_vmem h_S1x128x2048))
  let g : Vec F S2048 .f32 ← Prog.lift (.load gammaM (Rect.unit (s := S2048) ![0] S2048.size inb_S2048_S2048_0).toLoadRect (View.loadsAt_vmem h_S2048))
  let _ : Vec F S1x128x2048 .f32 ← Prog.lift (.load ouM (rS (sl c)).toLoadRect (View.loadsAt_vmem h_S1x128x2048))
  Prog.lift (.store ouM (rS (sl c)) (normOut pm px r g) Finset.univ (View.stores_vmem_bits_univ h_S1x128x2048 rfl) (.inl rfl))
  storeB d c (normB pm px r g)

/-- Step `c` of the second loop, first part: chunk `c` normalised, its rounding sent across the first axis, its copy to the result started. -/
def stepN (d : Dev nD) (c : Fin 8) : P F := do
  waitX1 c
  waitPm d c
  waitRi d c
  behind c (waitOu d)
  compute d c
  ahead c (startPm d)
  ahead c (startRi d)
  sendX2 d c
  startOu d c

/-- Send chunk `c` of the rounded result across the second axis. -/
def sendY (d : Dev nD) (c : Fin 8) : P F :=
  Prog.lift (.enqueueDma (mW rbM c) (.remote (Dev.tc (yp d)) (mW ryM c) (.dma (s8 cc0_scratch17 c))) (.dma (s8 cc0_scratch18 c))
    (((Memref.isWhole_whole cc0_scratch2).wordExact_slice rfl _ (wordsW c)).reshape _ _) (((Memref.isWhole_whole cc0_scratch3).wordExact_slice rfl _ (wordsW c)).reshape _ _) ⟨⟨rfl, Or.inl rfl⟩, trivial⟩)
/-- Send chunk `c` of the rounded result across the third axis. -/
def sendZ (d : Dev nD) (c : Fin 8) : P F :=
  Prog.lift (.enqueueDma (mW rbM c) (.remote (Dev.tc (zp d)) (mW rzM c) (.dma (s8 cc0_scratch19 c))) (.dma (s8 cc0_scratch20 c))
    (((Memref.isWhole_whole cc0_scratch2).wordExact_slice rfl _ (wordsW c)).reshape _ _) (((Memref.isWhole_whole cc0_scratch4).wordExact_slice rfl _ (wordsW c)).reshape _ _) ⟨⟨rfl, Or.inl rfl⟩, trivial⟩)

/-- Widen the neighbour's half of chunk `c` into its staging slot. -/
def widenPh (d : Dev nD) (c : Fin 8) : P F := do
  let v : Vec F S1x128x2048 .bf16 ← Prog.lift (.load rbM (rH c (hpx d)).toLoadRect (View.loadsAt_vmem h_S1x128x2048))
  let _ : Vec F S1x128x2048 .f32 ← Prog.lift (.load phM (rS (sl c)).toLoadRect (View.loadsAt_vmem h_S1x128x2048))
  Prog.lift (.store phM (rS (sl c)) (wide v) Finset.univ (View.stores_vmem_bits_univ h_S1x128x2048 rfl) (.inl rfl))

/-- Step `c` of the second loop, second part: the neighbour's half of chunk `c` taken, the whole chunk sent across the other two axes,
    the neighbour's half copied to the result. -/
def stepG (d : Dev nD) (c : Fin 8) : P F := do
  waitX2 d c
  sendY d c
  sendZ d c
  behind c (waitPh d)
  widenPh d c
  startPh d c

def waitY (c : Fin 8) : P F :=
  Prog.lift (.waitDma2 (s8 cc0_scratch18 c) (mW rbM c) (mW ryM c) (((Memref.isWhole_whole cc0_scratch2).wordExact_slice rfl _ (wordsW c)).reshape _ _) (((Memref.isWhole_whole cc0_scratch3).wordExact_slice rfl _ (wordsW c)).reshape _ _))
def waitZ (c : Fin 8) : P F :=
  Prog.lift (.waitDma2 (s8 cc0_scratch20 c) (mW rbM c) (mW rzM c) (((Memref.isWhole_whole cc0_scratch2).wordExact_slice rfl _ (wordsW c)).reshape _ _) (((Memref.isWhole_whole cc0_scratch4).wordExact_slice rfl _ (wordsW c)).reshape _ _))
/-- Send the first half of chunk `c` received across the second axis on across the third. -/
def sendZf (d : Dev nD) (c : Fin 8) : P F :=
  Prog.lift (.enqueueDma (mH ryM c 0) (.remote (Dev.tc (zp d)) (mC zfM c) (.dma (s8 cc0_scratch21 c))) (.dma (s8 cc0_scratch22 c))
    (((Memref.isWhole_whole cc0_scratch3).wordExact_slice rfl _ (wordsH c 0)).reshape _ _) (((Memref.isWhole_whole cc0_scratch5).wordExact_slice rfl _ (wordsC c)).reshape _ _) ⟨⟨rfl, Or.inl rfl⟩, trivial⟩)
/-- Send the second half of chunk `c` received across the third axis on across the second. -/
def sendYf (d : Dev nD) (c : Fin 8) : P F :=
  Prog.lift (.enqueueDma (mH rzM c 1) (.remote (Dev.tc (yp d)) (mC yfM c) (.dma (s8 cc0_scratch23 c))) (.dma (s8 cc0_scratch24 c))
    (((Memref.isWhole_whole cc0_scratch4).wordExact_slice rfl _ (wordsH c 1)).reshape _ _) (((Memref.isWhole_whole cc0_scratch6).wordExact_slice rfl _ (wordsC c)).reshape _ _) ⟨⟨rfl, Or.inl rfl⟩, trivial⟩)

/-- Start the copy of slot `s` of the staging buffer to 256 rows of the result. -/
def startCW (s : Fin 2) (dst : Memref sig .tc .hbm S256x2048 .f32) : P F :=
  Prog.lift (.enqueueDma (mSW csM s) (.here dst) (.dma (s2 cc0_scratch29 s)) ((View.wordExact_bits rfl).reshape _ _) (View.wordExact_bits rfl) ⟨Or.inl rfl, trivial⟩)
def waitCW (s : Fin 2) (dst : Memref sig .tc .hbm S256x2048 .f32) : P F :=
  Prog.lift (.waitDma2 (s2 cc0_scratch29 s) (mSW csM s) dst ((View.wordExact_bits rfl).reshape _ _) (View.wordExact_bits rfl))
/-- Start the copy of the first half of slot `s` of the staging buffer to 128 rows of the result. -/
def startCL (s : Fin 2) (dst : Memref sig .tc .hbm S128x2048 .f32) : P F :=
  Prog.lift (.enqueueDma (mSL csM s) (.here dst) (.dma (s2 cc0_scratch29 s)) ((View.wordExact_bits rfl).reshape _ _) (View.wordExact_bits rfl) ⟨Or.inl rfl, trivial⟩)
def waitCL (s : Fin 2) (dst : Memref sig .tc .hbm S128x2048 .f32) : P F :=
  Prog.lift (.waitDma2 (s2 cc0_scratch29 s) (mSL csM s) dst ((View.wordExact_bits rfl).reshape _ _) (View.wordExact_bits rfl))

/-- Widen chunk `c` of a received buffer of 256 rows into the staging buffer and start its copy to the result. -/
def takeW (m : Memref sig .tc .vmem S8x256x2048 .bf16) (c : Fin 8) (dst : Memref sig .tc .hbm S256x2048 .f32) : P F := do
  let v : Vec F S1x256x2048 .bf16 ← Prog.lift (.load m (rW c).toLoadRect (View.loadsAt_vmem h_S1x256x2048))
  let _ : Vec F S1x256x2048 .f32 ← Prog.lift (.load csM (rSW (sl c)).toLoadRect (View.loadsAt_vmem h_S1x256x2048))
  Prog.lift (.store csM (rSW (sl c)) (wideW v) Finset.univ (View.stores_vmem_bits_univ h_S1x256x2048 rfl) (.inl rfl))
  startCW (sl c) dst

/-- The same for a buffer of 128 rows. -/
def takeL (m : Memref sig .tc .vmem S8x128x2048 .bf16) (c : Fin 8) (dst : Memref sig .tc .hbm S128x2048 .f32) : P F := do
  let v : Vec F S1x128x2048 .bf16 ← Prog.lift (.load m (rC c).toLoadRect (View.loadsAt_vmem h_S1x128x2048))
  let _ : Vec F S1x128x2048 .f32 ← Prog.lift (.load csM (rSL (sl c)).toLoadRect (View.loadsAt_vmem h_S1x128x2048))
  Prog.lift (.store csM (rSL (sl c)) (wide v) Finset.univ (View.stores_vmem_bits_univ h_S1x128x2048 rfl) (.inl rfl))
  startCL (sl c) dst

/-- Step `c` of the third loop: the chunks received across the second and the third axis, forwarded by halves and copied to the result. -/
def stepF (d : Dev nD) (c : Fin 8) : P F := do
  waitY c
  sendZf d c
  behind c fun c' => waitCW (sl c') (zDst d c')
  takeW ryM c (yDst d c)
  waitZ c
  sendYf d c
  waitCW (sl c) (yDst d c)
  takeW rzM c (zDst d c)

def waitZf (c : Fin 8) : P F :=
  Prog.lift (.waitDma2 (s8 cc0_scratch22 c) (mH ryM c 0) (mC zfM c) (((Memref.isWhole_whole cc0_scratch3).wordExact_slice rfl _ (wordsH c 0)).reshape _ _) (((Memref.isWhole_whole cc0_scratch5).wordExact_slice rfl _ (wordsC c)).reshape _ _))
def waitYf (c : Fin 8) : P F :=
  Prog.lift (.waitDma2 (s8 cc0_scratch24 c) (mH rzM c 1) (mC yfM c) (((Memref.isWhole_whole cc0_scratch4).wordExact_slice rfl _ (wordsH c 1)).reshape _ _) (((Memref.isWhole_whole cc0_scratch6).wordExact_slice rfl _ (wordsC c)).reshape _ _))

/-- The wait before the first use of step `c`'s staging slot in the last loop. -/
def waitPrev (d : Dev nD) (c : Fin 8) : P F :=
  if 2 ≤ c.val then waitCL (sl c) (yfDst d ⟨c.val - 2, by omega⟩) else waitCW (sl c) (zDst d ⟨(c.val + 6) % 8, by omega⟩)

/-- Step `c` of the last loop: the two forwarded halves copied to the result. -/
def stepL (d : Dev nD) (c : Fin 8) : P F := do
  waitZf c
  waitPrev d c
  takeL zfM c (zfDst d c)
  waitYf c
  waitCL (sl c) (zfDst d c)
  takeL yfM c (yfDst d c)

def endX1 (c : Fin 8) : P F :=
  Prog.lift (.waitDma2 (s8 cc0_scratch13 c) (mC rxM c) (mC sxM c) (((Memref.isWhole_whole cc0_scratch1).wordExact_slice rfl _ (wordsC c)).reshape _ _) (((Memref.isWhole_whole cc0_scratch0).wordExact_slice rfl _ (wordsC c)).reshape _ _))
def endX2 (d : Dev nD) (c : Fin 8) : P F :=
  Prog.lift (.waitDma2 (s8 cc0_scratch15 c) (mH rbM c (hx d)) (mH rbM c (hx d))
    (((Memref.isWhole_whole cc0_scratch2).wordExact_slice rfl _ (wordsH c (hx d))).reshape _ _) (((Memref.isWhole_whole cc0_scratch2).wordExact_slice rfl _ (wordsH c (hx d))).reshape _ _))
def endY (c : Fin 8) : P F :=
  Prog.lift (.waitDma2 (s8 cc0_scratch17 c) (mW ryM c) (mW rbM c) (((Memref.isWhole_whole cc0_scratch3).wordExact_slice rfl _ (wordsW c)).reshape _ _) (((Memref.isWhole_whole cc0_scratch2).wordExact_slice rfl _ (wordsW c)).reshape _ _))
def endZ (c : Fin 8) : P F :=
  Prog.lift (.waitDma2 (s8 cc0_scratch19 c) (mW rzM c) (mW rbM c) (((Memref.isWhole_whole cc0_scratch4).wordExact_slice rfl _ (wordsW c)).reshape _ _) (((Memref.isWhole_whole cc0_scratch2).wordExact_slice rfl _ (wordsW c)).reshape _ _))
def endZf (c : Fin 8) : P F :=
  Prog.lift (.waitDma2 (s8 cc0_scratch21 c) (mC zfM c) (mH ryM c 0) (((Memref.isWhole_whole cc0_scratch5).wordExact_slice rfl _ (wordsC c)).reshape _ _) (((Memref.isWhole_whole cc0_scratch3).wordExact_slice rfl _ (wordsH c 0)).reshape _ _))
def endYf (c : Fin 8) : P F :=
  Prog.lift (.waitDma2 (s8 cc0_scratch23 c) (mC yfM c) (mH rzM c 1) (((Memref.isWhole_whole cc0_scratch6).wordExact_slice rfl _ (wordsC c)).reshape _ _) (((Memref.isWhole_whole cc0_scratch4).wordExact_slice rfl _ (wordsH c 1)).reshape _ _))

/-- Eight steps in order. -/
def loop8 (f : Fin 8 → P F) : P F := do
  f 0; f 1; f 2; f 3; f 4; f 5; f 6; f 7

/-- The first copies of the three input streams. -/
def starts (d : Dev nD) : P F := do
  startPx d 0; startPx d 1; startPm d 0; startPm d 1; startRi d 0; startRi d 1

/-- The last waits for the copies to the result. -/
def finals (d : Dev nD) : P F := do
  waitOu d 6; waitOu d 7
  waitCL 0 (yfDst d 6); waitCL 1 (yfDst d 7)
  waitPh d 6; waitPh d 7

/-- The second loop, in which chunk `c`'s second part follows chunk `c + 1`'s first. -/
def midLoop (d : Dev nD) : P F := do
  stepN d 0
  stepN d 1; stepG d 0
  stepN d 2; stepG d 1
  stepN d 3; stepG d 2
  stepN d 4; stepG d 3
  stepN d 5; stepG d 4
  stepN d 6; stepG d 5
  stepN d 7; stepG d 6
  stepG d 7

/-- The body from the reading of the device's number on. -/
def bodyFrom (d : Dev nD) : P F := do
  handshake d
  starts d
  loop8 (stepX d)
  midLoop d
  loop8 (stepF d)
  loop8 (stepL d)
  loop8 endX1
  loop8 (endX2 d)
  loop8 endY
  loop8 endZ
  loop8 endZf
  loop8 endYf
  finals d

end Cert.KernelIdeal.AR

end
-- ==== Proof.KernelIdeal.Base.lean ====
/-
  What the buffers hold at each stage, the semaphore cells the devices pay each other on, and the schedule of payments.
-/
module

public import proofs.«01_k».proof.Proof.KernelIdeal.Prog
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Memref

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The copy of the rounds' algebra the devices' schedule lives in. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The copy of the counters' algebra the local copies take their tokens from. -/
abbrev EC : UEmb Counters (MT nD τ sig Unit (Elt F) ℕ UU ℕ) := countersEmb (U := UU)

abbrev 𝒱₀ : Variants := Variants.none

/-- The weakest precondition of a program of device `d` with a result, over the kernels' body table. -/
def WPv {α : Type} (d : Dev nD) (p : Prog (TpuEff nD τ sig (Elt F) Λ₀ .tc) α) (Q : α → sProp 𝕄) : sProp 𝕄 :=
  wp frame (wpE (defs₀ (F := F)) 𝒱₀ (d : Thread nD τ) none) Set.univ p Q

/-- The weakest precondition of a program of device `d`. -/
abbrev WP (d : Dev nD) (p : P F) (Q : PUnit → sProp 𝕄) : sProp 𝕄 := WPv d p Q

variable (m : (ℓ : Loc nD τ sig) → Buf (Elt F) ℓ) (ρ : Dev nD → PrngReg)

/-! ## Contents -/

/-- A vector of 128 rows with a leading dimension of one. -/
abbrev up {e : EltTy} (X : S128x2048.Idx → Elt F e) : S1x128x2048.Idx → Elt F e := shapeCast S1x128x2048 X shapeCasts_S128x2048_S1x128x2048
/-- A vector of 256 rows with a leading dimension of one. -/
abbrev upW {e : EltTy} (X : S256x2048.Idx → Elt F e) : S1x256x2048.Idx → Elt F e := shapeCast S1x256x2048 X shapeCasts_S256x2048_S1x256x2048

/-- Row `j` of half `h` among 256 rows. -/
def rowIx (h : Fin 2) (j : S128x2048.Idx) : S256x2048.Idx := fun a => match a with
  | ⟨0, _⟩ => ⟨128 * h.val + (j 0).val, by have := (j 0).isLt; have : (j 0).val < 128 := this; show _ < 256; have := h.isLt; omega⟩
  | ⟨1, _⟩ => ⟨(j 1).val, (j 1).isLt⟩

/-- Half `h` of 256 rows. -/
def rows {α : Type} (h : Fin 2) (X : S256x2048.Idx → α) : S128x2048.Idx → α := fun j => X (rowIx h j)

/-- Which half row `i` of 256 is in. -/
def halfOf (i : S256x2048.Idx) : Fin 2 := ⟨(i 0).val / 128, by have : (i 0).val < 256 := (i 0).isLt; omega⟩
/-- The row in it. -/
def rowIn (i : S256x2048.Idx) : S128x2048.Idx := fun a => match a with
  | ⟨0, _⟩ => ⟨(i 0).val % 128, Nat.mod_lt _ (by decide)⟩
  | ⟨1, _⟩ => ⟨(i 1).val, (i 1).isLt⟩

/-- 256 rows out of two halves. -/
def glue {α : Type} (X : Fin 2 → S128x2048.Idx → α) : S256x2048.Idx → α := fun i => X (halfOf i) (rowIn i)

theorem rowIx_rowIn (i : S256x2048.Idx) : rowIx (halfOf i) (rowIn i) = i := by
  funext a; fin_cases a
  · refine Fin.ext ?_; show 128 * ((i 0).val / 128) + (i 0).val % 128 = (i 0).val; omega
  · rfl
theorem halfOf_rowIx (h : Fin 2) (j : S128x2048.Idx) : halfOf (rowIx h j) = h := by
  refine Fin.ext ?_; show (128 * h.val + (j 0).val) / 128 = h.val
  have : (j 0).val < 128 := (j 0).isLt; omega
theorem rowIn_rowIx (h : Fin 2) (j : S128x2048.Idx) : rowIn (rowIx h j) = j := by
  funext a; fin_cases a
  · refine Fin.ext ?_; show (128 * h.val + (j 0).val) % 128 = (j 0).val
    have : (j 0).val < 128 := (j 0).isLt; omega
  · rfl
theorem rows_glue {α : Type} (X : Fin 2 → S128x2048.Idx → α) (h : Fin 2) : rows h (glue X) = X h := by
  funext j; unfold rows glue; rw [halfOf_rowIx, rowIn_rowIx]

/-- The rows of `partial` device `d` sends across the first axis, chunk `c`. -/
def pxV (d : Dev nD) (c : Fin 8) : S128x2048.Idx → Elt F .f32 := (pxSrc d c).view.read (Elt F) (m ((d : Thread nD τ).loc main_arg0))
/-- The rows of `partial` device `d` sums, chunk `c`. -/
def pmV (d : Dev nD) (c : Fin 8) : S128x2048.Idx → Elt F .f32 := (pmSrc d c).view.read (Elt F) (m ((d : Thread nD τ).loc main_arg0))
/-- The rows of `resid` device `d` adds, chunk `c`. -/
def riV (d : Dev nD) (c : Fin 8) : S128x2048.Idx → Elt F .f32 := (riSrc d c).view.read (Elt F) (m ((d : Thread nD τ).loc main_arg1))
/-- `gamma` as device `d` reads it. -/
def gV (d : Dev nD) : S2048.Idx → Elt F .f32 := (win0_0.blk (0 : Fin 1)).view.read (Elt F) (m ((d : Thread nD τ).loc main_arg2))

/-- What device `d` sends across the first axis first: its rows rounded. -/
def SX (d : Dev nD) (c : Fin 8) : S128x2048.Idx → Elt F .bf16 := (truncf .bf16 (pxV m d c) bitsLt_bf16_f32 : FVec F S128x2048 .bf16)
/-- The normalised rows of device `d`, chunk `c`. -/
def NV (d : Dev nD) (c : Fin 8) : S128x2048.Idx → Elt F .f32 := (norm (up (pmV m d c)) (up (SX m (xp d) c)) (up (riV m d c)) (gV m d) : FVec F S128x2048 .f32)
/-- The same rounded. -/
def NB (d : Dev nD) (c : Fin 8) : S128x2048.Idx → Elt F .bf16 := (truncf .bf16 (NV m d c) bitsLt_bf16_f32 : FVec F S128x2048 .bf16)
/-- Both devices' rounded rows, chunk `c`: half `h` is the one whose first coordinate is `h`. -/
def RB (d : Dev nD) (c : Fin 8) : S256x2048.Idx → Elt F .bf16 := glue fun h => if h = hx d then NB m d c else NB m (xp d) c

theorem hx_xp (d : Dev nD) : hx (xp d) = hpx d := by revert d; decide +kernel
theorem hpx_xp (d : Dev nD) : hpx (xp d) = hx d := by revert d; decide +kernel
theorem hpx_ne (d : Dev nD) : hpx d ≠ hx d := by revert d; decide +kernel

theorem rows_RB_own (d : Dev nD) (c : Fin 8) : rows (hx d) (RB m d c) = NB m d c := by unfold RB; rw [rows_glue, if_pos rfl]
theorem rows_RB_peer (d : Dev nD) (c : Fin 8) : rows (hpx d) (RB m d c) = NB m (xp d) c := by unfold RB; rw [rows_glue, if_neg (hpx_ne d)]

/-! ## Cells -/

/-- The semaphore of the entry handshake. -/
abbrev barS : Sem sig := (SemArray.scalar (d := S_.size) (sig.barrier 0 rfl)).sem
theorem inb3 (k : Fin 3) : ∀ a, (![k.val] : Fin 1 → Nat) a + S1.size a ≤ S3.size a := by revert k; decide
/-- The three semaphores of the second handshake. -/
abbrev rvS (k : Fin 3) : Sem sig := ((cc0_scratch31.slice (Rect.unit (s := S3) ![k.val] S1.size (inb3 k))).squeeze S_ squeezes_S1_S_).sem

/-- The semaphores of the six kinds of transfers between devices, the sender's, -/
def sndA : Fin 6 → DmaSems sig S8 := ![cc0_scratch13, cc0_scratch15, cc0_scratch17, cc0_scratch19, cc0_scratch21, cc0_scratch23]
/-- and the receiver's; -/
def rcvA : Fin 6 → DmaSems sig S8 := ![cc0_scratch14, cc0_scratch16, cc0_scratch18, cc0_scratch20, cc0_scratch22, cc0_scratch24]
/-- the semaphores of the six kinds of local copies. -/
def locA : Fin 6 → DmaSems sig S2 := ![cc0_scratch25, cc0_scratch26, cc0_scratch27, cc0_scratch28, cc0_scratch29, cc0_scratch30]

/-- The scheduled cells of a device: the entry handshake's, the second handshake's three, the senders', the receivers'. -/
abbrev Cl : Type := (Unit ⊕ Fin 3) ⊕ ((Fin 6 × Fin 8) ⊕ (Fin 6 × Fin 8))
abbrev cBar : Cl := .inl (.inl ())
abbrev cRv (k : Fin 3) : Cl := .inl (.inr k)
abbrev cSnd (f : Fin 6) (c : Fin 8) : Cl := .inr (.inl (f, c))
abbrev cRcv (f : Fin 6) (c : Fin 8) : Cl := .inr (.inr (f, c))

/-- A cell's semaphore. -/
def csem : Cl → SemLoc sig
  | .inl (.inl _) => .reg barS
  | .inl (.inr k) => .reg (rvS k)
  | .inr (.inl (f, c)) => .dma (s8 (sndA f) c)
  | .inr (.inr (f, c)) => .dma (s8 (rcvA f) c)

theorem csem_injective : Function.Injective csem := by
  have h : ∀ a b : Cl, csem a = csem b → a = b := by decide +kernel
  exact fun a b => h a b

/-- The local copies' semaphores are none of these. -/
theorem csem_ne_loc : ∀ (k : Cl) (f : Fin 6) (s : Fin 2), csem k ≠ .dma (s2 (locA f) s) := by decide +kernel

abbrev cell (d : Dev nD) (k : Cl) : GSem nD τ sig := ((d : Thread nD τ), csem k)

/-- The cell a semaphore is, if it is one. -/
def decode (s : SemLoc sig) : Option Cl := open Classical in if h : ∃ k, csem k = s then some (Classical.choose h) else none

theorem decode_csem (k : Cl) : decode (csem k) = some k := by
  unfold decode
  rw [dif_pos ⟨k, rfl⟩]
  exact congrArg some (csem_injective (Classical.choose_spec (⟨k, rfl⟩ : ∃ k', csem k' = csem k)))

theorem decode_none {s : SemLoc sig} (h : ∀ k, csem k ≠ s) : decode s = none := by
  unfold decode; rw [dif_neg (fun ⟨k, hk⟩ => h k hk)]

/-- The neighbour along an axis. -/
def ax : Fin 3 → Dev nD → Dev nD := ![xp, yp, zp]
theorem ax_ax (k : Fin 3) (d : Dev nD) : ax k (ax k d) = d := by revert k d; decide +kernel
/-- The axis a kind of transfer goes along. -/
def axOf : Fin 6 → Fin 3 := ![0, 0, 1, 2, 2, 1]

/-- The credit of a transfer of 128 rows, -/
def N128 : ℕ := (mC rxM 0).view.dmaCredit
/-- and of 256. -/
def N256 : ℕ := (mW ryM 0).view.dmaCredit
theorem N128_pos : 0 < N128 := View.dmaCredit_pos _ (by decide)
theorem N256_pos : 0 < N256 := View.dmaCredit_pos _ (by decide)
def amt : Fin 6 → ℕ := ![N128, N128, N256, N256, N128, N128]
theorem amt_pos (f : Fin 6) : 0 < amt f := by fin_cases f <;> first | exact N128_pos | exact N256_pos

/-! ## Payloads -/

/-- A memref's elements at some contents. -/
def Ex (d : Dev nD) {sp : Space} {s : Shape} {e : EltTy} (M : Memref sig .tc sp s e) : sProp 𝕄 := iprop(∃ X, owns (d : Thread nD τ) M fullShare X)

instance Ex_storable (d : Dev nD) {sp : Space} {s : Shape} {e : EltTy} (M : Memref sig .tc sp s e) : BI.Storable (upEmb : UEmb _ 𝕄) (Ex (F := F) d M) := by
  unfold Ex; infer_instance

/-- What the neighbour along axis `k` hands device `d` with its signal: the buffers `d`'s transfers to it land in. -/
def barPay (d : Dev nD) (k : Fin 3) : sProp 𝕄 := match k with
  | 0 => bigSep Finset.univ fun c : Fin 8 => iprop(Ex (xp d) (mC rxM c) ∗ Ex (xp d) (mH rbM c (hx d)))
  | 1 => bigSep Finset.univ fun c : Fin 8 => iprop(Ex (yp d) (mW ryM c) ∗ Ex (yp d) (mC yfM c))
  | 2 => bigSep Finset.univ fun c : Fin 8 => iprop(Ex (zp d) (mW rzM c) ∗ Ex (zp d) (mC zfM c))

/-- What a sender's wait hands back: the transfer's source. -/
def sndPay (d : Dev nD) (f : Fin 6) (c : Fin 8) : sProp 𝕄 := match f with
  | 0 => owns (d : Thread nD τ) (mC sxM c) fullShare (SX m d c)
  | 1 => owns (d : Thread nD τ) (mH rbM c (hx d)) fullShare.left (NB m d c)
  | 2 => owns (d : Thread nD τ) (mW rbM c) fullShare.right.left (RB m d c)
  | 3 => owns (d : Thread nD τ) (mW rbM c) fullShare.right.right (RB m d c)
  | 4 => owns (d : Thread nD τ) (mH ryM c 0) fullShare.left (rows 0 (RB m (yp d) c))
  | 5 => owns (d : Thread nD τ) (mH rzM c 1) fullShare.left (rows 1 (RB m (zp d) c))

/-- What a receiver's wait hands over: the landed rows. -/
def rcvPay (d : Dev nD) (f : Fin 6) (c : Fin 8) : sProp 𝕄 := match f with
  | 0 => owns (d : Thread nD τ) (mC rxM c) fullShare (SX m (xp d) c)
  | 1 => owns (d : Thread nD τ) (mH rbM c (hpx d)) fullShare (NB m (xp d) c)
  | 2 => owns (d : Thread nD τ) (mW ryM c) fullShare (RB m (yp d) c)
  | 3 => owns (d : Thread nD τ) (mW rzM c) fullShare (RB m (zp d) c)
  | 4 => owns (d : Thread nD τ) (mC zfM c) fullShare (rows 0 (RB m (yp (zp d)) c))
  | 5 => owns (d : Thread nD τ) (mC yfM c) fullShare (rows 1 (RB m (zp (yp d)) c))

def pay (d : Dev nD) (k : Cl) (j : Fin 3) : sProp 𝕄 := match k with
  | .inl (.inl _) => barPay d j
  | .inl (.inr _) => iprop(emp)
  | .inr (.inl (f, c)) => sndPay m d f c
  | .inr (.inr (f, c)) => rcvPay m d f c

instance barPay_storable (d : Dev nD) (k : Fin 3) : BI.Storable (upEmb : UEmb _ 𝕄) (barPay (F := F) d k) := by
  unfold barPay; fin_cases k <;> dsimp only <;> infer_instance
instance sndPay_storable (d : Dev nD) (f : Fin 6) (c : Fin 8) : BI.Storable (upEmb : UEmb _ 𝕄) (sndPay m d f c) := by
  unfold sndPay; fin_cases f <;> dsimp only <;> infer_instance
instance rcvPay_storable (d : Dev nD) (f : Fin 6) (c : Fin 8) : BI.Storable (upEmb : UEmb _ 𝕄) (rcvPay m d f c) := by
  unfold rcvPay; fin_cases f <;> dsimp only <;> infer_instance
instance pay_storable (d : Dev nD) (k : Cl) (j : Fin 3) : BI.Storable (upEmb : UEmb _ 𝕄) (pay m d k j) := by
  rcases k with (_ | _) | (⟨f, c⟩ | ⟨f, c⟩) <;> dsimp only [pay] <;> infer_instance

/-- A cell's amount per duty. -/
def amtC : Cl → ℕ
  | .inl _ => 1
  | .inr (.inl (f, _)) => amt f
  | .inr (.inr (f, _)) => amt f
theorem amtC_pos (k : Cl) : 0 < amtC k := by
  rcases k with _ | (⟨f, c⟩ | ⟨f, c⟩)
  · exact Nat.one_pos
  · exact amt_pos f
  · exact amt_pos f

/-- A cell's duties. -/
def dutyC : Cl → Finset (Fin 3)
  | .inl (.inl _) => Finset.univ
  | _ => {0}

/-- The schedule: one round; the entry handshake's cell has three duties of one unit, every other one. -/
def Rd : Rounds.Schedule (GSem nD τ sig) (Fin 3) 𝕄 where
  duties g r := if r = 0 ∧ g.1.2 = .tc then (match decode g.2 with | some k => dutyC k | none => ∅) else ∅
  unitless _ := False
  amount g _ _ := match decode g.2 with | some k => amtC k | none => 1
  payload g _ j := match decode g.2 with | some k => pay m g.1.1 k j | none => iprop(emp)
  amount_pos g _ _ _ := by
    cases h : decode g.2 with
    | none => exact Nat.one_pos
    | some k => exact amtC_pos k

instance Rd_payload_storable (g : GSem nD τ sig) (r : ℕ) (j : Fin 3) : BI.Storable (upEmb : UEmb _ 𝕄) ((Rd m).payload g r j) := by
  show BI.Storable upEmb (match decode g.2 with | some k => pay m g.1.1 k j | none => iprop(emp))
  split <;> infer_instance

theorem duties_cell (d : Dev nD) (k : Cl) : (Rd m).duties (cell d k) 0 = dutyC k := by
  dsimp only [Rd]; rw [if_pos ⟨rfl, rfl⟩, decode_csem]
theorem duties_later (g : GSem nD τ sig) : ∀ r, 1 ≤ r → (Rd m).duties g r = ∅ :=
  fun r hr => by dsimp only [Rd]; rw [if_neg fun h => by omega]
theorem amount_cell (d : Dev nD) (k : Cl) (j : Fin 3) : (Rd m).amount (cell d k) 0 j = amtC k := by
  dsimp only [Rd]; rw [decode_csem]
theorem payload_cell (d : Dev nD) (k : Cl) (j : Fin 3) : (Rd m).payload (cell d k) 0 j = pay m d k j := by
  dsimp only [Rd]; rw [decode_csem]
theorem expect_cell (d : Dev nD) (k : Cl) : (Rd m).expect (cell d k) 0 = (dutyC k).card * amtC k := by
  unfold Schedule.expect Schedule.amountOf
  rw [duties_cell, Finset.sum_congr rfl fun j _ => amount_cell m d k j, Finset.sum_const, smul_eq_mul]
theorem rest_cell (d : Dev nD) (k : Cl) :
    bigSep ((Rd m).duties (cell d k) 0 \ ∅) (fun j => (Rd m).payload (cell d k) 0 j) = bigSep (dutyC k) fun j => pay m d k j := by
  rw [Finset.sdiff_empty, duties_cell]; exact bigSep_congr fun j _ => payload_cell m d k j

/-! ## What is owed, and the levels -/

/-- The receiver cell of kind `f`, chunk `c`, that device `d` pays. -/
abbrev tgt (d : Dev nD) (f : Fin 6) (c : Fin 8) : GSem nD τ sig := cell (ax (axOf f) d) (cRcv f c)

/-- What device `d` owes the receivers of kind `f` from chunk `n` on. -/
def rem (d : Dev nD) (f : Fin 6) (n : ℕ) : CellTallies nD τ sig Unit := ∑ c ∈ Finset.univ.filter (fun c : Fin 8 => n ≤ c.val), tallyAt (tgt d f c) () (amt f)
/-- What device `d` owes all of them, from chunk `n f` of kind `f` on. -/
def OW (d : Dev nD) (n : Fin 6 → ℕ) : CellTallies nD τ sig Unit := ∑ f, rem d f (n f)

theorem rem_peel (d : Dev nD) (f : Fin 6) (c : Fin 8) : rem d f c.val = rem d f (c.val + 1) + tallyAt (tgt d f c) () (amt f) := by
  unfold rem
  rw [show Finset.univ.filter (fun c' : Fin 8 => c.val ≤ c'.val) = insert c (Finset.univ.filter fun c' : Fin 8 => c.val + 1 ≤ c'.val) from by
    ext c'; simp only [Finset.mem_filter, Finset.mem_univ, true_and, Finset.mem_insert, Fin.ext_iff]; omega,
    Finset.sum_insert (by simp), add_comm]

/-- Paying chunk `c` of kind `f`. -/
theorem OW_peel (d : Dev nD) (f : Fin 6) (c : Fin 8) {n n' : Fin 6 → ℕ} (h : n f = c.val) (h' : n' f = c.val + 1) (hne : ∀ g, g ≠ f → n' g = n g) :
    OW d n = OW d n' + tallyAt (tgt d f c) () (amt f) := by
  unfold OW
  rw [← Finset.add_sum_erase _ _ (Finset.mem_univ f), ← Finset.add_sum_erase _ (fun g => rem d g (n' g)) (Finset.mem_univ f), h, h', rem_peel,
    Finset.sum_congr rfl fun g hg => by rw [← hne g (Finset.mem_erase.mp hg).1]]
  exact add_right_comm _ _ _

theorem OW_done (d : Dev nD) {n : Fin 6 → ℕ} (h : ∀ f, 8 ≤ n f) : OW d n = 0 := by
  unfold OW rem
  refine Finset.sum_eq_zero fun f _ => ?_
  rw [Finset.filter_false_of_mem (fun c _ => by have := h f; have := c.isLt; omega), Finset.sum_empty]

theorem OW_pos {d : Dev nD} {n : Fin 6 → ℕ} {g : GSem nD τ sig} {u : Unit} (h : 0 < OW d n g u) : ∃ f c, n f ≤ c.val ∧ g = tgt d f c := by
  unfold OW rem at h
  rw [Finset.sum_apply, Finsupp.finsetSum_apply] at h
  obtain ⟨f, -, hf⟩ := Finset.exists_ne_zero_of_sum_ne_zero (Nat.pos_iff_ne_zero.mp h)
  rw [Finset.sum_apply, Finsupp.finsetSum_apply] at hf
  obtain ⟨c, hc, hcn⟩ := Finset.exists_ne_zero_of_sum_ne_zero hf
  exact ⟨f, c, (Finset.mem_filter.mp hc).2, (Pipeline.tallyAt_pos (Nat.pos_iff_ne_zero.mpr hcn)).1⟩

/-- The level of a receiver's cell. -/
def lvR (f : Fin 6) (c : Fin 8) : ℕ := match f with
  | 0 => 3
  | 1 => 10 + c.val
  | 2 => 30
  | 3 => 30
  | 4 => 40
  | 5 => 40
/-- The level of a cell. -/
def lvC : Cl → ℕ
  | .inl (.inl _) => 1
  | .inl (.inr _) => 2
  | .inr (.inl _) => 0
  | .inr (.inr (f, c)) => lvR f c

def L (g : GSem nD τ sig) : Finset Unit := if g.1.2 = .tc then {()} else ∅
def lvS (s : SemLoc sig) : ℕ := match decode s with | some k => lvC k | none => 0
def lv (g : GSem nD τ sig) (_ : Unit) : ℕ := lvS g.2

theorem lvS_csem (k : Cl) : lvS (csem k) = lvC k := by unfold lvS; rw [decode_csem]
theorem lvS_none {s : SemLoc sig} (h : ∀ k, csem k ≠ s) : lvS s = 0 := by unfold lvS; rw [decode_none h]

theorem L_of_ne (g : GSem nD τ sig) (h : g.1.2 ≠ .tc) : L g = ∅ := if_neg h
theorem L_tc (c : Dev nD) (sm : SemLoc sig) : L ((c : Thread nD τ), sm) = {()} := if_pos rfl

/-- A wait at a level below every cell owed. -/
theorem mayWait (d : Dev nD) (s : SemLoc sig) (O : CellTallies nD τ sig Unit)
    (h : ∀ g u, 0 < O g u → ∃ d' k, g = cell d' k ∧ lvS s < lvC k) : (levAts L lv : sProp 𝕄) ⊢ MayWait (d : Thread nD τ) s () O :=
  MayOwe.of_cut (L := L) (lev := lv) (lvS s) (fun p hp => by rw [Finset.mem_singleton.mp hp, L_tc]; exact Finset.mem_singleton_self _)
    (fun g u hg => by obtain ⟨d', k, rfl, -⟩ := h g u hg; rw [L_tc]; exact Finset.mem_singleton_self _)
    (fun p hp => by rw [Finset.mem_singleton.mp hp]; exact le_refl (lvS s))
    (fun g u hg => by obtain ⟨d', k, rfl, hk⟩ := h g u hg; show lvS s < lvS (csem k); rw [lvS_csem]; exact hk)

/-- A wait while only transfers of later levels are owed. -/
theorem mayWait_OW (d : Dev nD) (s : SemLoc sig) (n : Fin 6 → ℕ) (h : ∀ f (c : Fin 8), n f ≤ c.val → lvS s < lvR f c) :
    (levAts L lv : sProp 𝕄) ⊢ MayWait (d : Thread nD τ) s () (OW d n) :=
  mayWait d s _ fun g u hg => by obtain ⟨f, c, hc, rfl⟩ := OW_pos hg; exact ⟨_, _, rfl, h f c hc⟩

theorem lvR_pos (f : Fin 6) (c : Fin 8) : 0 < lvR f c := by
  fin_cases f <;> simp only [lvR] <;> omega

end Cert.KernelIdeal.AR

end
-- ==== Proof.KernelIdeal.Rules.lean ====
/-
  The rules the steps are run with: sequencing, local copies, loads and stores of memrefs, transfers between devices and
  waits for them, and splitting and joining of what is owned.
-/
module

public import proofs.«01_k».proof.Proof.KernelIdeal.Base
public import Idealize.ShloMosaic.Lib.Pipeline.Value

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sequencing -/

/-- Run the head of a program by what is known of it. -/
theorem use {d : Dev nD} {p : P F} {k : PUnit → P F} {A B : sProp 𝕄} {Q : PUnit → sProp 𝕄} (h : A ⊢ WP d p fun _ => B) :
    A ⊢ iprop((B -∗ WP d (k ⟨⟩) Q) -∗ WP d (p >>= k) Q) := by
  refine BIClass.wand_intro ?_
  unfold WP at *
  unfold WPv at *
  rw [wp_bind]
  iintro ⟨HA, Hk⟩
  ihave HW := h $$ HA
  iapply (wp_wand frame _ _) $$ HW
  iintro %a HB
  iapply Hk; iexact HB

/-- The same for a head with a known result. -/
theorem useV {α : Type} {d : Dev nD} {p : Prog (TpuEff nD τ sig (Elt F) Λ₀ .tc) α} {k : α → P F} {A B : sProp 𝕄} {Q : PUnit → sProp 𝕄} {X : α}
    (h : A ⊢ WPv d p fun v => iprop(⌜v = X⌝ ∗ B)) : A ⊢ iprop((B -∗ WP d (k X) Q) -∗ WP d (p >>= k) Q) := by
  refine BIClass.wand_intro ?_
  unfold WP
  unfold WPv at *
  rw [wp_bind]
  iintro ⟨HA, Hk⟩
  ihave HW := h $$ HA
  iapply (wp_wand frame _ _) $$ HW
  iintro %a ⟨%ha, HB⟩
  subst ha
  iapply Hk; iexact HB

/-- Run a whole program by what is known of it. -/
theorem useLast {d : Dev nD} {p : P F} {A B : sProp 𝕄} {Q : PUnit → sProp 𝕄} (h : A ⊢ WP d p fun _ => B) :
    A ⊢ iprop((B -∗ Q ⟨⟩) -∗ WP d p Q) := by
  refine BIClass.wand_intro ?_
  unfold WP at *
  unfold WPv at *
  iintro ⟨HA, Hk⟩
  ihave HW := h $$ HA
  iapply (wp_wand frame _ _) $$ HW
  iintro %a HB
  iapply Hk; iexact HB

/-- The empty program. -/
theorem skip {d : Dev nD} {A : sProp 𝕄} : A ⊢ WP d (pure PUnit.unit : P F) fun _ => A := by
  unfold WP WPv; exact le_wp_ret frame _ _ PUnit.unit fun _ => A

/-- Weakening what a program leaves. -/
theorem WP_mono {α : Type} {d : Dev nD} {p : Prog (TpuEff nD τ sig (Elt F) Λ₀ .tc) α} {Q Q' : α → sProp 𝕄} (h : ∀ a, Q a ⊢ Q' a) : WPv d p Q ⊢ WPv d p Q' := by
  unfold WPv; exact wp_mono frame _ _ h

/-! ## Owning memrefs -/

theorem Ex_of_owns {d : Dev nD} {sp : Space} {s : Shape} {e : EltTy} (M : Memref sig .tc sp s e) (X : s.Idx → Elt F e) :
    (owns (d : Thread nD τ) M fullShare X : sProp 𝕄) ⊢ Ex d M := by
  unfold Ex; iintro H; iexists X; iexact H

/-- A share of a memref in two. -/
theorem owns_split (d : Dev nD) {sp : Space} {s : Shape} {e : EltTy} (M : Memref sig .tc sp s e) (q : PosShare TreeShare) (X : s.Idx → Elt F e) :
    (owns (d : Thread nD τ) M q X : sProp 𝕄) ⊢ iprop(owns (d : Thread nD τ) M q.left X ∗ owns (d : Thread nD τ) M q.right X) := by
  unfold owns
  iintro ⟨%f, %hf, H⟩
  ihave H2 := (pointsTo_share (PosShare.mem_left_op_right q)).1 $$ H
  icases H2 with ⟨H, H'⟩
  isplitl [H] <;> iexists f
  · isplitr; · ipureintro; exact hf
    iexact H
  · isplitr; · ipureintro; exact hf
    iexact H'

/-- Two shares of a memref in one, at the first's contents. -/
theorem owns_join (d : Dev nD) {sp : Space} {s : Shape} {e : EltTy} (M : Memref sig .tc sp s e) (q : PosShare TreeShare) (X Y : s.Idx → Elt F e) :
    iprop(owns (d : Thread nD τ) M q.left X ∗ owns (d : Thread nD τ) M q.right Y) ⊢ (owns (d : Thread nD τ) M q X : sProp 𝕄) := by
  unfold owns
  iintro ⟨⟨%f, %hf, H⟩, ⟨%g, %hg, H'⟩⟩
  icombine H H' as H2
  ihave %hag := BI.Region.is_agree $$ H2
  icases H2 with ⟨H, H'⟩
  ihave H'' := (Entails.of_eq (pointsTo_congr (f := g) (g := f) fun i hi => ((hag i (Finset.mem_inter.mpr ⟨hi, hi⟩)).1).symm)) $$ H'
  iexists f; isplitr; · ipureintro; exact hf
  iapply (pointsTo_share (PosShare.mem_left_op_right q)).2
  isplitl [H] <;> iassumption

/-! ## Loads and stores through a slice of a buffer without its leading dimension -/

section Access
variable {sp : CoreSpace} {s : Shape} {e : EltTy}

/-- What the slice reads, its unit dimension dropped, has it back by a shape cast. -/
theorem read_sq (M : Memref sig .tc sp s e) (r : Rect s) (hu) (s' : Shape) (hsq : r.shape.Squeezes s') (hc : s'.ShapeCasts r.shape)
    (f : M.view.ty.Contents (Elt F)) : shapeCast r.shape (((M.slice r hu).squeeze s' hsq).view.read (Elt F) f) hc = (M.access r).read (Elt F) f :=
  shapeCast_shapeCast ((M.access r).read (Elt F) f) (show r.shape.ShapeCasts s' from hc.symm) hc

theorem set_sq (M : Memref sig .tc sp s e) (r : Rect s) (hu) (s' : Shape) (hsq : r.shape.Squeezes s') :
    ((M.slice r hu).squeeze s' hsq).view.set = (M.access r).set := View.set_reshape _ _

/-- A load through the slice. -/
theorem load_sq (d : Dev nD) (M : Memref sig .tc sp s e) (r : Rect s) (hu) (s' : Shape) (hsq : r.shape.Squeezes s') (hc : s'.ShapeCasts r.shape)
    (hl : M.view.LoadsAt r.toLoadRect) (q : PosShare TreeShare) (X : s'.Idx → Elt F e) :
    (owns (d : Thread nD τ) ((M.slice r hu).squeeze s' hsq) q X : sProp 𝕄)
      ⊢ WPv d (Prog.lift (.load M r.toLoadRect hl)) fun v => iprop(⌜v = shapeCast r.shape X hc⌝ ∗ owns (d : Thread nD τ) ((M.slice r hu).squeeze s' hsq) q X) := by
  unfold owns WPv
  iintro ⟨%f, %hf, H⟩
  iapply (wp_load_rect 𝒱₀ (d : Thread nD τ) none Set.univ (m := M) (r := r) (hl := hl) (k := fun v => .ret v) (S := ((M.slice r hu).squeeze s' hsq).view.set)
    (by rw [set_sq])) $$ H
  iintro H
  iapply le_wp_ret
  isplitr
  · ipureintro; rw [← hf, read_sq]
  iexists f; isplitr; · ipureintro; exact hf
  iexact H

/-- A load whose result is not used. -/
theorem load_ex (d : Dev nD) (M : Memref sig .tc sp s e) (r : Rect s) (hu) (s' : Shape) (hsq : r.shape.Squeezes s') (hc : s'.ShapeCasts r.shape)
    (hl : M.view.LoadsAt r.toLoadRect) :
    (Ex d ((M.slice r hu).squeeze s' hsq) : sProp 𝕄)
      ⊢ WPv d (Prog.lift (.load M r.toLoadRect hl)) fun _ => Ex d ((M.slice r hu).squeeze s' hsq) := by
  unfold Ex
  iintro ⟨%X, H⟩
  ihave HW := (load_sq d M r hu s' hsq hc hl fullShare X) $$ H
  unfold WPv
  iapply (wp_wand frame _ _) $$ HW
  iintro %a ⟨-, H⟩
  iexists X; iexact H

/-- A store through the slice. -/
theorem store_sq (d : Dev nD) (M : Memref sig .tc sp s e) (r : Rect s) (hu) (s' : Shape) (hsq : r.shape.Squeezes s') (hc : s'.ShapeCasts r.shape)
    {w : r.shape.Idx → Elt F e} {hx : (M.access r).Stores Finset.univ} {hm : (Finset.univ : Finset r.shape.Idx) = Finset.univ ∨ ∀ a, r.stride a = 1}
    (X : s'.Idx → Elt F e) (hw : w = shapeCast r.shape X hc) :
    (Ex d ((M.slice r hu).squeeze s' hsq) : sProp 𝕄)
      ⊢ WP d (Prog.lift (.store M r w Finset.univ hx hm)) fun _ => owns (d : Thread nD τ) ((M.slice r hu).squeeze s' hsq) fullShare X := by
  subst hw
  unfold Ex owns WP WPv
  iintro ⟨%X0, %f, %hf, H⟩
  iapply (wp_store 𝒱₀ (d : Thread nD τ) none Set.univ (m := M) (r := r) (Mk := Finset.univ) (hx := hx) (hm := hm) (k := fun v => .ret v)
    (S := ((M.slice r hu).squeeze s' hsq).view.set) (by rw [set_sq]; exact Finset.Subset.refl _)) $$ H
  iintro H
  iapply le_wp_ret
  iexists ((M.access r).write (Elt F) f (shapeCast r.shape X hc) Finset.univ)
  isplitr
  · ipureintro
    have h1 := read_sq (F := F) M r hu s' hsq hc ((M.access r).write (Elt F) f (shapeCast r.shape X hc) Finset.univ)
    rw [View.read_write_univ] at h1
    have h2 := congrArg (fun v => shapeCast s' v (show r.shape.ShapeCasts s' from hc.symm)) h1
    simp only [shapeCast_shapeCast] at h2
    exact h2
  iexact H
end Access

/-! ## Local copies -/

/-- What device `d` owes, whatever waits it has made. -/
def Ow (d : Dev nD) (O : CellTallies nD τ sig Unit) : sProp 𝕄 := iprop(∃ W, owes (d : Thread nD τ) O W)

/-- A local copy in flight on semaphore `sem` which brings `D` when waited for. -/
def Fl (d : Dev nD) (sem : DmaSem sig) (N : ℕ) (D : sProp 𝕄) : sProp 𝕄 :=
  iprop(∃ D', Transfers.Flight (EC (F := F)) (d : Thread nD τ) (.dma sem) () N D' ∗ (D' -∗ D))

abbrev Zero (d : Dev nD) (sem : DmaSem sig) : sProp 𝕄 := semVal ((d : Thread nD τ), SemLoc.dma sem) 0

section Copies
variable {sp sp' : Space} {s : Shape} {e : EltTy}

/-- Start a copy from a buffer held at contents `f` to a memref. -/
theorem copy_in (d : Dev nD) (src : Memref sig .tc sp s e) (dst : Memref sig .tc sp' s e) (sem : DmaSem sig) {hsrc hdst hsem} (q : PosShare TreeShare)
    (f : Buf (Elt F) (src.view.loc (d : Thread nD τ))) (N : ℕ) (hN : dst.view.amount (.dma sem) = N) (hN0 : 0 < N) :
    iprop((src.view.loc (d : Thread nD τ) ↦{q} f) ∗ Ex d dst ∗ Zero d sem)
      ⊢ WP d (Prog.lift (.enqueueDma src (.here dst) (.dma sem) hsrc hdst hsem)) fun _ =>
          Fl d sem N iprop(owns (d : Thread nD τ) dst fullShare (src.view.read (Elt F) f) ∗ (src.view.loc (d : Thread nD τ) ↦{q} f)) := by
  unfold Ex owns WP WPv
  iintro ⟨Hs, ⟨%X0, %g, %hg, Hd⟩, Hv⟩
  ihave Hs := (pointsTo_split_subset (Finset.subset_univ src.view.set)).1 $$ Hs
  icases Hs with ⟨Hs, Hr⟩
  iapply (Transfers.wp_dmaLocal (EC (F := F)) 𝒱₀ (d : Thread nD τ) none (src := src) (via := ReadAs.same) (dst := dst) (sm := .dma sem) (k := fun v => .ret v)
      () N hN hN0 (Finset.Subset.refl _)) $$ [Hs Hd Hv]
  · isplitl [Hs]; · iexact Hs
    isplitl [Hd]; · iexact Hd
    iexact Hv
  iintro HF
  iapply le_wp_ret
  unfold Fl
  iexists _
  isplitl [HF]; · iexact HF
  iintro ⟨Hd, Hs⟩
  isplitl [Hd]
  · iexists (dst.view.write (Elt F) g (src.view.read (Elt F) f) Finset.univ); isplitr
    · ipureintro; exact View.read_write_univ _ _
    iexact Hd
  iapply (pointsTo_split_subset (Finset.subset_univ src.view.set)).2
  isplitl [Hs] <;> iassumption

/-- Start a copy of an owned memref; `E` is what giving it back makes. -/
theorem copy_out (d : Dev nD) (src : Memref sig .tc sp s e) (dst : Memref sig .tc sp' s e) (sem : DmaSem sig) {hsrc hdst hsem} (X : s.Idx → Elt F e)
    (E : sProp 𝕄) (N : ℕ) (hN : dst.view.amount (.dma sem) = N) (hN0 : 0 < N) :
    iprop(owns (d : Thread nD τ) src fullShare X ∗ (owns (d : Thread nD τ) src fullShare X -∗ E) ∗ Ex d dst ∗ Zero d sem)
      ⊢ WP d (Prog.lift (.enqueueDma src (.here dst) (.dma sem) hsrc hdst hsem)) fun _ =>
          Fl d sem N iprop(owns (d : Thread nD τ) dst fullShare X ∗ E) := by
  unfold Ex owns WP WPv
  iintro ⟨⟨%f, %hf, Hs⟩, HE, ⟨%X0, %g, %hg, Hd⟩, Hv⟩
  iapply (Transfers.wp_dmaLocal (EC (F := F)) 𝒱₀ (d : Thread nD τ) none (src := src) (via := ReadAs.same) (dst := dst) (sm := .dma sem) (k := fun v => .ret v)
      () N hN hN0 (Finset.Subset.refl _)) $$ [Hs Hd Hv]
  · isplitl [Hs]; · iexact Hs
    isplitl [Hd]; · iexact Hd
    iexact Hv
  iintro HF
  iapply le_wp_ret
  unfold Fl
  iexists _
  isplitl [HF]; · iexact HF
  iintro ⟨Hd, Hs⟩
  isplitl [Hd]
  · iexists (dst.view.write (Elt F) g (src.view.read (Elt F) f) Finset.univ); isplitr
    · ipureintro; exact (View.read_write_univ _ _).trans hf
    iexact Hd
  iapply HE
  iexists f; isplitr; · ipureintro; exact hf
  iexact Hs

/-- Wait for a copy while only transfers between devices are owed. -/
theorem copy_wait (d : Dev nD) (sem : DmaSem sig) (hsem : ∀ k, csem k ≠ .dma sem) {s' : Shape} {e' : EltTy} (srcw : Memref sig .tc sp' s' e') (dstw : Memref sig .tc sp s e)
    {hsrc hdst} (N : ℕ) (hN : dstw.view.dmaCredit = N) (D : sProp 𝕄) (n : Fin 6 → ℕ) :
    iprop(levAts L lv ∗ Fl d sem N D ∗ Ow d (OW d n))
      ⊢ WP d (Prog.lift (.waitDma2 sem srcw dstw hsrc hdst)) fun _ => iprop(D ∗ Zero d sem ∗ Ow d (OW d n)) := by
  unfold Fl Ow WP WPv
  iintro ⟨#Hlev, ⟨%D', HF, HD⟩, ⟨%W, HO⟩⟩
  iapply (Transfers.wp_waitLocalO (EC (F := F)) 𝒱₀ (d : Thread nD τ) none (sem := sem) (srcw := srcw) (dstw := dstw) (k := fun v => .ret v) () hN) $$ [HF HO]
  · isplitl [HF]; · iexact HF
    isplitl [HO]; · iexact HO
    iapply (mayWait_OW d (.dma sem) n fun f c _ => by rw [lvS_none hsem]; exact lvR_pos f c); iexact Hlev
  iintro ⟨HD', Hz, HO⟩
  iapply le_wp_ret
  isplitl [HD HD']; · iapply HD; iexact HD'
  isplitl [Hz]; · iexact Hz
  iexists _; iexact HO
end Copies

/-! ## Transfers between devices -/

variable (m : (ℓ : Loc nD τ sig) → Buf (Elt F) ℓ) (K : Dev nD × Cl → ℕ)

/-- The records every device holds: each cell's invariant, each cell at round zero, the levels. -/
def Rec : sProp 𝕄 :=
  iprop((bigSep Finset.univ fun p : Dev nD × Cl => cellInv ER (Rd m) (K p) (cell p.1 p.2))
    ∗ (bigSep Finset.univ fun p : Dev nD × Cl => reached ER (cell p.1 p.2) 0) ∗ levAts L lv)

instance Rec_persistent : BI.Persistent (Rec m K) := by unfold Rec; infer_instance

theorem Rec_inv (d : Dev nD) (k : Cl) : Rec m K ⊢ cellInv ER (Rd m) (K (d, k)) (cell d k) := by
  have h : (bigSep Finset.univ fun p : Dev nD × Cl => cellInv ER (Rd m) (K p) (cell p.1 p.2)) ⊢ cellInv ER (Rd m) (K (d, k)) (cell d k) :=
    bigSep_elim (Finset.mem_univ (d, k))
  unfold Rec; iintro ⟨H, -, -⟩
  iapply h; iexact H
theorem Rec_reached (d : Dev nD) (k : Cl) : Rec m K ⊢ reached ER (cell d k) 0 := by
  have h : (bigSep Finset.univ fun p : Dev nD × Cl => (reached ER (cell p.1 p.2) 0 : sProp 𝕄)) ⊢ reached ER (cell d k) 0 :=
    bigSep_elim (Finset.mem_univ (d, k))
  unfold Rec; iintro ⟨-, H, -⟩
  iapply h; iexact H
theorem Rec_lev : Rec m K ⊢ levAts L lv := by unfold Rec; iintro ⟨-, -, H⟩; iexact H

/-- The right to pay duty `j` of a cell. -/
abbrev Tok (d : Dev nD) (k : Cl) (j : Fin 3) : sProp 𝕄 := dutyTok ER (cell d k) 0 j
/-- What a transfer of kind `f`, chunk `c`, from device `d` pays with. -/
def STok (d : Dev nD) (f : Fin 6) (c : Fin 8) : sProp 𝕄 := iprop(Tok d (cSnd f c) 0 ∗ Tok (ax (axOf f) d) (cRcv f c) 0)
/-- Credit on a cell of its whole amount. -/
abbrev Cr (d : Dev nD) (k : Cl) : sProp 𝕄 := cred (tallyAt (cell d k) () ((dutyC k).card * amtC k))
/-- A cell not waited for yet, -/
abbrev At0 (d : Dev nD) (k : Cl) : sProp 𝕄 := atPos ER (cell d k) 0 ∅ 0
/-- and waited for. -/
abbrev At1 (d : Dev nD) (k : Cl) : sProp 𝕄 := atPos ER (cell d k) 1 ∅ 0

theorem need_snd (f : Fin 6) (c : Fin 8) : (dutyC (cSnd f c)).card * amtC (cSnd f c) = amt f := by
  show ({0} : Finset (Fin 3)).card * amt f = amt f; rw [Finset.card_singleton, one_mul]
theorem need_rcv (f : Fin 6) (c : Fin 8) : (dutyC (cRcv f c)).card * amtC (cRcv f c) = amt f := by
  show ({0} : Finset (Fin 3)).card * amt f = amt f; rw [Finset.card_singleton, one_mul]

/-- A transfer of kind `f`, chunk `c`. -/
theorem send (d : Dev nD) (f : Fin 6) (c : Fin 8) {s : Shape} (src dst : Memref sig .tc .vmem s .bf16) {hsc hsrc hdst hsem} (q : PosShare TreeShare) (X : s.Idx → Elt F .bf16)
    (n n' : Fin 6 → ℕ) (hn : OW d n = OW d n' + tallyAt (tgt d f c) () (amt f)) (hN : dst.view.amount (.dma (s8 (rcvA f) c)) = amt f)
    (hs : (owns (d : Thread nD τ) src q X : sProp 𝕄) ⊢ sndPay m d f c)
    (hr : (owns (ax (axOf f) d : Thread nD τ) dst fullShare X : sProp 𝕄) ⊢ rcvPay m (ax (axOf f) d) f c) :
    iprop(Rec m K ∗ owns (d : Thread nD τ) src q X ∗ Ex (ax (axOf f) d) dst ∗ STok d f c ∗ Ow d (OW d n))
      ⊢ WP d (Prog.lift (.enqueueDma src (.remote (Dev.tc (ax (axOf f) d)) dst (.dma (s8 (sndA f) c)) hsc) (.dma (s8 (rcvA f) c)) hsrc hdst hsem)) fun _ =>
          iprop(Cr d (cSnd f c) ∗ Ow d (OW d n')) := by
  unfold Ex Ow STok WP WPv
  conv_lhs => unfold owns
  iintro ⟨#HR, ⟨%fs, %hfs, Hs⟩, ⟨%X0, %fd, %hfd, Hd⟩, ⟨HtS, HtR⟩, ⟨%W, HO⟩⟩
  iapply (Rounds.wp_send_pointsTo 𝒱₀ ER (Rd m) (d : Thread nD τ) none (c' := (ax (axOf f) d : Thread nD τ)) (src := src) (dst := dst) (sS := .dma (s8 (sndA f) c)) (sem := .dma (s8 (rcvA f) c))
    (k := fun v => .ret v) (κ₁ := K (d, cSnd f c)) (κ₂ := K (ax (axOf f) d, cRcv f c)) (r₁ := 0) (r₂ := 0) (d₁ := 0) (d₂ := 0) (fs := fs) (fd := fd) (q := q)
    (by have h := duties_cell m d (cSnd f c); exact h ▸ Finset.mem_singleton_self _)
    (by have h := duties_cell m (ax (axOf f) d) (cRcv f c); exact h ▸ Finset.mem_singleton_self _)
    () () (amt f) hN (amount_cell m d (cSnd f c) 0) (amount_cell m (ax (axOf f) d) (cRcv f c) 0) (OW d n') hn (W := W)
    (by
      have h := payload_cell m d (cSnd f c) 0
      refine BIBase.Entails.trans ?_ (Entails.of_eq h.symm)
      refine BIBase.Entails.trans ?_ hs
      unfold owns; iintro H; iexists fs; isplitr; · ipureintro; exact hfs
      iexact H)
    (by
      have h := payload_cell m (ax (axOf f) d) (cRcv f c) 0
      refine BIBase.Entails.trans ?_ (Entails.of_eq h.symm)
      refine BIBase.Entails.trans ?_ hr
      unfold owns; iintro H; iexists (dst.view.write (Elt F) fd (src.view.read (Elt F) fs) Finset.univ); isplitr
      · ipureintro; exact (View.read_write_univ _ _).trans hfs
      iexact H)) $$ [Hs Hd HtS HtR HO]
  · isplitr; · iapply (Rec_inv m K d (cSnd f c)); iexact HR
    isplitr; · iapply (Rec_inv m K (ax (axOf f) d) (cRcv f c)); iexact HR
    isplitl [Hs]; · iexact Hs
    isplitl [Hd]; · iexact Hd
    isplitl [HO]; · iexact HO
    isplitl [HtS]; · iexact HtS
    isplitr; · iapply (Rec_reached m K d (cSnd f c)); iexact HR
    isplitl [HtR]; · iexact HtR
    iapply (Rec_reached m K (ax (axOf f) d) (cRcv f c)); iexact HR
  iintro ⟨HC, HO⟩
  iapply le_wp_ret
  isplitl [HC]; · unfold Cr; rw [need_snd]; iexact HC
  iexists W; iexact HO

/-- A wait on a cell of one duty, by whichever instruction. -/
theorem wait_cell (d : Dev nD) (k : Cl) (hk : dutyC k = {0}) (w : TpuEff nD τ sig (Elt F) Λ₀ .tc PUnit) (k' : ℕ)
    (hw : ∀ Q : PUnit → sProp 𝕄, wpE (defs₀ (F := F)) 𝒱₀ (d : Thread nD τ) none Set.univ w Q = waitSpec (d : Thread nD τ) Set.univ (csem k) k' Q)
    (hk' : k' = amtC k) (n : Fin 6 → ℕ) (hlv : ∀ f (c : Fin 8), n f ≤ c.val → lvC k < lvR f c) :
    iprop(Rec m K ∗ Cr d k ∗ At0 d k ∗ Ow d (OW d n))
      ⊢ WP d (Prog.lift w) fun _ => iprop(pay m d k 0 ∗ At1 d k ∗ Ow d (OW d n)) := by
  have hx : (0 : ℕ) + k' = (Rd m).expect (cell d k) 0 := by rw [expect_cell, hk, Finset.card_singleton, one_mul, Nat.zero_add, hk']
  have hc : (dutyC k).card * amtC k = k' := by rw [hk, Finset.card_singleton, one_mul, hk']
  unfold Ow Cr WP WPv
  rw [hc]
  iintro ⟨#HR, HC, Ha, ⟨%W, HO⟩⟩
  iapply (Rounds.wp_wait_rest_token 𝒱₀ ER (Rd m) (d : Thread nD τ) none (κ := K (d, k)) hw (Set.mem_univ _) (k := fun v => .ret v) () (O := OW d n) (W := W)
    (R := 0) (m := 0) (T := ∅) hx) $$ [HC Ha HO]
  · isplitr; · iapply (Rec_inv m K d k); iexact HR
    isplitl [HC]; · iexact HC
    isplitl [HO]; · iexact HO
    isplitr
    · iapply (mayWait_OW d (csem k) n fun f c h => by rw [lvS_csem]; exact hlv f c h); iapply (Rec_lev m K); iexact HR
    iexact Ha
  iintro ⟨HO, Ha, -, Hp⟩
  ihave Hp := (Entails.of_eq ((rest_cell m d k).trans (by rw [hk, bigSep_singleton]))) $$ Hp
  iapply le_wp_ret
  isplitl [Hp]; · iexact Hp
  isplitl [Ha]; · iexact Ha
  iexists _; iexact HO

end Cert.KernelIdeal.AR

end
-- ==== Proof.KernelIdeal.Split.lean ====
/-
  Cutting the buffers into the pieces the steps move, and putting the pieces together again.
-/
module

public import proofs.«01_k».proof.Proof.KernelIdeal.Rules

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Pieces held apart, each with a fact about its elements, held together at contents of which every fact holds. -/
theorem gather {T : Type} [Fintype T] [DecidableEq T] (ℓ : Loc nD τ sig) (q : PosShare TreeShare) (S : Finset (Idx ℓ)) (K : T → Finset (Idx ℓ)) (P : T → Buf (Elt F) ℓ → Prop)
    (f₀ : Buf (Elt F) ℓ) (hP : ∀ t f g, (∀ i ∈ K t, g i = f i) → P t f → P t g) (hdisj : ∀ t t', t ≠ t' → Disjoint (K t) (K t')) (hcov : Finset.univ.biUnion K = S) :
    (bigSep Finset.univ fun t => iprop(∃ f, ⌜P t f⌝ ∗ ℓ ↦[K t]{q} f)) ⊢ (iprop(∃ g, ⌜∀ t, P t g⌝ ∗ ℓ ↦[S]{q} g) : sProp 𝕄) := by
  have h1 : (bigSep Finset.univ fun t => (iprop(∃ f, ⌜P t f⌝ ∗ ℓ ↦[K t]{q} f) : sProp 𝕄)) ⊢ iprop(∃ fs : T → Buf (Elt F) ℓ, bigSep Finset.univ fun t => iprop(⌜P t (fs t)⌝ ∗ ℓ ↦[K t]{q} fs t)) :=
    BI.bigSep_exists_pi Finset.univ _
  refine BIBase.Entails.trans h1 ?_
  iintro ⟨%fs, H⟩
  ihave H := (bigSep_pure_sep Finset.univ (fun t => P t (fs t)) fun t => (iprop(ℓ ↦[K t]{q} fs t) : sProp 𝕄)) $$ H
  icases H with ⟨%hfs, H2⟩
  ihave H := (pointsTo_biUnion_join Finset.univ K fs f₀ fun t _ t' _ h => hdisj t t' h) $$ H2
  icases H with ⟨%g, %hg, H⟩
  iexists g; isplitr
  · ipureintro; exact fun t => hP t (fs t) g (hg t (Finset.mem_univ t)) (hfs t (Finset.mem_univ t))
  rw [hcov]; iexact H

/-- Elements held together held apart. -/
theorem scatter {T : Type} [Fintype T] [DecidableEq T] (ℓ : Loc nD τ sig) (q : PosShare TreeShare) (S : Finset (Idx ℓ)) (K : T → Finset (Idx ℓ))
    (f : Buf (Elt F) ℓ) (hdisj : ∀ t t', t ≠ t' → Disjoint (K t) (K t')) (hcov : Finset.univ.biUnion K = S) :
    (ℓ ↦[S]{q} f : sProp 𝕄) ⊢ bigSep Finset.univ fun t => iprop(ℓ ↦[K t]{q} f) := by
  rw [← hcov, pointsTo_biUnion Finset.univ K fun t _ t' _ h => hdisj t t' h]

/-! ## Slices of one memref -/

section Slices
variable {sp : Space} {s : Shape} {e : EltTy} {T : Type} [Fintype T] [DecidableEq T]

/-- The elements of a slice without its unit dimension. -/
theorem set_piece (M : Memref sig .tc sp s e) (r : Rect s) (hu) (s' : Shape) (hsq : r.shape.Squeezes s') :
    ((M.slice r hu).squeeze s' hsq).view.set = r.set.map M.view.emb :=
  (View.set_reshape _ _).trans (View.set_slice _ _)

/-- What a slice reads depends on its elements only. -/
theorem read_piece_congr (M : Memref sig .tc sp s e) (r : Rect s) (hu) (s' : Shape) (hsq : r.shape.Squeezes s') (f g : M.view.ty.Contents (Elt F))
    (h : ∀ i ∈ ((M.slice r hu).squeeze s' hsq).view.set, g i = f i) :
    ((M.slice r hu).squeeze s' hsq).view.read (Elt F) g = ((M.slice r hu).squeeze s' hsq).view.read (Elt F) f :=
  View.read_congr h

theorem disj_map (M : Memref sig .tc sp s e) {A B : Finset s.Idx} (h : Disjoint A B) : Disjoint (A.map M.view.emb) (B.map M.view.emb) :=
  (Finset.disjoint_map _).mpr h

theorem map_cov (M : Memref sig .tc sp s e) (r : T → Rect s) :
    (Finset.univ.biUnion fun t => (r t).set.map M.view.emb) = (Finset.univ.biUnion fun t => (r t).set).map M.view.emb := by
  ext i; simp only [Finset.mem_biUnion, Finset.mem_map, Finset.mem_univ, true_and]
  exact ⟨fun ⟨t, a, h, e⟩ => ⟨a, ⟨t, h⟩, e⟩, fun ⟨a, ⟨t, h⟩, e⟩ => ⟨t, a, h, e⟩⟩

/-- The elements of a family of rectangles held together, each slice owned. -/
theorem cut (d : Dev nD) (M : Memref sig .tc sp s e) (r : T → Rect s) (hu : ∀ t a, (r t).stride a = 1) (s' : Shape) (hsq : ∀ t, (r t).shape.Squeezes s') (R : Finset s.Idx)
    (hdisj : ∀ t t', t ≠ t' → Disjoint (r t).set (r t').set) (hcov : Finset.univ.biUnion (fun t => (r t).set) = R) (q : PosShare TreeShare)
    (f : Buf (Elt F) (M.view.loc (d : Thread nD τ))) :
    (M.view.loc (d : Thread nD τ) ↦[R.map M.view.emb]{q} f : sProp 𝕄)
      ⊢ bigSep Finset.univ fun t => owns (d : Thread nD τ) ((M.slice (r t) (hu t)).squeeze s' (hsq t)) q (((M.slice (r t) (hu t)).squeeze s' (hsq t)).view.read (Elt F) f) := by
  refine BIBase.Entails.trans (scatter _ q _ (fun t => (r t).set.map M.view.emb) f (fun t t' h => disj_map M (hdisj t t' h)) ?_) (bigSep_mono fun t _ => ?_)
  · rw [← hcov]; exact map_cov M r
  · rw [← set_piece M (r t) (hu t) s' (hsq t)]
    exact owns_intro (d : Thread nD τ) ((M.slice (r t) (hu t)).squeeze s' (hsq t)) q f

/-- The slices owned, the elements held together. -/
theorem paste (d : Dev nD) (M : Memref sig .tc sp s e) (r : T → Rect s) (hu : ∀ t a, (r t).stride a = 1) (s' : Shape) (hsq : ∀ t, (r t).shape.Squeezes s') (R : Finset s.Idx)
    (hdisj : ∀ t t', t ≠ t' → Disjoint (r t).set (r t').set) (hcov : Finset.univ.biUnion (fun t => (r t).set) = R) (q : PosShare TreeShare)
    (f₀ : Buf (Elt F) (M.view.loc (d : Thread nD τ))) (X : T → s'.Idx → Elt F e) :
    (bigSep Finset.univ fun t => owns (d : Thread nD τ) ((M.slice (r t) (hu t)).squeeze s' (hsq t)) q (X t))
      ⊢ (iprop(∃ f, ⌜∀ t, ((M.slice (r t) (hu t)).squeeze s' (hsq t)).view.read (Elt F) f = X t⌝ ∗ (M.view.loc (d : Thread nD τ) ↦[R.map M.view.emb]{q} f)) : sProp 𝕄) := by
  refine BIBase.Entails.trans (bigSep_mono fun t _ => ?_) (gather (F := F) (M.view.loc (d : Thread nD τ)) q (R.map M.view.emb) (fun t => (r t).set.map M.view.emb)
    (fun t f => ((M.slice (r t) (hu t)).squeeze s' (hsq t)).view.read (Elt F) f = X t) f₀ ?_ (fun t t' h => disj_map M (hdisj t t' h)) ?_)
  · rw [← set_piece M (r t) (hu t) s' (hsq t)]; exact BI.Entails.refl _
  · intro t f g h hf
    rw [← hf]; exact read_piece_congr M _ _ _ _ _ _ (by rw [set_piece]; exact h)
  · rw [← hcov]; exact map_cov M r
end Slices

/-! ## The rectangles -/

theorem mem_rC (c : Fin 8) (i : S8x128x2048.Idx) : i ∈ (rC c).set ↔ (i 0).val = c.val := by
  rw [Rect.mem_set_unit]
  constructor
  · intro h; have := h 0; simp at this; omega
  · intro h a; fin_cases a
    · simp; omega
    · have := (i 1).isLt; simpa using this
    · have := (i 2).isLt; simpa using this

theorem mem_rW (c : Fin 8) (i : S8x256x2048.Idx) : i ∈ (rW c).set ↔ (i 0).val = c.val := by
  rw [Rect.mem_set_unit]
  constructor
  · intro h; have := h 0; simp at this; omega
  · intro h a; fin_cases a
    · simp; omega
    · have := (i 1).isLt; simpa using this
    · have := (i 2).isLt; simpa using this

theorem mem_rH (c : Fin 8) (h : Fin 2) (i : S8x256x2048.Idx) : i ∈ (rH c h).set ↔ (i 0).val = c.val ∧ (i 1).val / 128 = h.val := by
  rw [Rect.mem_set_unit]
  constructor
  · intro H; have h0 := H 0; have h1 := H 1; simp at h0 h1; omega
  · intro H a; have h2 := (i 2).isLt; fin_cases a
    · simp; omega
    · simp; omega
    · simpa using h2

theorem mem_rS (c : Fin 2) (i : S2x128x2048.Idx) : i ∈ (rS c).set ↔ (i 0).val = c.val := by
  rw [Rect.mem_set_unit]
  constructor
  · intro h; have := h 0; simp at this; omega
  · intro h a; fin_cases a
    · simp; omega
    · have := (i 1).isLt; simpa using this
    · have := (i 2).isLt; simpa using this

theorem mem_rSW (c : Fin 2) (i : S2x256x2048.Idx) : i ∈ (rSW c).set ↔ (i 0).val = c.val := by
  rw [Rect.mem_set_unit]
  constructor
  · intro h; have := h 0; simp at this; omega
  · intro h a; fin_cases a
    · simp; omega
    · have := (i 1).isLt; simpa using this
    · have := (i 2).isLt; simpa using this

theorem rSL_sub (c : Fin 2) : (rSL c).set ⊆ (rSW c).set := by
  intro i hi
  rw [Rect.mem_set_unit] at hi
  rw [mem_rSW]
  have h0 := hi 0; simp at h0; omega

/-! ## Buffers of eight chunks, of two slots -/

theorem covC : Finset.univ.biUnion (fun c : Fin 8 => (rC c).set) = Finset.univ := by
  ext i; simp only [Finset.mem_biUnion, Finset.mem_univ, true_and, iff_true]; exact ⟨i 0, (mem_rC _ i).mpr rfl⟩
theorem disjC (c c' : Fin 8) (h : c ≠ c') : Disjoint (rC c).set (rC c').set :=
  Finset.disjoint_left.mpr fun i hi hi' => h (Fin.ext (((mem_rC c i).mp hi).symm.trans ((mem_rC c' i).mp hi')))
theorem covW : Finset.univ.biUnion (fun c : Fin 8 => (rW c).set) = Finset.univ := by
  ext i; simp only [Finset.mem_biUnion, Finset.mem_univ, true_and, iff_true]; exact ⟨i 0, (mem_rW _ i).mpr rfl⟩
theorem disjW (c c' : Fin 8) (h : c ≠ c') : Disjoint (rW c).set (rW c').set :=
  Finset.disjoint_left.mpr fun i hi hi' => h (Fin.ext (((mem_rW c i).mp hi).symm.trans ((mem_rW c' i).mp hi')))
theorem covS : Finset.univ.biUnion (fun c : Fin 2 => (rS c).set) = Finset.univ := by
  ext i; simp only [Finset.mem_biUnion, Finset.mem_univ, true_and, iff_true]; exact ⟨i 0, (mem_rS _ i).mpr rfl⟩
theorem disjS (c c' : Fin 2) (h : c ≠ c') : Disjoint (rS c).set (rS c').set :=
  Finset.disjoint_left.mpr fun i hi hi' => h (Fin.ext (((mem_rS c i).mp hi).symm.trans ((mem_rS c' i).mp hi')))
theorem covSW : Finset.univ.biUnion (fun c : Fin 2 => (rSW c).set) = Finset.univ := by
  ext i; simp only [Finset.mem_biUnion, Finset.mem_univ, true_and, iff_true]; exact ⟨i 0, (mem_rSW _ i).mpr rfl⟩
theorem disjSW (c c' : Fin 2) (h : c ≠ c') : Disjoint (rSW c).set (rSW c').set :=
  Finset.disjoint_left.mpr fun i hi hi' => h (Fin.ext (((mem_rSW c i).mp hi).symm.trans ((mem_rSW c' i).mp hi')))
theorem covH (c : Fin 8) : Finset.univ.biUnion (fun h : Fin 2 => (rH c h).set) = (rW c).set := by
  ext i; simp only [Finset.mem_biUnion, Finset.mem_univ, true_and, mem_rH, mem_rW]
  exact ⟨fun ⟨h, a, b⟩ => a, fun a => ⟨⟨(i 1).val / 128, by have : (i 1).val < 256 := (i 1).isLt; omega⟩, a, rfl⟩⟩
theorem disjH (c : Fin 8) (h h' : Fin 2) (e : h ≠ h') : Disjoint (rH c h).set (rH c h').set :=
  Finset.disjoint_left.mpr fun i hi hi' => e (Fin.ext (((mem_rH c h i).mp hi).2.symm.trans ((mem_rH c h' i).mp hi').2))

section Whole
variable {sp : Space} {s : Shape} {e : EltTy} {T : Type} [Fintype T] [DecidableEq T]

/-- A whole buffer at some contents, cut into slices at some contents, -/
theorem cutEx (d : Dev nD) (M : Memref sig .tc sp s e) (hM : M.view.set = Finset.univ) (r : T → Rect s) (hu : ∀ t a, (r t).stride a = 1) (s' : Shape) (hsq : ∀ t, (r t).shape.Squeezes s')
    (hdisj : ∀ t t', t ≠ t' → Disjoint (r t).set (r t').set) (hcov : Finset.univ.biUnion (fun t => (r t).set) = Finset.univ) :
    (iprop(∃ f : Buf (Elt F) (M.view.loc (d : Thread nD τ)), M.view.loc (d : Thread nD τ) ↦{fullShare} f) : sProp 𝕄)
      ⊢ bigSep Finset.univ fun t => Ex d ((M.slice (r t) (hu t)).squeeze s' (hsq t)) := by
  iintro ⟨%f, H⟩
  have h := (cut (F := F) d M r hu s' hsq Finset.univ hdisj hcov fullShare f).trans (bigSep_mono fun t _ => Ex_of_owns _ _)
  rw [show Finset.univ.map M.view.emb = Finset.univ from hM] at h
  iapply h; iexact H

/-- and put together. -/
theorem pasteEx (d : Dev nD) (M : Memref sig .tc sp s e) (hM : M.view.set = Finset.univ) (r : T → Rect s) (hu : ∀ t a, (r t).stride a = 1) (s' : Shape) (hsq : ∀ t, (r t).shape.Squeezes s')
    (hdisj : ∀ t t', t ≠ t' → Disjoint (r t).set (r t').set) (hcov : Finset.univ.biUnion (fun t => (r t).set) = Finset.univ)
    (f₀ : Buf (Elt F) (M.view.loc (d : Thread nD τ))) :
    (bigSep Finset.univ fun t => Ex d ((M.slice (r t) (hu t)).squeeze s' (hsq t)))
      ⊢ (iprop(∃ f : Buf (Elt F) (M.view.loc (d : Thread nD τ)), M.view.loc (d : Thread nD τ) ↦{fullShare} f) : sProp 𝕄) := by
  have h1 : (bigSep Finset.univ fun t => (Ex d ((M.slice (r t) (hu t)).squeeze s' (hsq t)) : sProp 𝕄))
      ⊢ iprop(∃ X : T → s'.Idx → Elt F e, bigSep Finset.univ fun t => owns (d : Thread nD τ) ((M.slice (r t) (hu t)).squeeze s' (hsq t)) fullShare (X t)) := by
    unfold Ex; exact BI.bigSep_exists_pi Finset.univ _
  refine BIBase.Entails.trans h1 ?_
  iintro ⟨%X, H⟩
  have h := paste (F := F) d M r hu s' hsq Finset.univ hdisj hcov fullShare f₀ X
  rw [show Finset.univ.map M.view.emb = Finset.univ from hM] at h
  ihave H := h $$ H
  icases H with ⟨%f, -, H⟩
  iexists f; iexact H
end Whole

/-! ## Halves of a chunk -/

theorem reshape_ix {n : Nat} (d : Fin n → Nat) (h : (⟨n, d⟩ : Shape).numel = (⟨n + 1, Matrix.vecCons 1 d⟩ : Shape).numel) (j : (⟨n, d⟩ : Shape).Idx) :
    Shape.reshapeEquiv h j = Fin.cons ⟨0, Nat.one_pos⟩ j :=
  shapeCast_dropUnit_apply d (fun i => i) h j

theorem read_rows (M : Memref sig .tc .vmem S8x256x2048 .bf16) (c : Fin 8) (h : Fin 2) (f : M.view.ty.Contents (Elt F)) :
    rows h ((mW M c).view.read (Elt F) f) = (mH M c h).view.read (Elt F) f := by
  funext j
  have hi : (rW c).emb (Shape.reshapeEquiv squeezes_S1x256x2048_S256x2048.numel_eq (rowIx h j)) = (rH c h).emb (Shape.reshapeEquiv squeezes_S1x128x2048_S128x2048.numel_eq j) := by
    have e1 := reshape_ix ![256, 2048] squeezes_S1x256x2048_S256x2048.numel_eq (rowIx h j)
    have e2 := reshape_ix ![128, 2048] squeezes_S1x128x2048_S128x2048.numel_eq j
    refine (congrArg (rW c).emb e1).trans (Eq.trans ?_ (congrArg (rH c h).emb e2).symm)
    funext a; refine Fin.ext ?_
    rw [Rect.emb_apply, Rect.emb_apply]
    fin_cases a
    · rfl
    · show 0 + 1 * (128 * h.val + (j 0).val) = 128 * h.val + 1 * (j 0).val; omega
    · rfl
  show (mW M c).view.read (Elt F) f (rowIx h j) = _
  have hi' : (mW M c).view.emb (rowIx h j) = (mH M c h).view.emb j := congrArg M.view.emb hi
  rw [View.read_apply, View.read_apply]
  exact congrArg (fun i => cast (congrArg (Elt F) M.view.elt_eq) (f i)) hi'

theorem glue_rows {α : Type} (X : S256x2048.Idx → α) : (glue fun h => rows h X) = X := by
  funext i; exact congrArg X (rowIx_rowIn i)

/-- A chunk cut into its halves, -/
theorem splitH (d : Dev nD) (M : Memref sig .tc .vmem S8x256x2048 .bf16) (c : Fin 8) (q : PosShare TreeShare) (X : S256x2048.Idx → Elt F .bf16) :
    (owns (d : Thread nD τ) (mW M c) q X : sProp 𝕄) ⊢ iprop(owns (d : Thread nD τ) (mH M c 0) q (rows 0 X) ∗ owns (d : Thread nD τ) (mH M c 1) q (rows 1 X)) := by
  conv_lhs => unfold owns
  iintro ⟨%f, %hf, H⟩
  have h := cut (F := F) d M (fun h : Fin 2 => rH c h) (fun _ _ => rfl) S128x2048 (fun _ => squeezes_S1x128x2048_S128x2048) (rW c).set (disjH c) (covH c) q f
  rw [bigSep_fin_two, ← set_piece M (rW c) (fun _ => rfl) S256x2048 squeezes_S1x256x2048_S256x2048] at h
  have h0 := read_rows (F := F) M c 0 f
  have h1 := read_rows (F := F) M c 1 f
  rw [hf] at h0 h1
  rw [h0, h1]
  iapply h; iexact H

/-- and put together. -/
theorem joinH (d : Dev nD) (M : Memref sig .tc .vmem S8x256x2048 .bf16) (c : Fin 8) (q : PosShare TreeShare) (X : Fin 2 → S128x2048.Idx → Elt F .bf16)
    (f₀ : Buf (Elt F) (M.view.loc (d : Thread nD τ))) :
    iprop(owns (d : Thread nD τ) (mH M c 0) q (X 0) ∗ owns (d : Thread nD τ) (mH M c 1) q (X 1)) ⊢ (owns (d : Thread nD τ) (mW M c) q (glue X) : sProp 𝕄) := by
  have h := paste (F := F) d M (fun h : Fin 2 => rH c h) (fun _ _ => rfl) S128x2048 (fun _ => squeezes_S1x128x2048_S128x2048) (rW c).set (disjH c) (covH c) q f₀ X
  rw [bigSep_fin_two, ← set_piece M (rW c) (fun _ => rfl) S256x2048 squeezes_S1x256x2048_S256x2048] at h
  refine BIBase.Entails.trans h ?_
  iintro ⟨%f, %hf, H⟩
  unfold owns
  iexists f; isplitr
  · ipureintro
    rw [← glue_rows ((mW M c).view.read (Elt F) f)]
    exact congrArg glue (funext fun h => (read_rows M c h f).trans (hf h))
  iexact H

theorem hx_cases (d : Dev nD) : (hx d = 0 ∧ hpx d = 1) ∨ (hx d = 1 ∧ hpx d = 0) := by revert d; decide +kernel

/-- Own half and neighbour's half put together. -/
theorem joinHx (d d' : Dev nD) (M : Memref sig .tc .vmem S8x256x2048 .bf16) (c : Fin 8) (q : PosShare TreeShare) (Y Z : S128x2048.Idx → Elt F .bf16)
    (f₀ : Buf (Elt F) (M.view.loc (d : Thread nD τ))) :
    iprop(owns (d : Thread nD τ) (mH M c (hx d')) q Y ∗ owns (d : Thread nD τ) (mH M c (hpx d')) q Z)
      ⊢ (owns (d : Thread nD τ) (mW M c) q (glue fun h => if h = hx d' then Y else Z) : sProp 𝕄) := by
  have h := joinH (F := F) d M c q (fun h => if h = hx d' then Y else Z) f₀
  rcases (hx_cases d') with ⟨h0, h1⟩ | ⟨h0, h1⟩
  · rw [h0] at h ⊢; rw [h1]
    exact h
  · rw [h0] at h ⊢; rw [h1]
    exact sep_comm.1.trans h

/-- A chunk at some contents cut into own half and neighbour's half. -/
theorem splitHx (d d' : Dev nD) (M : Memref sig .tc .vmem S8x256x2048 .bf16) (c : Fin 8) :
    (Ex d (mW M c) : sProp 𝕄) ⊢ iprop(Ex d (mH M c (hx d')) ∗ Ex d (mH M c (hpx d'))) := by
  unfold Ex
  iintro ⟨%X, H⟩
  ihave H := (splitH d M c fullShare X) $$ H
  icases H with ⟨H0, H1⟩
  rcases (hx_cases d') with ⟨h0, h1⟩ | ⟨h0, h1⟩
  · rw [h0, h1]
    isplitl [H0] <;> iexists _ <;> iassumption
  · rw [h0, h1]
    isplitl [H1] <;> iexists _ <;> iassumption

/-- The first half of a staging slot, and the slot back for it. -/
theorem low (d : Dev nD) (M : Memref sig .tc .vmem S2x256x2048 .f32) (s : Fin 2) :
    (Ex d (mSW M s) : sProp 𝕄) ⊢ iprop(Ex d (mSL M s) ∗ ∀ X, owns (d : Thread nD τ) (mSL M s) fullShare X -∗ Ex d (mSW M s)) := by
  unfold Ex owns
  iintro ⟨%X, %f, -, H⟩
  have hs : (mSL M s).view.set ⊆ (mSW M s).view.set := by
    have e1 := set_piece M (rSL s) (fun _ => rfl) S128x2048 squeezes_S1x128x2048_S128x2048
    have e2 := set_piece M (rSW s) (fun _ => rfl) S256x2048 squeezes_S1x256x2048_S256x2048
    rw [e1, e2]; exact Finset.map_subset_map.mpr (rSL_sub s)
  ihave H := (pointsTo_split_subset hs).1 $$ H
  icases H with ⟨H0, H1⟩
  isplitl [H0]
  · iexists ((mSL M s).view.read (Elt F) f); iexists f; isplitr; · ipureintro; rfl
    iexact H0
  iintro %Y ⟨%g, -, H0⟩
  iexists ((mSW M s).view.read (Elt F) ((mSL M s).view.set.piecewise g f)); iexists ((mSL M s).view.set.piecewise g f)
  isplitr; · ipureintro; rfl
  iapply (pointsTo_join_subset hs)
  isplitl [H0] <;> iassumption

end Cert.KernelIdeal.AR

end
-- ==== Proof.KernelIdeal.Streams.lean ====
/-
  The two-slot streams of local copies, the loops, and the counts of what is still owed.
-/
module

public import proofs.«01_k».proof.Proof.KernelIdeal.Split

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Run a head whose result is not used. -/
theorem useI {α : Type} {d : Dev nD} {p : Prog (TpuEff nD τ sig (Elt F) Λ₀ .tc) α} {k : P F} {A B : sProp 𝕄} {Q : PUnit → sProp 𝕄}
    (h : A ⊢ WPv d p fun _ => B) : A ⊢ iprop((B -∗ WP d k Q) -∗ WP d (p >>= fun _ => k) Q) := by
  refine BIClass.wand_intro ?_
  unfold WP
  unfold WPv at *
  rw [wp_bind]
  iintro ⟨HA, Hk⟩
  ihave HW := h $$ HA
  iapply (wp_wand frame _ _) $$ HW
  iintro %a HB
  iapply Hk; iexact HB

/-! ## Slots and steps -/

/-- The slot of step `n`. -/
def slN (n : ℕ) : Fin 2 := ⟨n % 2, Nat.mod_lt _ (by decide)⟩
theorem sl_eq (c : Fin 8) : sl c = slN c.val := rfl
theorem slN_add (n : ℕ) : slN (n + 2) = slN n := Fin.ext (Nat.add_mod_right n 2)
/-- The chunk two steps before step `n`. -/
def back (n : ℕ) : Fin 8 := ⟨(n - 2) % 8, Nat.mod_lt _ (by decide)⟩
theorem back_add (c : Fin 8) : back (c.val + 2) = c := Fin.ext (by show (c.val + 2 - 2) % 8 = c.val; have := c.isLt; omega)
theorem back_val (c : Fin 8) (h : 2 ≤ c.val) (p : c.val - 2 < 8) : (⟨c.val - 2, p⟩ : Fin 8) = back c.val := Fin.ext (by show c.val - 2 = (c.val - 2) % 8; omega)

/-- A proposition per chunk, for the chunk two steps before `c` when there is one. -/
def Beh (D : Fin 8 → sProp 𝕄) (c : Fin 8) : sProp 𝕄 := if 2 ≤ c.val then D (back c.val) else iprop(emp)

/-- A slot of an input stream with nothing in flight. -/
def InIdle (d : Dev nD) (buf : Memref sig .tc .vmem S2x128x2048 .f32) (A : DmaSems sig S2) (arr : Fin 2 → sProp 𝕄) (s : Fin 2) : sProp 𝕄 := iprop(Ex (F := F) d (mS buf s) ∗ Zero d (s2 A s) ∗ arr s)
/-- Chunk `c` in flight. -/
def InFl (d : Dev nD) (buf : Memref sig .tc .vmem S2x128x2048 .f32) (A : DmaSems sig S2) (V : Fin 8 → S128x2048.Idx → Elt F .f32) (arr : Fin 2 → sProp 𝕄) (c : Fin 8) : sProp 𝕄 :=
  Fl d (s2 A (sl c)) (mS buf (sl c)).view.dmaCredit iprop(owns (d : Thread nD τ) (mS buf (sl c)) fullShare (V c) ∗ arr (sl c))
/-- The slot of step `n` before the step. -/
def InS (d : Dev nD) (buf : Memref sig .tc .vmem S2x128x2048 .f32) (A : DmaSems sig S2) (V : Fin 8 → S128x2048.Idx → Elt F .f32) (arr : Fin 2 → sProp 𝕄) (n : ℕ) : sProp 𝕄 := if h : n < 8 then InFl d buf A V arr ⟨n, h⟩ else InIdle d buf A arr (slN n)

theorem InS_at (d : Dev nD) (buf : Memref sig .tc .vmem S2x128x2048 .f32) (A : DmaSems sig S2) (V : Fin 8 → S128x2048.Idx → Elt F .f32) (arr : Fin 2 → sProp 𝕄) (c : Fin 8) : InS d buf A V arr c.val = InFl d buf A V arr c := by unfold InS; rw [dif_pos c.isLt]

theorem ahead_in (d : Dev nD) (buf : Memref sig .tc .vmem S2x128x2048 .f32) (A : DmaSems sig S2) (V : Fin 8 → S128x2048.Idx → Elt F .f32) (arr : Fin 2 → sProp 𝕄) (c : Fin 8) (start : Fin 8 → P F) (hstart : ∀ c, InIdle d buf A arr (sl c) ⊢ WP d (start c) fun _ => InFl d buf A V arr c) :
    InIdle d buf A arr (sl c) ⊢ WP d (ahead c start) fun _ => InS d buf A V arr (c.val + 2) := by
  unfold ahead InS
  by_cases h : c.val + 2 < 8
  · rw [dif_pos h, dif_pos h]
    have := hstart ⟨c.val + 2, h⟩
    rw [show sl ⟨c.val + 2, h⟩ = sl c from slN_add c.val] at this
    exact this
  · rw [dif_neg h, dif_neg h, slN_add, sl_eq]
    exact skip

/-- Chunk `c` of an output stream in flight. -/
def OutFl (d : Dev nD) (A : DmaSems sig S2) (N : Fin 8 → ℕ) (D : Fin 8 → sProp 𝕄) (E : Fin 2 → sProp 𝕄) (c : Fin 8) : sProp 𝕄 := Fl d (s2 A (sl c)) (N c) iprop(D c ∗ E (sl c))
/-- The slot of step `n` before the step: the chunk two steps before in flight, if there is one. -/
def OutS (d : Dev nD) (A : DmaSems sig S2) (N : Fin 8 → ℕ) (D : Fin 8 → sProp 𝕄) (E : Fin 2 → sProp 𝕄) (n : ℕ) : sProp 𝕄 := if 2 ≤ n then Fl d (s2 A (slN n)) (N (back n)) iprop(D (back n) ∗ E (slN n)) else iprop(E (slN n) ∗ Zero d (s2 A (slN n)))

theorem OutS_next (d : Dev nD) (A : DmaSems sig S2) (N : Fin 8 → ℕ) (D : Fin 8 → sProp 𝕄) (E : Fin 2 → sProp 𝕄) (c : Fin 8) : OutS d A N D E (c.val + 2) = OutFl d A N D E c := by
  unfold OutS OutFl
  rw [if_pos (Nat.le_add_left 2 c.val), back_add, slN_add, sl_eq]

theorem behind_out (d : Dev nD) (A : DmaSems sig S2) (N : Fin 8 → ℕ) (D : Fin 8 → sProp 𝕄) (E : Fin 2 → sProp 𝕄) (c : Fin 8) (wait : Fin 8 → P F) (O : sProp 𝕄) (R : sProp 𝕄)
    (hwait : ∀ c, iprop(R ∗ OutFl d A N D E c ∗ O) ⊢ WP d (wait c) fun _ => iprop((D c ∗ E (sl c)) ∗ Zero d (s2 A (sl c)) ∗ O)) :
    iprop(R ∗ OutS d A N D E c.val ∗ O) ⊢ WP d (behind c wait) fun _ => iprop(Beh D c ∗ E (sl c) ∗ Zero d (s2 A (sl c)) ∗ O) := by
  unfold behind
  by_cases h : 2 ≤ c.val
  · have hw := hwait (back c.val)
    have hs : sl (back c.val) = sl c := Fin.ext (by show (c.val - 2) % 8 % 2 = c.val % 2; omega)
    rw [if_pos h, back_val c h]
    unfold OutFl at hw
    rw [hs] at hw
    unfold OutS Beh
    rw [if_pos h, if_pos h, ← sl_eq]
    refine BIBase.Entails.trans hw (WP_mono fun _ => ?_)
    iintro ⟨⟨H1, H2⟩, H3, H4⟩
    isplitl [H1]; · iexact H1
    isplitl [H2]; · iexact H2
    isplitl [H3]; · iexact H3
    iexact H4
  · unfold OutS Beh
    rw [if_neg h, if_neg h, if_neg h, ← sl_eq]
    refine BIBase.Entails.trans ?_ skip
    iintro ⟨-, ⟨H1, H2⟩, H3⟩
    isplitr; · iempintro
    isplitl [H1]; · iexact H1
    isplitl [H2]; · iexact H2
    iexact H3

/-! ## Loops -/

theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide]
  rw [bigSep_insert (by decide), bigSep_insert (by decide), bigSep_insert (by decide), bigSep_insert (by decide), bigSep_insert (by decide), bigSep_insert (by decide),
    bigSep_insert (by decide), bigSep_singleton]
  rfl

/-- Eight steps, by what is known of each. -/
theorem loop8_spec (d : Dev nD) (f : Fin 8 → P F) (R : sProp 𝕄) [BI.Persistent R] (C : ℕ → sProp 𝕄) (A B : Fin 8 → sProp 𝕄)
    (h : ∀ c : Fin 8, iprop(R ∗ C c.val ∗ A c) ⊢ WP d (f c) fun _ => iprop(C (c.val + 1) ∗ B c)) :
    iprop(R ∗ C 0 ∗ bigSep Finset.univ A) ⊢ WP d (loop8 f) fun _ => iprop(C 8 ∗ bigSep Finset.univ B) := by
  rw [bigSep8, bigSep8]
  have h0 : iprop(R ∗ C 0 ∗ A 0) ⊢ WP d (f 0) fun _ => iprop(C 1 ∗ B 0) := h 0
  have h1 : iprop(R ∗ C 1 ∗ A 1) ⊢ WP d (f 1) fun _ => iprop(C 2 ∗ B 1) := h 1
  have h2 : iprop(R ∗ C 2 ∗ A 2) ⊢ WP d (f 2) fun _ => iprop(C 3 ∗ B 2) := h 2
  have h3 : iprop(R ∗ C 3 ∗ A 3) ⊢ WP d (f 3) fun _ => iprop(C 4 ∗ B 3) := h 3
  have h4 : iprop(R ∗ C 4 ∗ A 4) ⊢ WP d (f 4) fun _ => iprop(C 5 ∗ B 4) := h 4
  have h5 : iprop(R ∗ C 5 ∗ A 5) ⊢ WP d (f 5) fun _ => iprop(C 6 ∗ B 5) := h 5
  have h6 : iprop(R ∗ C 6 ∗ A 6) ⊢ WP d (f 6) fun _ => iprop(C 7 ∗ B 6) := h 6
  have h7 : iprop(R ∗ C 7 ∗ A 7) ⊢ WP d (f 7) fun _ => iprop(C 8 ∗ B 7) := h 7
  unfold loop8
  iintro ⟨#HR, HC, HA0, HA1, HA2, HA3, HA4, HA5, HA6, HA7⟩
  iapply (use h0) $$ [HC HA0]
  · isplitr; · iexact HR
    isplitl [HC]; · iexact HC
    iexact HA0
  iintro ⟨HC, HB0⟩
  iapply (use h1) $$ [HC HA1]
  · isplitr; · iexact HR
    isplitl [HC]; · iexact HC
    iexact HA1
  iintro ⟨HC, HB1⟩
  iapply (use h2) $$ [HC HA2]
  · isplitr; · iexact HR
    isplitl [HC]; · iexact HC
    iexact HA2
  iintro ⟨HC, HB2⟩
  iapply (use h3) $$ [HC HA3]
  · isplitr; · iexact HR
    isplitl [HC]; · iexact HC
    iexact HA3
  iintro ⟨HC, HB3⟩
  iapply (use h4) $$ [HC HA4]
  · isplitr; · iexact HR
    isplitl [HC]; · iexact HC
    iexact HA4
  iintro ⟨HC, HB4⟩
  iapply (use h5) $$ [HC HA5]
  · isplitr; · iexact HR
    isplitl [HC]; · iexact HC
    iexact HA5
  iintro ⟨HC, HB5⟩
  iapply (use h6) $$ [HC HA6]
  · isplitr; · iexact HR
    isplitl [HC]; · iexact HC
    iexact HA6
  iintro ⟨HC, HB6⟩
  iapply (useLast h7) $$ [HC HA7]
  · isplitr; · iexact HR
    isplitl [HC]; · iexact HC
    iexact HA7
  iintro ⟨HC, HB7⟩
  isplitl [HC]; · iexact HC
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  iexact HB7

/-- The second loop, by what is known of its two kinds of steps. -/
theorem midLoop_spec (d : Dev nD) (R : sProp 𝕄) [BI.Persistent R] (CN CG : ℕ → sProp 𝕄) (O : ℕ → ℕ → sProp 𝕄) (AN BN AG BG : Fin 8 → sProp 𝕄)
    (hN : ∀ (c : Fin 8) (b : ℕ), iprop(R ∗ (CN c.val ∗ O c.val b) ∗ AN c) ⊢ WP d (stepN d c) fun _ => iprop((CN (c.val + 1) ∗ O (c.val + 1) b) ∗ BN c))
    (hG : ∀ (c : Fin 8) (a : ℕ), c.val < a → iprop(R ∗ (CG c.val ∗ O a c.val) ∗ AG c ∗ BN c) ⊢ WP d (stepG d c) fun _ => iprop((CG (c.val + 1) ∗ O a (c.val + 1)) ∗ BG c)) :
    iprop(R ∗ (CN 0 ∗ CG 0 ∗ O 0 0) ∗ bigSep Finset.univ AN ∗ bigSep Finset.univ AG) ⊢ WP d (midLoop d) fun _ => iprop((CN 8 ∗ CG 8 ∗ O 8 8) ∗ bigSep Finset.univ BG) := by
  rw [bigSep8 AN, bigSep8 AG, bigSep8 BG]
  have n0 : iprop(R ∗ (CN 0 ∗ O 0 0) ∗ AN 0) ⊢ WP d (stepN d 0) fun _ => iprop((CN 1 ∗ O 1 0) ∗ BN 0) := hN 0 0
  have n1 : iprop(R ∗ (CN 1 ∗ O 1 0) ∗ AN 1) ⊢ WP d (stepN d 1) fun _ => iprop((CN 2 ∗ O 2 0) ∗ BN 1) := hN 1 0
  have g0 : iprop(R ∗ (CG 0 ∗ O 2 0) ∗ AG 0 ∗ BN 0) ⊢ WP d (stepG d 0) fun _ => iprop((CG 1 ∗ O 2 1) ∗ BG 0) := hG 0 2 (by decide)
  have n2 : iprop(R ∗ (CN 2 ∗ O 2 1) ∗ AN 2) ⊢ WP d (stepN d 2) fun _ => iprop((CN 3 ∗ O 3 1) ∗ BN 2) := hN 2 1
  have g1 : iprop(R ∗ (CG 1 ∗ O 3 1) ∗ AG 1 ∗ BN 1) ⊢ WP d (stepG d 1) fun _ => iprop((CG 2 ∗ O 3 2) ∗ BG 1) := hG 1 3 (by decide)
  have n3 : iprop(R ∗ (CN 3 ∗ O 3 2) ∗ AN 3) ⊢ WP d (stepN d 3) fun _ => iprop((CN 4 ∗ O 4 2) ∗ BN 3) := hN 3 2
  have g2 : iprop(R ∗ (CG 2 ∗ O 4 2) ∗ AG 2 ∗ BN 2) ⊢ WP d (stepG d 2) fun _ => iprop((CG 3 ∗ O 4 3) ∗ BG 2) := hG 2 4 (by decide)
  have n4 : iprop(R ∗ (CN 4 ∗ O 4 3) ∗ AN 4) ⊢ WP d (stepN d 4) fun _ => iprop((CN 5 ∗ O 5 3) ∗ BN 4) := hN 4 3
  have g3 : iprop(R ∗ (CG 3 ∗ O 5 3) ∗ AG 3 ∗ BN 3) ⊢ WP d (stepG d 3) fun _ => iprop((CG 4 ∗ O 5 4) ∗ BG 3) := hG 3 5 (by decide)
  have n5 : iprop(R ∗ (CN 5 ∗ O 5 4) ∗ AN 5) ⊢ WP d (stepN d 5) fun _ => iprop((CN 6 ∗ O 6 4) ∗ BN 5) := hN 5 4
  have g4 : iprop(R ∗ (CG 4 ∗ O 6 4) ∗ AG 4 ∗ BN 4) ⊢ WP d (stepG d 4) fun _ => iprop((CG 5 ∗ O 6 5) ∗ BG 4) := hG 4 6 (by decide)
  have n6 : iprop(R ∗ (CN 6 ∗ O 6 5) ∗ AN 6) ⊢ WP d (stepN d 6) fun _ => iprop((CN 7 ∗ O 7 5) ∗ BN 6) := hN 6 5
  have g5 : iprop(R ∗ (CG 5 ∗ O 7 5) ∗ AG 5 ∗ BN 5) ⊢ WP d (stepG d 5) fun _ => iprop((CG 6 ∗ O 7 6) ∗ BG 5) := hG 5 7 (by decide)
  have n7 : iprop(R ∗ (CN 7 ∗ O 7 6) ∗ AN 7) ⊢ WP d (stepN d 7) fun _ => iprop((CN 8 ∗ O 8 6) ∗ BN 7) := hN 7 6
  have g6 : iprop(R ∗ (CG 6 ∗ O 8 6) ∗ AG 6 ∗ BN 6) ⊢ WP d (stepG d 6) fun _ => iprop((CG 7 ∗ O 8 7) ∗ BG 6) := hG 6 8 (by decide)
  have g7 : iprop(R ∗ (CG 7 ∗ O 8 7) ∗ AG 7 ∗ BN 7) ⊢ WP d (stepG d 7) fun _ => iprop((CG 8 ∗ O 8 8) ∗ BG 7) := hG 7 8 (by decide)
  unfold midLoop
  iintro ⟨#HR, ⟨HN, HG, HO⟩, ⟨HA0, HA1, HA2, HA3, HA4, HA5, HA6, HA7⟩, HG0, HG1, HG2, HG3, HG4, HG5, HG6, HG7⟩
  iapply (use n0) $$ [HN HO HA0]
  · isplitr; · iexact HR
    isplitl [HN HO]
    · isplitl [HN]; · iexact HN
      iexact HO
    iexact HA0
  iintro ⟨⟨HN, HO⟩, HB0⟩
  iapply (use n1) $$ [HN HO HA1]
  · isplitr; · iexact HR
    isplitl [HN HO]
    · isplitl [HN]; · iexact HN
      iexact HO
    iexact HA1
  iintro ⟨⟨HN, HO⟩, HB1⟩
  iapply (use g0) $$ [HG HO HG0 HB0]
  · isplitr; · iexact HR
    isplitl [HG HO]
    · isplitl [HG]; · iexact HG
      iexact HO
    isplitl [HG0]; · iexact HG0
    iexact HB0
  iintro ⟨⟨HG, HO⟩, HG0⟩
  iapply (use n2) $$ [HN HO HA2]
  · isplitr; · iexact HR
    isplitl [HN HO]
    · isplitl [HN]; · iexact HN
      iexact HO
    iexact HA2
  iintro ⟨⟨HN, HO⟩, HB2⟩
  iapply (use g1) $$ [HG HO HG1 HB1]
  · isplitr; · iexact HR
    isplitl [HG HO]
    · isplitl [HG]; · iexact HG
      iexact HO
    isplitl [HG1]; · iexact HG1
    iexact HB1
  iintro ⟨⟨HG, HO⟩, HG1⟩
  iapply (use n3) $$ [HN HO HA3]
  · isplitr; · iexact HR
    isplitl [HN HO]
    · isplitl [HN]; · iexact HN
      iexact HO
    iexact HA3
  iintro ⟨⟨HN, HO⟩, HB3⟩
  iapply (use g2) $$ [HG HO HG2 HB2]
  · isplitr; · iexact HR
    isplitl [HG HO]
    · isplitl [HG]; · iexact HG
      iexact HO
    isplitl [HG2]; · iexact HG2
    iexact HB2
  iintro ⟨⟨HG, HO⟩, HG2⟩
  iapply (use n4) $$ [HN HO HA4]
  · isplitr; · iexact HR
    isplitl [HN HO]
    · isplitl [HN]; · iexact HN
      iexact HO
    iexact HA4
  iintro ⟨⟨HN, HO⟩, HB4⟩
  iapply (use g3) $$ [HG HO HG3 HB3]
  · isplitr; · iexact HR
    isplitl [HG HO]
    · isplitl [HG]; · iexact HG
      iexact HO
    isplitl [HG3]; · iexact HG3
    iexact HB3
  iintro ⟨⟨HG, HO⟩, HG3⟩
  iapply (use n5) $$ [HN HO HA5]
  · isplitr; · iexact HR
    isplitl [HN HO]
    · isplitl [HN]; · iexact HN
      iexact HO
    iexact HA5
  iintro ⟨⟨HN, HO⟩, HB5⟩
  iapply (use g4) $$ [HG HO HG4 HB4]
  · isplitr; · iexact HR
    isplitl [HG HO]
    · isplitl [HG]; · iexact HG
      iexact HO
    isplitl [HG4]; · iexact HG4
    iexact HB4
  iintro ⟨⟨HG, HO⟩, HG4⟩
  iapply (use n6) $$ [HN HO HA6]
  · isplitr; · iexact HR
    isplitl [HN HO]
    · isplitl [HN]; · iexact HN
      iexact HO
    iexact HA6
  iintro ⟨⟨HN, HO⟩, HB6⟩
  iapply (use g5) $$ [HG HO HG5 HB5]
  · isplitr; · iexact HR
    isplitl [HG HO]
    · isplitl [HG]; · iexact HG
      iexact HO
    isplitl [HG5]; · iexact HG5
    iexact HB5
  iintro ⟨⟨HG, HO⟩, HG5⟩
  iapply (use n7) $$ [HN HO HA7]
  · isplitr; · iexact HR
    isplitl [HN HO]
    · isplitl [HN]; · iexact HN
      iexact HO
    iexact HA7
  iintro ⟨⟨HN, HO⟩, HB7⟩
  iapply (use g6) $$ [HG HO HG6 HB6]
  · isplitr; · iexact HR
    isplitl [HG HO]
    · isplitl [HG]; · iexact HG
      iexact HO
    isplitl [HG6]; · iexact HG6
    iexact HB6
  iintro ⟨⟨HG, HO⟩, HG6⟩
  iapply (useLast g7) $$ [HG HO HG7 HB7]
  · isplitr; · iexact HR
    isplitl [HG HO]
    · isplitl [HG]; · iexact HG
      iexact HO
    isplitl [HG7]; · iexact HG7
    iexact HB7
  iintro ⟨⟨HG, HO⟩, HG7⟩
  isplitl [HN HG HO]
  · isplitl [HN]; · iexact HN
    isplitl [HG]; · iexact HG
    iexact HO
  isplitl [HG0]; · iexact HG0
  isplitl [HG1]; · iexact HG1
  isplitl [HG2]; · iexact HG2
  isplitl [HG3]; · iexact HG3
  isplitl [HG4]; · iexact HG4
  isplitl [HG5]; · iexact HG5
  isplitl [HG6]; · iexact HG6
  iexact HG7

/-! ## What is still owed -/

/-- During the first loop, -/
def nX (c : ℕ) : Fin 6 → ℕ := ![c, 0, 0, 0, 0, 0]
/-- the second, -/
def nM (a b b' : ℕ) : Fin 6 → ℕ := ![8, a, b, b', 0, 0]
/-- the third and after. -/
def nF (c c' : ℕ) : Fin 6 → ℕ := ![8, 8, 8, 8, c, c']

/-- Two lists of counts which differ at one kind only. -/
theorem same_but (f : Fin 6) (n n' : Fin 6 → ℕ) (h : n' = Function.update n f (n' f)) (g : Fin 6) (hg : g ≠ f) : n' g = n g := by
  rw [h, Function.update_of_ne hg]

theorem OW_nX (d : Dev nD) (c : Fin 8) : OW d (nX c.val) = OW d (nX (c.val + 1)) + tallyAt (tgt d 0 c) () (amt 0) :=
  OW_peel d 0 c (n := nX c.val) (n' := nX (c.val + 1)) (by simp [nX, nM, nF]) (by simp [nX, nM, nF]) (same_but 0 _ _ (by funext g; fin_cases g <;> simp [nX, nM, nF, Function.update]))
theorem OW_nM1 (d : Dev nD) (c : Fin 8) (b : ℕ) : OW d (nM c.val b b) = OW d (nM (c.val + 1) b b) + tallyAt (tgt d 1 c) () (amt 1) :=
  OW_peel d 1 c (n := nM c.val b b) (n' := nM (c.val + 1) b b) (by simp [nX, nM, nF]) (by simp [nX, nM, nF]) (same_but 1 _ _ (by funext g; fin_cases g <;> simp [nX, nM, nF, Function.update]))
theorem OW_nM2 (d : Dev nD) (c : Fin 8) (a : ℕ) : OW d (nM a c.val c.val) = OW d (nM a (c.val + 1) c.val) + tallyAt (tgt d 2 c) () (amt 2) :=
  OW_peel d 2 c (n := nM a c.val c.val) (n' := nM a (c.val + 1) c.val) (by simp [nX, nM, nF]) (by simp [nX, nM, nF]) (same_but 2 _ _ (by funext g; fin_cases g <;> simp [nX, nM, nF, Function.update]))
theorem OW_nM3 (d : Dev nD) (c : Fin 8) (a : ℕ) : OW d (nM a (c.val + 1) c.val) = OW d (nM a (c.val + 1) (c.val + 1)) + tallyAt (tgt d 3 c) () (amt 3) :=
  OW_peel d 3 c (n := nM a (c.val + 1) c.val) (n' := nM a (c.val + 1) (c.val + 1)) (by simp [nX, nM, nF]) (by simp [nX, nM, nF]) (same_but 3 _ _ (by funext g; fin_cases g <;> simp [nX, nM, nF, Function.update]))
theorem OW_nF4 (d : Dev nD) (c : Fin 8) : OW d (nF c.val c.val) = OW d (nF (c.val + 1) c.val) + tallyAt (tgt d 4 c) () (amt 4) :=
  OW_peel d 4 c (n := nF c.val c.val) (n' := nF (c.val + 1) c.val) (by simp [nX, nM, nF]) (by simp [nX, nM, nF]) (same_but 4 _ _ (by funext g; fin_cases g <;> simp [nX, nM, nF, Function.update]))
theorem OW_nF5 (d : Dev nD) (c : Fin 8) : OW d (nF (c.val + 1) c.val) = OW d (nF (c.val + 1) (c.val + 1)) + tallyAt (tgt d 5 c) () (amt 5) :=
  OW_peel d 5 c (n := nF (c.val + 1) c.val) (n' := nF (c.val + 1) (c.val + 1)) (by simp [nX, nM, nF]) (by simp [nX, nM, nF]) (same_but 5 _ _ (by funext g; fin_cases g <;> simp [nX, nM, nF, Function.update]))

end Cert.KernelIdeal.AR

end
-- ==== Proof.KernelIdeal.Waits.lean ====
/-
  Each copy, transfer, wait, load and store of the steps by what it needs and what it leaves.
-/
module

public import proofs.«01_k».proof.Proof.KernelIdeal.Streams

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-! ## The input streams -/

/-- The shares of `partial` the two slots of the first stream read through, -/
def qPx : Fin 2 → PosShare TreeShare := ![fullShare.left.left, fullShare.left.right]
/-- those of the second, -/
def qPm : Fin 2 → PosShare TreeShare := ![fullShare.right.left, fullShare.right.right]
/-- and the shares of `resid`. -/
def qRi : Fin 2 → PosShare TreeShare := ![fullShare.left, fullShare.right]

def arPx (d : Dev nD) (s : Fin 2) : sProp 𝕄 := (d : Thread nD τ).loc main_arg0 ↦{qPx s} m ((d : Thread nD τ).loc main_arg0)
def arPm (d : Dev nD) (s : Fin 2) : sProp 𝕄 := (d : Thread nD τ).loc main_arg0 ↦{qPm s} m ((d : Thread nD τ).loc main_arg0)
def arRi (d : Dev nD) (s : Fin 2) : sProp 𝕄 := (d : Thread nD τ).loc main_arg1 ↦{qRi s} m ((d : Thread nD τ).loc main_arg1)

abbrev IdPx (d : Dev nD) (s : Fin 2) : sProp 𝕄 := InIdle d pxM cc0_scratch25 (arPx m d) s
abbrev IdPm (d : Dev nD) (s : Fin 2) : sProp 𝕄 := InIdle d pmM cc0_scratch26 (arPm m d) s
abbrev IdRi (d : Dev nD) (s : Fin 2) : sProp 𝕄 := InIdle d riM cc0_scratch27 (arRi m d) s
abbrev FlPx (d : Dev nD) (c : Fin 8) : sProp 𝕄 := InFl d pxM cc0_scratch25 (pxV m d) (arPx m d) c
abbrev FlPm (d : Dev nD) (c : Fin 8) : sProp 𝕄 := InFl d pmM cc0_scratch26 (pmV m d) (arPm m d) c
abbrev FlRi (d : Dev nD) (c : Fin 8) : sProp 𝕄 := InFl d riM cc0_scratch27 (riV m d) (arRi m d) c
abbrev SPx (d : Dev nD) (n : ℕ) : sProp 𝕄 := InS d pxM cc0_scratch25 (pxV m d) (arPx m d) n
abbrev SPm (d : Dev nD) (n : ℕ) : sProp 𝕄 := InS d pmM cc0_scratch26 (pmV m d) (arPm m d) n
abbrev SRi (d : Dev nD) (n : ℕ) : sProp 𝕄 := InS d riM cc0_scratch27 (riV m d) (arRi m d) n

theorem startPx_spec (d : Dev nD) (c : Fin 8) : IdPx m d (sl c) ⊢ WP d (startPx d c) fun _ => FlPx m d c := by
  have h := copy_in (F := F) d (pxSrc d c) (mS pxM (sl c)) (s2 cc0_scratch25 (sl c)) (hsrc := (View.wordExact_bits rfl).reshape _ _) (hdst := (View.wordExact_bits rfl).reshape _ _) (hsem := ⟨Or.inl rfl, trivial⟩)
    (qPx (sl c)) (m ((d : Thread nD τ).loc main_arg0)) _ rfl (View.dmaCredit_pos _ (by decide))
  refine BIBase.Entails.trans ?_ h
  unfold IdPx InIdle arPx
  iintro ⟨H1, H2, H3⟩
  isplitl [H3]; · iexact H3
  isplitl [H1]; · iexact H1
  iexact H2

theorem startPm_spec (d : Dev nD) (c : Fin 8) : IdPm m d (sl c) ⊢ WP d (startPm d c) fun _ => FlPm m d c := by
  have h := copy_in (F := F) d (pmSrc d c) (mS pmM (sl c)) (s2 cc0_scratch26 (sl c)) (hsrc := (View.wordExact_bits rfl).reshape _ _) (hdst := (View.wordExact_bits rfl).reshape _ _) (hsem := ⟨Or.inl rfl, trivial⟩)
    (qPm (sl c)) (m ((d : Thread nD τ).loc main_arg0)) _ rfl (View.dmaCredit_pos _ (by decide))
  refine BIBase.Entails.trans ?_ h
  unfold IdPm InIdle arPm
  iintro ⟨H1, H2, H3⟩
  isplitl [H3]; · iexact H3
  isplitl [H1]; · iexact H1
  iexact H2

theorem startRi_spec (d : Dev nD) (c : Fin 8) : IdRi m d (sl c) ⊢ WP d (startRi d c) fun _ => FlRi m d c := by
  have h := copy_in (F := F) d (riSrc d c) (mS riM (sl c)) (s2 cc0_scratch27 (sl c)) (hsrc := View.wordExact_bits rfl) (hdst := (View.wordExact_bits rfl).reshape _ _) (hsem := ⟨Or.inl rfl, trivial⟩)
    (qRi (sl c)) (m ((d : Thread nD τ).loc main_arg1)) _ rfl (View.dmaCredit_pos _ (by decide))
  refine BIBase.Entails.trans ?_ h
  unfold IdRi InIdle arRi
  iintro ⟨H1, H2, H3⟩
  isplitl [H3]; · iexact H3
  isplitl [H1]; · iexact H1
  iexact H2

/-- A wait for a local copy, by the records. -/
theorem loc_wait (d : Dev nD) (f : Fin 6) (s : Fin 2) {sp sp' : Space} {s₁ s₂ : Shape} {e₁ e₂ : EltTy} (srcw : Memref sig .tc sp' s₁ e₁) (dstw : Memref sig .tc sp s₂ e₂)
    {hsrc hdst} (D : sProp 𝕄) (n : Fin 6 → ℕ) :
    iprop(Rec m K ∗ Fl d (s2 (locA f) s) dstw.view.dmaCredit D ∗ Ow d (OW d n))
      ⊢ WP d (Prog.lift (.waitDma2 (s2 (locA f) s) srcw dstw hsrc hdst)) fun _ => iprop(D ∗ Zero d (s2 (locA f) s) ∗ Ow d (OW d n)) := by
  iintro ⟨#HR, H, HO⟩
  iapply (copy_wait d (s2 (locA f) s) (fun k => csem_ne_loc k f s) srcw dstw _ rfl D n)
  isplitr; · iapply (Rec_lev m K); iexact HR
  isplitl [H]; · iexact H
  iexact HO

theorem waitPx_spec (d : Dev nD) (c : Fin 8) (n : Fin 6 → ℕ) : iprop(Rec m K ∗ FlPx m d c ∗ Ow d (OW d n))
    ⊢ WP d (waitPx d c) fun _ => iprop((owns (d : Thread nD τ) (mS pxM (sl c)) fullShare (pxV m d c) ∗ arPx m d (sl c)) ∗ Zero d (s2 cc0_scratch25 (sl c)) ∗ Ow d (OW d n)) :=
  loc_wait m K d 0 (sl c) _ (mS pxM (sl c)) _ n
theorem waitPm_spec (d : Dev nD) (c : Fin 8) (n : Fin 6 → ℕ) : iprop(Rec m K ∗ FlPm m d c ∗ Ow d (OW d n))
    ⊢ WP d (waitPm d c) fun _ => iprop((owns (d : Thread nD τ) (mS pmM (sl c)) fullShare (pmV m d c) ∗ arPm m d (sl c)) ∗ Zero d (s2 cc0_scratch26 (sl c)) ∗ Ow d (OW d n)) :=
  loc_wait m K d 1 (sl c) _ (mS pmM (sl c)) _ n
theorem waitRi_spec (d : Dev nD) (c : Fin 8) (n : Fin 6 → ℕ) : iprop(Rec m K ∗ FlRi m d c ∗ Ow d (OW d n))
    ⊢ WP d (waitRi d c) fun _ => iprop((owns (d : Thread nD τ) (mS riM (sl c)) fullShare (riV m d c) ∗ arRi m d (sl c)) ∗ Zero d (s2 cc0_scratch27 (sl c)) ∗ Ow d (OW d n)) :=
  loc_wait m K d 2 (sl c) _ (mS riM (sl c)) _ n

/-! ## The output streams -/

/-- Rows widened, 128 of them, -/
def ex128 (X : S128x2048.Idx → Elt F .bf16) : S128x2048.Idx → Elt F .f32 := (extf .f32 (X : FVec F S128x2048 .bf16) bitsLt_bf16_f32 : FVec F S128x2048 .f32)
/-- and 256. -/
def ex256 (X : S256x2048.Idx → Elt F .bf16) : S256x2048.Idx → Elt F .f32 := (extf .f32 (X : FVec F S256x2048 .bf16) bitsLt_bf16_f32 : FVec F S256x2048 .f32)

def Dou (d : Dev nD) (c : Fin 8) : sProp 𝕄 := owns (d : Thread nD τ) (ouDst d c) fullShare (NV m d c)
def Dph (d : Dev nD) (c : Fin 8) : sProp 𝕄 := owns (d : Thread nD τ) (phDst d c) fullShare (ex128 (NB m (xp d) c))
def Dy (d : Dev nD) (c : Fin 8) : sProp 𝕄 := owns (d : Thread nD τ) (yDst d c) fullShare (ex256 (RB m (yp d) c))
def Dz (d : Dev nD) (c : Fin 8) : sProp 𝕄 := owns (d : Thread nD τ) (zDst d c) fullShare (ex256 (RB m (zp d) c))
def Dzf (d : Dev nD) (c : Fin 8) : sProp 𝕄 := owns (d : Thread nD τ) (zfDst d c) fullShare (ex128 (rows 0 (RB m (yp (zp d)) c)))
def Dyf (d : Dev nD) (c : Fin 8) : sProp 𝕄 := owns (d : Thread nD τ) (yfDst d c) fullShare (ex128 (rows 1 (RB m (zp (yp d)) c)))

abbrev Eou (d : Dev nD) (s : Fin 2) : sProp 𝕄 := Ex (F := F) d (mS ouM s)
abbrev Eph (d : Dev nD) (s : Fin 2) : sProp 𝕄 := Ex (F := F) d (mS phM s)
abbrev Ecs (d : Dev nD) (s : Fin 2) : sProp 𝕄 := Ex (F := F) d (mSW csM s)

abbrev SOu (d : Dev nD) (n : ℕ) : sProp 𝕄 := OutS d cc0_scratch28 (fun c => (ouDst d c).view.dmaCredit) (Dou m d) (Eou (F := F) d) n
abbrev SPh (d : Dev nD) (n : ℕ) : sProp 𝕄 := OutS d cc0_scratch30 (fun c => (phDst d c).view.dmaCredit) (Dph m d) (Eph (F := F) d) n
abbrev SCs (d : Dev nD) (n : ℕ) : sProp 𝕄 := OutS d cc0_scratch29 (fun c => (zDst d c).view.dmaCredit) (Dz m d) (Ecs (F := F) d) n
abbrev FlOu (d : Dev nD) (c : Fin 8) : sProp 𝕄 := OutFl d cc0_scratch28 (fun c => (ouDst d c).view.dmaCredit) (Dou m d) (Eou (F := F) d) c
abbrev FlPh (d : Dev nD) (c : Fin 8) : sProp 𝕄 := OutFl d cc0_scratch30 (fun c => (phDst d c).view.dmaCredit) (Dph m d) (Eph (F := F) d) c
abbrev FlZ (d : Dev nD) (c : Fin 8) : sProp 𝕄 := OutFl d cc0_scratch29 (fun c => (zDst d c).view.dmaCredit) (Dz m d) (Ecs (F := F) d) c

/-- Start a copy of an owned memref which is given back at some contents. -/
theorem copy_out' (d : Dev nD) {sp sp' : Space} {s : Shape} {e : EltTy} (src : Memref sig .tc sp s e) (dst : Memref sig .tc sp' s e) (sem : DmaSem sig) {hsrc hdst hsem} (X : s.Idx → Elt F e)
    (N : ℕ) (hN : dst.view.amount (.dma sem) = N) (hN0 : 0 < N) :
    iprop(owns (d : Thread nD τ) src fullShare X ∗ Ex d dst ∗ Zero d sem)
      ⊢ WP d (Prog.lift (.enqueueDma src (.here dst) (.dma sem) hsrc hdst hsem)) fun _ =>
          Fl d sem N iprop(owns (d : Thread nD τ) dst fullShare X ∗ Ex d src) := by
  iintro ⟨H1, H2, H3⟩
  iapply (copy_out d src dst sem X (Ex d src) N hN hN0)
  isplitl [H1]; · iexact H1
  isplitr; · iapply (Ex_of_owns src X)
  isplitl [H2]; · iexact H2
  iexact H3

theorem startOu_spec (d : Dev nD) (c : Fin 8) : iprop(owns (d : Thread nD τ) (mS ouM (sl c)) fullShare (NV m d c) ∗ Ex d (ouDst d c) ∗ Zero d (s2 cc0_scratch28 (sl c)))
    ⊢ WP d (startOu d c) fun _ => FlOu m d c :=
  copy_out' d (mS ouM (sl c)) (ouDst d c) (s2 cc0_scratch28 (sl c)) (NV m d c) _ rfl (View.dmaCredit_pos _ (by decide))
theorem startPh_spec (d : Dev nD) (c : Fin 8) : iprop(owns (d : Thread nD τ) (mS phM (sl c)) fullShare (ex128 (NB m (xp d) c)) ∗ Ex d (phDst d c) ∗ Zero d (s2 cc0_scratch30 (sl c)))
    ⊢ WP d (startPh d c) fun _ => FlPh m d c :=
  copy_out' d (mS phM (sl c)) (phDst d c) (s2 cc0_scratch30 (sl c)) (ex128 (NB m (xp d) c)) _ rfl (View.dmaCredit_pos _ (by decide))
theorem startCW_spec (d : Dev nD) (s : Fin 2) (dst : Memref sig .tc .hbm S256x2048 .f32) (X : S256x2048.Idx → Elt F .f32) :
    iprop(owns (d : Thread nD τ) (mSW csM s) fullShare X ∗ Ex d dst ∗ Zero d (s2 cc0_scratch29 s))
      ⊢ WP d (startCW s dst) fun _ => Fl d (s2 cc0_scratch29 s) dst.view.dmaCredit iprop(owns (d : Thread nD τ) dst fullShare X ∗ Ecs (F := F) d s) :=
  copy_out' d (mSW csM s) dst (s2 cc0_scratch29 s) X _ rfl (View.dmaCredit_pos _ (by decide))
theorem startCL_spec (d : Dev nD) (s : Fin 2) (dst : Memref sig .tc .hbm S128x2048 .f32) (X : S128x2048.Idx → Elt F .f32) :
    iprop(owns (d : Thread nD τ) (mSL csM s) fullShare X ∗ (owns (d : Thread nD τ) (mSL csM s) fullShare X -∗ Ecs (F := F) d s) ∗ Ex d dst ∗ Zero d (s2 cc0_scratch29 s))
      ⊢ WP d (startCL s dst) fun _ => Fl d (s2 cc0_scratch29 s) dst.view.dmaCredit iprop(owns (d : Thread nD τ) dst fullShare X ∗ Ecs (F := F) d s) :=
  copy_out d (mSL csM s) dst (s2 cc0_scratch29 s) X _ _ rfl (View.dmaCredit_pos _ (by decide))

theorem waitOu_spec (d : Dev nD) (n : Fin 6 → ℕ) (c : Fin 8) : iprop(Rec m K ∗ FlOu m d c ∗ Ow d (OW d n))
    ⊢ WP d (waitOu d c) fun _ => iprop((Dou m d c ∗ Eou (F := F) d (sl c)) ∗ Zero d (s2 cc0_scratch28 (sl c)) ∗ Ow d (OW d n)) :=
  loc_wait m K d 3 (sl c) _ (ouDst d c) _ n
theorem waitPh_spec (d : Dev nD) (n : Fin 6 → ℕ) (c : Fin 8) : iprop(Rec m K ∗ FlPh m d c ∗ Ow d (OW d n))
    ⊢ WP d (waitPh d c) fun _ => iprop((Dph m d c ∗ Eph (F := F) d (sl c)) ∗ Zero d (s2 cc0_scratch30 (sl c)) ∗ Ow d (OW d n)) :=
  loc_wait m K d 5 (sl c) _ (phDst d c) _ n
theorem waitCW_spec (d : Dev nD) (n : Fin 6 → ℕ) (s : Fin 2) (dst : Memref sig .tc .hbm S256x2048 .f32) (D : sProp 𝕄) :
    iprop(Rec m K ∗ Fl d (s2 cc0_scratch29 s) dst.view.dmaCredit D ∗ Ow d (OW d n))
      ⊢ WP d (waitCW s dst) fun _ => iprop(D ∗ Zero d (s2 cc0_scratch29 s) ∗ Ow d (OW d n)) :=
  loc_wait m K d 4 s _ dst D n
theorem waitCL_spec (d : Dev nD) (n : Fin 6 → ℕ) (s : Fin 2) (dst : Memref sig .tc .hbm S128x2048 .f32) (D : sProp 𝕄) :
    iprop(Rec m K ∗ Fl d (s2 cc0_scratch29 s) dst.view.dmaCredit D ∗ Ow d (OW d n))
      ⊢ WP d (waitCL s dst) fun _ => iprop(D ∗ Zero d (s2 cc0_scratch29 s) ∗ Ow d (OW d n)) :=
  loc_wait m K d 4 s _ dst D n

/-! ## The transfers -/

theorem sendX1_spec (d : Dev nD) (c : Fin 8) : iprop(Rec m K ∗ owns (d : Thread nD τ) (mC sxM c) fullShare (SX m d c) ∗ Ex (xp d) (mC rxM c) ∗ STok d 0 c ∗ Ow d (OW d (nX c.val)))
    ⊢ WP d (sendX1 d c) fun _ => iprop(Cr d (cSnd 0 c) ∗ Ow d (OW d (nX (c.val + 1)))) :=
  send m K d 0 c (mC sxM c) (mC rxM c) fullShare (SX m d c) _ _ (OW_nX d c) rfl (BI.Entails.refl _)
    (Entails.of_eq (by show owns (xp d : Thread nD τ) (mC rxM c) fullShare (SX m d c) = owns (xp d : Thread nD τ) (mC rxM c) fullShare (SX m (xp (xp d)) c); rw [xp_xp]))

theorem sendX2_spec (d : Dev nD) (c : Fin 8) (b : ℕ) :
    iprop(Rec m K ∗ owns (d : Thread nD τ) (mH rbM c (hx d)) fullShare.left (NB m d c) ∗ Ex (xp d) (mH rbM c (hx d)) ∗ STok d 1 c ∗ Ow d (OW d (nM c.val b b)))
      ⊢ WP d (sendX2 d c) fun _ => iprop(Cr d (cSnd 1 c) ∗ Ow d (OW d (nM (c.val + 1) b b))) :=
  send m K d 1 c (mH rbM c (hx d)) (mH rbM c (hx d)) fullShare.left (NB m d c) _ _ (OW_nM1 d c b) rfl (BI.Entails.refl _)
    (Entails.of_eq (by show owns (xp d : Thread nD τ) (mH rbM c (hx d)) fullShare (NB m d c) = owns (xp d : Thread nD τ) (mH rbM c (hpx (xp d))) fullShare (NB m (xp (xp d)) c); rw [xp_xp, hpx_xp]))

theorem sendY_spec (d : Dev nD) (c : Fin 8) (a : ℕ) :
    iprop(Rec m K ∗ owns (d : Thread nD τ) (mW rbM c) fullShare.right.left (RB m d c) ∗ Ex (yp d) (mW ryM c) ∗ STok d 2 c ∗ Ow d (OW d (nM a c.val c.val)))
      ⊢ WP d (sendY d c) fun _ => iprop(Cr d (cSnd 2 c) ∗ Ow d (OW d (nM a (c.val + 1) c.val))) :=
  send m K d 2 c (mW rbM c) (mW ryM c) fullShare.right.left (RB m d c) _ _ (OW_nM2 d c a) rfl (BI.Entails.refl _)
    (Entails.of_eq (by show owns (yp d : Thread nD τ) (mW ryM c) fullShare (RB m d c) = owns (yp d : Thread nD τ) (mW ryM c) fullShare (RB m (yp (yp d)) c); rw [yp_yp]))

theorem sendZ_spec (d : Dev nD) (c : Fin 8) (a : ℕ) :
    iprop(Rec m K ∗ owns (d : Thread nD τ) (mW rbM c) fullShare.right.right (RB m d c) ∗ Ex (zp d) (mW rzM c) ∗ STok d 3 c ∗ Ow d (OW d (nM a (c.val + 1) c.val)))
      ⊢ WP d (sendZ d c) fun _ => iprop(Cr d (cSnd 3 c) ∗ Ow d (OW d (nM a (c.val + 1) (c.val + 1)))) :=
  send m K d 3 c (mW rbM c) (mW rzM c) fullShare.right.right (RB m d c) _ _ (OW_nM3 d c a) rfl (BI.Entails.refl _)
    (Entails.of_eq (by show owns (zp d : Thread nD τ) (mW rzM c) fullShare (RB m d c) = owns (zp d : Thread nD τ) (mW rzM c) fullShare (RB m (zp (zp d)) c); rw [zp_zp]))

theorem sendZf_spec (d : Dev nD) (c : Fin 8) :
    iprop(Rec m K ∗ owns (d : Thread nD τ) (mH ryM c 0) fullShare.left (rows 0 (RB m (yp d) c)) ∗ Ex (zp d) (mC zfM c) ∗ STok d 4 c ∗ Ow d (OW d (nF c.val c.val)))
      ⊢ WP d (sendZf d c) fun _ => iprop(Cr d (cSnd 4 c) ∗ Ow d (OW d (nF (c.val + 1) c.val))) :=
  send m K d 4 c (mH ryM c 0) (mC zfM c) fullShare.left (rows 0 (RB m (yp d) c)) _ _ (OW_nF4 d c) rfl (BI.Entails.refl _)
    (Entails.of_eq (by show owns (zp d : Thread nD τ) (mC zfM c) fullShare (rows 0 (RB m (yp d) c)) = owns (zp d : Thread nD τ) (mC zfM c) fullShare (rows 0 (RB m (yp (zp (zp d))) c)); rw [zp_zp]))

theorem sendYf_spec (d : Dev nD) (c : Fin 8) :
    iprop(Rec m K ∗ owns (d : Thread nD τ) (mH rzM c 1) fullShare.left (rows 1 (RB m (zp d) c)) ∗ Ex (yp d) (mC yfM c) ∗ STok d 5 c ∗ Ow d (OW d (nF (c.val + 1) c.val)))
      ⊢ WP d (sendYf d c) fun _ => iprop(Cr d (cSnd 5 c) ∗ Ow d (OW d (nF (c.val + 1) (c.val + 1)))) :=
  send m K d 5 c (mH rzM c 1) (mC yfM c) fullShare.left (rows 1 (RB m (zp d) c)) _ _ (OW_nF5 d c) rfl (BI.Entails.refl _)
    (Entails.of_eq (by show owns (yp d : Thread nD τ) (mC yfM c) fullShare (rows 1 (RB m (zp d) c)) = owns (yp d : Thread nD τ) (mC yfM c) fullShare (rows 1 (RB m (zp (yp (yp d))) c)); rw [yp_yp]))

/-- A wait for a transfer. -/
theorem far_wait (d : Dev nD) (k : Cl) (hk : dutyC k = {0}) (sem : DmaSem sig) (hsem : csem k = .dma sem) {sp sp' : Space} {s₁ s₂ : Shape} {e₁ e₂ : EltTy} (srcw : Memref sig .tc sp' s₁ e₁) (dstw : Memref sig .tc sp s₂ e₂)
    {hsrc hdst} (hN : dstw.view.dmaCredit = amtC k) (n : Fin 6 → ℕ) (hlv : ∀ f (c : Fin 8), n f ≤ c.val → lvC k < lvR f c) :
    iprop(Rec m K ∗ (Cr d k ∗ At0 d k) ∗ Ow d (OW d n))
      ⊢ WP d (Prog.lift (.waitDma2 sem srcw dstw hsrc hdst)) fun _ => iprop((pay m d k 0 ∗ At1 d k) ∗ Ow d (OW d n)) := by
  iintro ⟨#HR, ⟨HC, HA⟩, HO⟩
  ihave HW := (wait_cell m K d k hk (.waitDma2 sem srcw dstw hsrc hdst) dstw.view.dmaCredit (fun Q => (wpE_waitDma2_eq 𝒱₀ (d : Thread nD τ) none Set.univ Q).trans (by rw [hsem])) hN n hlv) $$ [HC HA HO]
  · isplitr; · iexact HR
    isplitl [HC]; · iexact HC
    isplitl [HA]; · iexact HA
    iexact HO
  iapply (WP_mono (d := d) (fun _ => sep_assoc.2)) $$ HW

theorem lv_X1 (d : Dev nD) (c : Fin 8) (a b b' : ℕ) : ∀ f (c' : Fin 8), nM a b b' f ≤ c'.val → lvC (cRcv 0 c) < lvR f c' := by
  intro f c' h
  have := c'.isLt
  fin_cases f <;> simp [nM] at h <;> simp [lvC, lvR] <;> omega
theorem lv_X2 (d : Dev nD) (c : Fin 8) (a b b' : ℕ) (ha : c.val < a) : ∀ f (c' : Fin 8), nM a b b' f ≤ c'.val → lvC (cRcv 1 c) < lvR f c' := by
  intro f c' h
  have := c'.isLt
  have := c.isLt
  fin_cases f <;> simp [nM] at h <;> simp [lvC, lvR] <;> omega
theorem lv_YZ (d : Dev nD) (c : Fin 8) (a b : ℕ) : ∀ f (c' : Fin 8), nF a b f ≤ c'.val → lvC (cRcv 2 c) < lvR f c' := by
  intro f c' h
  have := c'.isLt
  fin_cases f <;> simp [nF] at h <;> simp [lvC, lvR] <;> omega
theorem lv_end (l : ℕ) : ∀ f (c' : Fin 8), nF 8 8 f ≤ c'.val → l < lvR f c' := by
  intro f c' h
  have := c'.isLt
  fin_cases f <;> simp [nF] at h <;> omega

theorem waitX1_spec (d : Dev nD) (c : Fin 8) (a b b' : ℕ) : iprop(Rec m K ∗ (Cr d (cRcv 0 c) ∗ At0 d (cRcv 0 c)) ∗ Ow d (OW d (nM a b b')))
    ⊢ WP d (waitX1 c) fun _ => iprop((owns (d : Thread nD τ) (mC rxM c) fullShare (SX m (xp d) c) ∗ At1 d (cRcv 0 c)) ∗ Ow d (OW d (nM a b b'))) :=
  far_wait m K d (cRcv 0 c) rfl _ rfl _ (mC rxM c) rfl _ (lv_X1 d c a b b')
theorem waitX2_spec (d : Dev nD) (c : Fin 8) (a b b' : ℕ) (ha : c.val < a) : iprop(Rec m K ∗ (Cr d (cRcv 1 c) ∗ At0 d (cRcv 1 c)) ∗ Ow d (OW d (nM a b b')))
    ⊢ WP d (waitX2 d c) fun _ => iprop((owns (d : Thread nD τ) (mH rbM c (hpx d)) fullShare (NB m (xp d) c) ∗ At1 d (cRcv 1 c)) ∗ Ow d (OW d (nM a b b'))) :=
  far_wait m K d (cRcv 1 c) rfl _ rfl _ (mH rbM c (hx d)) rfl _ (lv_X2 d c a b b' ha)
theorem waitY_spec (d : Dev nD) (c : Fin 8) (a b : ℕ) : iprop(Rec m K ∗ (Cr d (cRcv 2 c) ∗ At0 d (cRcv 2 c)) ∗ Ow d (OW d (nF a b)))
    ⊢ WP d (waitY c) fun _ => iprop((owns (d : Thread nD τ) (mW ryM c) fullShare (RB m (yp d) c) ∗ At1 d (cRcv 2 c)) ∗ Ow d (OW d (nF a b))) :=
  far_wait m K d (cRcv 2 c) rfl _ rfl _ (mW ryM c) rfl _ (lv_YZ d c a b)
theorem waitZ_spec (d : Dev nD) (c : Fin 8) (a b : ℕ) : iprop(Rec m K ∗ (Cr d (cRcv 3 c) ∗ At0 d (cRcv 3 c)) ∗ Ow d (OW d (nF a b)))
    ⊢ WP d (waitZ c) fun _ => iprop((owns (d : Thread nD τ) (mW rzM c) fullShare (RB m (zp d) c) ∗ At1 d (cRcv 3 c)) ∗ Ow d (OW d (nF a b))) :=
  far_wait m K d (cRcv 3 c) rfl _ rfl _ (mW rzM c) rfl _ (lv_YZ d c a b)
theorem waitZf_spec (d : Dev nD) (c : Fin 8) : iprop(Rec m K ∗ (Cr d (cRcv 4 c) ∗ At0 d (cRcv 4 c)) ∗ Ow d (OW d (nF 8 8)))
    ⊢ WP d (waitZf c) fun _ => iprop((owns (d : Thread nD τ) (mC zfM c) fullShare (rows 0 (RB m (yp (zp d)) c)) ∗ At1 d (cRcv 4 c)) ∗ Ow d (OW d (nF 8 8))) :=
  far_wait m K d (cRcv 4 c) rfl _ rfl _ (mC zfM c) rfl _ (lv_end _)
theorem waitYf_spec (d : Dev nD) (c : Fin 8) : iprop(Rec m K ∗ (Cr d (cRcv 5 c) ∗ At0 d (cRcv 5 c)) ∗ Ow d (OW d (nF 8 8)))
    ⊢ WP d (waitYf c) fun _ => iprop((owns (d : Thread nD τ) (mC yfM c) fullShare (rows 1 (RB m (zp (yp d)) c)) ∗ At1 d (cRcv 5 c)) ∗ Ow d (OW d (nF 8 8))) :=
  far_wait m K d (cRcv 5 c) rfl _ rfl _ (mC yfM c) rfl _ (lv_end _)

/-- The last waits, one for each transfer sent: its source is back. -/
theorem endX1_spec (d : Dev nD) (c : Fin 8) : iprop(Rec m K ∗ Ow d (OW d (nF 8 8)) ∗ (Cr d (cSnd 0 c) ∗ At0 d (cSnd 0 c)))
    ⊢ WP d (endX1 c) fun _ => iprop(Ow d (OW d (nF 8 8)) ∗ (sndPay m d 0 c ∗ At1 d (cSnd 0 c))) :=
  (sep_mono_right sep_comm.1).trans ((far_wait m K d (cSnd 0 c) rfl _ rfl _ (mC sxM c) rfl _ (lv_end _)).trans (WP_mono fun _ => sep_comm.1))
theorem endX2_spec (d : Dev nD) (c : Fin 8) : iprop(Rec m K ∗ Ow d (OW d (nF 8 8)) ∗ (Cr d (cSnd 1 c) ∗ At0 d (cSnd 1 c)))
    ⊢ WP d (endX2 d c) fun _ => iprop(Ow d (OW d (nF 8 8)) ∗ (sndPay m d 1 c ∗ At1 d (cSnd 1 c))) :=
  (sep_mono_right sep_comm.1).trans ((far_wait m K d (cSnd 1 c) rfl _ rfl _ (mH rbM c (hx d)) rfl _ (lv_end _)).trans (WP_mono fun _ => sep_comm.1))
theorem endY_spec (d : Dev nD) (c : Fin 8) : iprop(Rec m K ∗ Ow d (OW d (nF 8 8)) ∗ (Cr d (cSnd 2 c) ∗ At0 d (cSnd 2 c)))
    ⊢ WP d (endY c) fun _ => iprop(Ow d (OW d (nF 8 8)) ∗ (sndPay m d 2 c ∗ At1 d (cSnd 2 c))) :=
  (sep_mono_right sep_comm.1).trans ((far_wait m K d (cSnd 2 c) rfl _ rfl _ (mW rbM c) rfl _ (lv_end _)).trans (WP_mono fun _ => sep_comm.1))
theorem endZ_spec (d : Dev nD) (c : Fin 8) : iprop(Rec m K ∗ Ow d (OW d (nF 8 8)) ∗ (Cr d (cSnd 3 c) ∗ At0 d (cSnd 3 c)))
    ⊢ WP d (endZ c) fun _ => iprop(Ow d (OW d (nF 8 8)) ∗ (sndPay m d 3 c ∗ At1 d (cSnd 3 c))) :=
  (sep_mono_right sep_comm.1).trans ((far_wait m K d (cSnd 3 c) rfl _ rfl _ (mW rbM c) rfl _ (lv_end _)).trans (WP_mono fun _ => sep_comm.1))
theorem endZf_spec (d : Dev nD) (c : Fin 8) : iprop(Rec m K ∗ Ow d (OW d (nF 8 8)) ∗ (Cr d (cSnd 4 c) ∗ At0 d (cSnd 4 c)))
    ⊢ WP d (endZf c) fun _ => iprop(Ow d (OW d (nF 8 8)) ∗ (sndPay m d 4 c ∗ At1 d (cSnd 4 c))) :=
  (sep_mono_right sep_comm.1).trans ((far_wait m K d (cSnd 4 c) rfl _ rfl _ (mH ryM c 0) rfl _ (lv_end _)).trans (WP_mono fun _ => sep_comm.1))
theorem endYf_spec (d : Dev nD) (c : Fin 8) : iprop(Rec m K ∗ Ow d (OW d (nF 8 8)) ∗ (Cr d (cSnd 5 c) ∗ At0 d (cSnd 5 c)))
    ⊢ WP d (endYf c) fun _ => iprop(Ow d (OW d (nF 8 8)) ∗ (sndPay m d 5 c ∗ At1 d (cSnd 5 c))) :=
  (sep_mono_right sep_comm.1).trans ((far_wait m K d (cSnd 5 c) rfl _ rfl _ (mH rzM c 1) rfl _ (lv_end _)).trans (WP_mono fun _ => sep_comm.1))

end Cert.KernelIdeal.AR

end
-- ==== Proof.KernelIdeal.Steps.lean ====
/-
  Each step of the four loops by what it needs and what it leaves.
-/
module

public import proofs.«01_k».proof.Proof.KernelIdeal.Waits

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-! ## The stored vectors -/

theorem packX_up (X : S128x2048.Idx → Elt F .f32) :
    packX (F := F) (up X) = shapeCast S1x128x2048 (truncf .bf16 (X : FVec F S128x2048 .f32) bitsLt_bf16_f32 : FVec F S128x2048 .bf16) shapeCasts_S128x2048_S1x128x2048 := by
  unfold packX up; rw [shapeCast_shapeCast]
theorem wide_up (X : S128x2048.Idx → Elt F .bf16) : wide (F := F) (up X) = shapeCast S1x128x2048 (ex128 X) shapeCasts_S128x2048_S1x128x2048 := by
  unfold wide up ex128; rw [shapeCast_shapeCast]
theorem wideW_up (X : S256x2048.Idx → Elt F .bf16) : wideW (F := F) (upW X) = shapeCast S1x256x2048 (ex256 X) shapeCasts_S256x2048_S1x256x2048 := by
  unfold wideW upW ex256; rw [shapeCast_shapeCast]

/-! ## The first loop -/

def CX (d : Dev nD) (n : ℕ) : sProp 𝕄 := iprop(SPx m d n ∗ SPx m d (n + 1) ∗ Ow d (OW d (nX n)))
def AX (d : Dev nD) (c : Fin 8) : sProp 𝕄 := iprop(Ex d (mC sxM c) ∗ STok d 0 c ∗ Ex (xp d) (mC rxM c))
def BX (d : Dev nD) (c : Fin 8) : sProp 𝕄 := Cr d (cSnd 0 c)

theorem stepX_spec (d : Dev nD) (c : Fin 8) : iprop(Rec m K ∗ CX m d c.val ∗ AX d c) ⊢ WP d (stepX d c) fun _ => iprop(CX m d (c.val + 1) ∗ BX d c) := by
  unfold CX AX BX stepX
  rw [show SPx m d c.val = FlPx m d c from InS_at _ _ _ _ _ _]
  iintro ⟨#HR, ⟨HI, HI', HO⟩, Hsx, HT, Hrx⟩
  iapply (use (waitPx_spec m K d c (nX c.val))) $$ [HI HO]
  · isplitr; · iexact HR
    isplitl [HI]; · iexact HI
    iexact HO
  iintro ⟨⟨Hb, Ha⟩, Hz, HO⟩
  iapply (useV (load_sq d pxM (rS (sl c)) (fun _ => rfl) S128x2048 squeezes_S1x128x2048_S128x2048 shapeCasts_S128x2048_S1x128x2048 (View.loadsAt_vmem h_S1x128x2048) fullShare (pxV m d c))) $$ [Hb]
  · iexact Hb
  iintro Hb
  iapply (useI (load_ex d sxM (rC c) (fun _ => rfl) S128x2048 squeezes_S1x128x2048_S128x2048 shapeCasts_S128x2048_S1x128x2048 (View.loadsAt_vmem h_S1x128x2048))) $$ [Hsx]
  · iexact Hsx
  iintro Hsx
  iapply (use (store_sq d sxM (rC c) (fun _ => rfl) S128x2048 squeezes_S1x128x2048_S128x2048 shapeCasts_S128x2048_S1x128x2048 (SX m d c) (packX_up (pxV m d c)))) $$ [Hsx]
  · iexact Hsx
  iintro Hsx
  iapply (use (ahead_in d pxM cc0_scratch25 (pxV m d) (arPx m d) c (startPx d) (startPx_spec m d))) $$ [Hb Ha Hz]
  · unfold InIdle
    isplitl [Hb]; · iapply (Ex_of_owns (mS pxM (sl c)) (pxV m d c)); iexact Hb
    isplitl [Hz]; · iexact Hz
    iexact Ha
  iintro HI
  iapply (useLast (sendX1_spec m K d c)) $$ [Hsx HT Hrx HO]
  · isplitr; · iexact HR
    isplitl [Hsx]; · iexact Hsx
    isplitl [Hrx]; · iexact Hrx
    isplitl [HT]; · iexact HT
    iexact HO
  iintro ⟨HC, HO⟩
  isplitr [HC]
  · isplitl [HI']; · iexact HI'
    isplitl [HI]; · iexact HI
    iexact HO
  iexact HC

/-! ## The second loop, first part -/

/-- A load of `gamma`. -/
theorem load_g (d : Dev nD) (g : S2048.Idx → Elt F .f32) {hl} :
    (owns (d : Thread nD τ) gammaM fullShare g : sProp 𝕄)
      ⊢ WPv d (Prog.lift (.load gammaM (Rect.unit (s := S2048) ![0] S2048.size inb_S2048_S2048_0).toLoadRect hl)) fun v => iprop(⌜v = g⌝ ∗ owns (d : Thread nD τ) gammaM fullShare g) := by
  unfold owns WPv
  simp only [Memref.view_whole, View.read_whole, View.set_whole]
  iintro ⟨%f, %hf, H⟩
  subst hf
  iapply (wp_load 𝒱₀ (d : Thread nD τ) none Set.univ (m := gammaM) (hl := hl) (k := fun v => .ret v) (Finset.subset_univ _)) $$ H
  iintro H
  iapply le_wp_ret
  isplitr
  · ipureintro; exact Memref.readAt_unit_zero (Elt F) cc0_stg0_0 (funext fun a => by fin_cases a; rfl) _ f
  iexists f; isplitr; · ipureintro; rfl
  iexact H

theorem compute_spec (d : Dev nD) (c : Fin 8) :
    iprop(owns (d : Thread nD τ) (mS pmM (sl c)) fullShare (pmV m d c) ∗ owns (d : Thread nD τ) (mC rxM c) fullShare (SX m (xp d) c) ∗ owns (d : Thread nD τ) (mS riM (sl c)) fullShare (riV m d c)
        ∗ owns (d : Thread nD τ) gammaM fullShare (gV m d) ∗ Eou (F := F) d (sl c) ∗ Ex d (mH rbM c (hx d)))
      ⊢ WP d (compute d c) fun _ => iprop(owns (d : Thread nD τ) (mS pmM (sl c)) fullShare (pmV m d c) ∗ owns (d : Thread nD τ) (mC rxM c) fullShare (SX m (xp d) c)
        ∗ owns (d : Thread nD τ) (mS riM (sl c)) fullShare (riV m d c) ∗ owns (d : Thread nD τ) gammaM fullShare (gV m d)
        ∗ owns (d : Thread nD τ) (mS ouM (sl c)) fullShare (NV m d c) ∗ owns (d : Thread nD τ) (mH rbM c (hx d)) fullShare (NB m d c)) := by
  unfold compute storeB
  iintro ⟨Hpm, Hrx, Hri, Hg, Hou, Hrb⟩
  iapply (useV (load_sq d pmM (rS (sl c)) (fun _ => rfl) S128x2048 squeezes_S1x128x2048_S128x2048 shapeCasts_S128x2048_S1x128x2048 (View.loadsAt_vmem h_S1x128x2048) fullShare (pmV m d c))) $$ [Hpm]
  · iexact Hpm
  iintro Hpm
  iapply (useV (load_sq d rxM (rC c) (fun _ => rfl) S128x2048 squeezes_S1x128x2048_S128x2048 shapeCasts_S128x2048_S1x128x2048 (View.loadsAt_vmem h_S1x128x2048) fullShare (SX m (xp d) c))) $$ [Hrx]
  · iexact Hrx
  iintro Hrx
  iapply (useV (load_sq d riM (rS (sl c)) (fun _ => rfl) S128x2048 squeezes_S1x128x2048_S128x2048 shapeCasts_S128x2048_S1x128x2048 (View.loadsAt_vmem h_S1x128x2048) fullShare (riV m d c))) $$ [Hri]
  · iexact Hri
  iintro Hri
  iapply (useV (load_g d (gV m d))) $$ [Hg]
  · iexact Hg
  iintro Hg
  iapply (useI (load_ex d ouM (rS (sl c)) (fun _ => rfl) S128x2048 squeezes_S1x128x2048_S128x2048 shapeCasts_S128x2048_S1x128x2048 (View.loadsAt_vmem h_S1x128x2048))) $$ [Hou]
  · iexact Hou
  iintro Hou
  iapply (use (store_sq d ouM (rS (sl c)) (fun _ => rfl) S128x2048 squeezes_S1x128x2048_S128x2048 shapeCasts_S128x2048_S1x128x2048 (NV m d c) rfl)) $$ [Hou]
  · iexact Hou
  iintro Hou
  iapply (useI (load_ex d rbM (rH c (hx d)) (fun _ => rfl) S128x2048 squeezes_S1x128x2048_S128x2048 shapeCasts_S128x2048_S1x128x2048 (View.loadsAt_vmem h_S1x128x2048))) $$ [Hrb]
  · iexact Hrb
  iintro Hrb
  iapply (useLast (store_sq d rbM (rH c (hx d)) (fun _ => rfl) S128x2048 squeezes_S1x128x2048_S128x2048 shapeCasts_S128x2048_S1x128x2048 (NB m d c) rfl)) $$ [Hrb]
  · iexact Hrb
  iintro Hrb
  isplitl [Hpm]; · iexact Hpm
  isplitl [Hrx]; · iexact Hrx
  isplitl [Hri]; · iexact Hri
  isplitl [Hg]; · iexact Hg
  isplitl [Hou]; · iexact Hou
  iexact Hrb

def CN (d : Dev nD) (n : ℕ) : sProp 𝕄 :=
  iprop(owns (d : Thread nD τ) gammaM fullShare (gV m d) ∗ (SPm m d n ∗ SPm m d (n + 1)) ∗ (SRi m d n ∗ SRi m d (n + 1)) ∗ (SOu m d n ∗ SOu m d (n + 1)))
def CO (d : Dev nD) (a b : ℕ) : sProp 𝕄 := Ow d (OW d (nM a b b))
def AN (d : Dev nD) (c : Fin 8) : sProp 𝕄 :=
  iprop((Cr d (cRcv 0 c) ∗ At0 d (cRcv 0 c)) ∗ Ex d (mH rbM c (hx d)) ∗ STok d 1 c ∗ Ex (xp d) (mH rbM c (hx d)) ∗ Ex d (ouDst d c))
def BN (d : Dev nD) (c : Fin 8) : sProp 𝕄 :=
  iprop(At1 d (cRcv 0 c) ∗ Ex d (mC rxM c) ∗ Beh (Dou m d) c ∗ Cr d (cSnd 1 c) ∗ owns (d : Thread nD τ) (mH rbM c (hx d)) fullShare.right (NB m d c))

theorem stepN_spec (d : Dev nD) (c : Fin 8) (b : ℕ) :
    iprop(Rec m K ∗ (CN m d c.val ∗ CO d c.val b) ∗ AN d c) ⊢ WP d (stepN d c) fun _ => iprop((CN m d (c.val + 1) ∗ CO d (c.val + 1) b) ∗ BN m d c) := by
  unfold CN CO AN BN stepN
  rw [show SPm m d c.val = FlPm m d c from InS_at _ _ _ _ _ _, show SRi m d c.val = FlRi m d c from InS_at _ _ _ _ _ _]
  iintro ⟨#HR, ⟨⟨Hg, ⟨HP, HP'⟩, ⟨HI, HI'⟩, ⟨HU, HU'⟩⟩, HO⟩, Hrc, Hrb, HT, Hrb', Hdst⟩
  iapply (use (waitX1_spec m K d c c.val b b)) $$ [Hrc HO]
  · isplitr; · iexact HR
    isplitl [Hrc]; · iexact Hrc
    iexact HO
  iintro ⟨⟨Hrx, Hat⟩, HO⟩
  iapply (use (waitPm_spec m K d c _)) $$ [HP HO]
  · isplitr; · iexact HR
    isplitl [HP]; · iexact HP
    iexact HO
  iintro ⟨⟨Hpm, HpmA⟩, HpmZ, HO⟩
  iapply (use (waitRi_spec m K d c _)) $$ [HI HO]
  · isplitr; · iexact HR
    isplitl [HI]; · iexact HI
    iexact HO
  iintro ⟨⟨Hri, HriA⟩, HriZ, HO⟩
  iapply (use (behind_out d cc0_scratch28 (fun c => (ouDst d c).view.dmaCredit) (Dou m d) (Eou (F := F) d) c (waitOu d) (Ow d (OW d (nM c.val b b))) (Rec m K) (waitOu_spec m K d (nM c.val b b)))) $$ [HU HO]
  · isplitr; · iexact HR
    isplitl [HU]; · iexact HU
    iexact HO
  iintro ⟨Hbeh, Hou, HouZ, HO⟩
  iapply (use (compute_spec m d c)) $$ [Hpm Hrx Hri Hg Hou Hrb]
  · isplitl [Hpm]; · iexact Hpm
    isplitl [Hrx]; · iexact Hrx
    isplitl [Hri]; · iexact Hri
    isplitl [Hg]; · iexact Hg
    isplitl [Hou]; · iexact Hou
    iexact Hrb
  iintro ⟨Hpm, Hrx, Hri, Hg, Hou, Hrb⟩
  iapply (use (ahead_in d pmM cc0_scratch26 (pmV m d) (arPm m d) c (startPm d) (startPm_spec m d))) $$ [Hpm HpmA HpmZ]
  · unfold InIdle
    isplitl [Hpm]; · iapply (Ex_of_owns (mS pmM (sl c)) (pmV m d c)); iexact Hpm
    isplitl [HpmZ]; · iexact HpmZ
    iexact HpmA
  iintro HP
  iapply (use (ahead_in d riM cc0_scratch27 (riV m d) (arRi m d) c (startRi d) (startRi_spec m d))) $$ [Hri HriA HriZ]
  · unfold InIdle
    isplitl [Hri]; · iapply (Ex_of_owns (mS riM (sl c)) (riV m d c)); iexact Hri
    isplitl [HriZ]; · iexact HriZ
    iexact HriA
  iintro HI
  ihave Hrb := (owns_split d (mH rbM c (hx d)) fullShare (NB m d c)) $$ Hrb
  icases Hrb with ⟨HrbL, HrbR⟩
  iapply (use (sendX2_spec m K d c b)) $$ [HrbL Hrb' HT HO]
  · isplitr; · iexact HR
    isplitl [HrbL]; · iexact HrbL
    isplitl [Hrb']; · iexact Hrb'
    isplitl [HT]; · iexact HT
    iexact HO
  iintro ⟨HC, HO⟩
  iapply (useLast (startOu_spec m d c)) $$ [Hou Hdst HouZ]
  · isplitl [Hou]; · iexact Hou
    isplitl [Hdst]; · iexact Hdst
    iexact HouZ
  iintro HU
  isplitl [Hg HP HP' HI HI' HU HU' HO]
  · isplitr [HO]
    · isplitl [Hg]; · iexact Hg
      isplitl [HP HP']
      · isplitl [HP']; · iexact HP'
        iexact HP
      isplitl [HI HI']
      · isplitl [HI']; · iexact HI'
        iexact HI
      isplitl [HU']; · iexact HU'
      iapply (Entails.of_eq (OutS_next d cc0_scratch28 (fun c => (ouDst d c).view.dmaCredit) (Dou m d) (Eou (F := F) d) c).symm)
      iexact HU
    iexact HO
  isplitl [Hat]; · iexact Hat
  isplitl [Hrx]; · iapply (Ex_of_owns (mC rxM c) (SX m (xp d) c)); iexact Hrx
  isplitl [Hbeh]; · iexact Hbeh
  isplitl [HC]; · iexact HC
  iexact HrbR

/-! ## The second loop, second part -/

theorem widenPh_spec (d : Dev nD) (c : Fin 8) : iprop(owns (d : Thread nD τ) (mH rbM c (hpx d)) fullShare.left (NB m (xp d) c) ∗ Eph (F := F) d (sl c))
    ⊢ WP d (widenPh d c) fun _ => iprop(owns (d : Thread nD τ) (mH rbM c (hpx d)) fullShare.left (NB m (xp d) c) ∗ owns (d : Thread nD τ) (mS phM (sl c)) fullShare (ex128 (NB m (xp d) c))) := by
  unfold widenPh
  iintro ⟨Hrb, Hph⟩
  iapply (useV (load_sq d rbM (rH c (hpx d)) (fun _ => rfl) S128x2048 squeezes_S1x128x2048_S128x2048 shapeCasts_S128x2048_S1x128x2048 (View.loadsAt_vmem h_S1x128x2048) fullShare.left (NB m (xp d) c))) $$ [Hrb]
  · iexact Hrb
  iintro Hrb
  iapply (useI (load_ex d phM (rS (sl c)) (fun _ => rfl) S128x2048 squeezes_S1x128x2048_S128x2048 shapeCasts_S128x2048_S1x128x2048 (View.loadsAt_vmem h_S1x128x2048))) $$ [Hph]
  · iexact Hph
  iintro Hph
  iapply (useLast (store_sq d phM (rS (sl c)) (fun _ => rfl) S128x2048 squeezes_S1x128x2048_S128x2048 shapeCasts_S128x2048_S1x128x2048 (ex128 (NB m (xp d) c)) (wide_up (NB m (xp d) c)))) $$ [Hph]
  · iexact Hph
  iintro Hph
  isplitl [Hrb]; · iexact Hrb
  iexact Hph

def CG (d : Dev nD) (n : ℕ) : sProp 𝕄 := iprop(SPh m d n ∗ SPh m d (n + 1))
def AG (d : Dev nD) (c : Fin 8) : sProp 𝕄 :=
  iprop((Cr d (cRcv 1 c) ∗ At0 d (cRcv 1 c)) ∗ STok d 2 c ∗ STok d 3 c ∗ Ex (yp d) (mW ryM c) ∗ Ex (zp d) (mW rzM c) ∗ Ex d (phDst d c))
def BG (d : Dev nD) (c : Fin 8) : sProp 𝕄 :=
  iprop(At1 d (cRcv 0 c) ∗ At1 d (cRcv 1 c) ∗ Ex d (mC rxM c) ∗ Beh (Dou m d) c ∗ Beh (Dph m d) c ∗ Cr d (cSnd 1 c) ∗ Cr d (cSnd 2 c) ∗ Cr d (cSnd 3 c)
    ∗ owns (d : Thread nD τ) (mH rbM c (hpx d)) fullShare.left (NB m (xp d) c))

theorem stepG_spec (d : Dev nD) (c : Fin 8) (a : ℕ) (ha : c.val < a) :
    iprop(Rec m K ∗ (CG m d c.val ∗ CO d a c.val) ∗ AG d c ∗ BN m d c) ⊢ WP d (stepG d c) fun _ => iprop((CG m d (c.val + 1) ∗ CO d a (c.val + 1)) ∗ BG m d c) := by
  unfold CG CO AG BN BG stepG
  iintro ⟨#HR, ⟨⟨HU, HU'⟩, HO⟩, ⟨Hrc, HT2, HT3, Hy, Hz, Hdst⟩, Hat, Hrx, Hbo, HC1, HrbR⟩
  iapply (use (waitX2_spec m K d c a c.val c.val ha)) $$ [Hrc HO]
  · isplitr; · iexact HR
    isplitl [Hrc]; · iexact Hrc
    iexact HO
  iintro ⟨⟨Hp, Hat'⟩, HO⟩
  ihave Hp := (owns_split d (mH rbM c (hpx d)) fullShare (NB m (xp d) c)) $$ Hp
  icases Hp with ⟨HpL, HpR⟩
  have hj : iprop(owns (d : Thread nD τ) (mH rbM c (hx d)) fullShare.right (NB m d c) ∗ owns (d : Thread nD τ) (mH rbM c (hpx d)) fullShare.right (NB m (xp d) c))
      ⊢ (owns (d : Thread nD τ) (mW rbM c) fullShare.right (RB m d c) : sProp 𝕄) := joinHx d d rbM c fullShare.right (NB m d c) (NB m (xp d) c) (m _)
  ihave HW := hj $$ [HrbR HpR]
  · isplitl [HrbR]; · iexact HrbR
    iexact HpR
  ihave HW := (owns_split d (mW rbM c) fullShare.right (RB m d c)) $$ HW
  icases HW with ⟨HWL, HWR⟩
  iapply (use (sendY_spec m K d c a)) $$ [HWL Hy HT2 HO]
  · isplitr; · iexact HR
    isplitl [HWL]; · iexact HWL
    isplitl [Hy]; · iexact Hy
    isplitl [HT2]; · iexact HT2
    iexact HO
  iintro ⟨HC2, HO⟩
  iapply (use (sendZ_spec m K d c a)) $$ [HWR Hz HT3 HO]
  · isplitr; · iexact HR
    isplitl [HWR]; · iexact HWR
    isplitl [Hz]; · iexact Hz
    isplitl [HT3]; · iexact HT3
    iexact HO
  iintro ⟨HC3, HO⟩
  iapply (use (behind_out d cc0_scratch30 (fun c => (phDst d c).view.dmaCredit) (Dph m d) (Eph (F := F) d) c (waitPh d) (Ow d (OW d (nM a (c.val + 1) (c.val + 1)))) (Rec m K) (waitPh_spec m K d (nM a (c.val + 1) (c.val + 1))))) $$ [HU HO]
  · isplitr; · iexact HR
    isplitl [HU]; · iexact HU
    iexact HO
  iintro ⟨Hbeh, Hph, HphZ, HO⟩
  iapply (use (widenPh_spec m d c)) $$ [HpL Hph]
  · isplitl [HpL]; · iexact HpL
    iexact Hph
  iintro ⟨HpL, Hph⟩
  iapply (useLast (startPh_spec m d c)) $$ [Hph Hdst HphZ]
  · isplitl [Hph]; · iexact Hph
    isplitl [Hdst]; · iexact Hdst
    iexact HphZ
  iintro HU
  isplitl [HU HU' HO]
  · isplitr [HO]
    · isplitl [HU']; · iexact HU'
      iapply (Entails.of_eq (OutS_next d cc0_scratch30 (fun c => (phDst d c).view.dmaCredit) (Dph m d) (Eph (F := F) d) c).symm)
      iexact HU
    iexact HO
  isplitl [Hat]; · iexact Hat
  isplitl [Hat']; · iexact Hat'
  isplitl [Hrx]; · iexact Hrx
  isplitl [Hbo]; · iexact Hbo
  isplitl [Hbeh]; · iexact Hbeh
  isplitl [HC1]; · iexact HC1
  isplitl [HC2]; · iexact HC2
  isplitl [HC3]; · iexact HC3
  iexact HpL

/-! ## The third loop -/

theorem takeW_spec (d : Dev nD) (M : Memref sig .tc .vmem S8x256x2048 .bf16) (c : Fin 8) (dst : Memref sig .tc .hbm S256x2048 .f32) (q : PosShare TreeShare) (X : S256x2048.Idx → Elt F .bf16) :
    iprop(owns (d : Thread nD τ) (mW M c) q X ∗ Ecs (F := F) d (sl c) ∗ Ex d dst ∗ Zero d (s2 cc0_scratch29 (sl c)))
      ⊢ WP d (takeW M c dst) fun _ => iprop(owns (d : Thread nD τ) (mW M c) q X
        ∗ Fl d (s2 cc0_scratch29 (sl c)) dst.view.dmaCredit iprop(owns (d : Thread nD τ) dst fullShare (ex256 X) ∗ Ecs (F := F) d (sl c))) := by
  unfold takeW
  iintro ⟨HM, Hcs, Hdst, Hz⟩
  iapply (useV (load_sq d M (rW c) (fun _ => rfl) S256x2048 squeezes_S1x256x2048_S256x2048 shapeCasts_S256x2048_S1x256x2048 (View.loadsAt_vmem h_S1x256x2048) q X)) $$ [HM]
  · iexact HM
  iintro HM
  iapply (useI (load_ex d csM (rSW (sl c)) (fun _ => rfl) S256x2048 squeezes_S1x256x2048_S256x2048 shapeCasts_S256x2048_S1x256x2048 (View.loadsAt_vmem h_S1x256x2048))) $$ [Hcs]
  · iexact Hcs
  iintro Hcs
  iapply (use (store_sq d csM (rSW (sl c)) (fun _ => rfl) S256x2048 squeezes_S1x256x2048_S256x2048 shapeCasts_S256x2048_S1x256x2048 (ex256 X) (wideW_up X))) $$ [Hcs]
  · iexact Hcs
  iintro Hcs
  iapply (useLast (startCW_spec d (sl c) dst (ex256 X))) $$ [Hcs Hdst Hz]
  · isplitl [Hcs]; · iexact Hcs
    isplitl [Hdst]; · iexact Hdst
    iexact Hz
  iintro HF
  isplitl [HM]; · iexact HM
  iexact HF

theorem takeL_spec (d : Dev nD) (M : Memref sig .tc .vmem S8x128x2048 .bf16) (c : Fin 8) (dst : Memref sig .tc .hbm S128x2048 .f32) (X : S128x2048.Idx → Elt F .bf16) :
    iprop(owns (d : Thread nD τ) (mC M c) fullShare X ∗ Ecs (F := F) d (sl c) ∗ Ex d dst ∗ Zero d (s2 cc0_scratch29 (sl c)))
      ⊢ WP d (takeL M c dst) fun _ => iprop(owns (d : Thread nD τ) (mC M c) fullShare X
        ∗ Fl d (s2 cc0_scratch29 (sl c)) dst.view.dmaCredit iprop(owns (d : Thread nD τ) dst fullShare (ex128 X) ∗ Ecs (F := F) d (sl c))) := by
  unfold takeL
  iintro ⟨HM, Hcs, Hdst, Hz⟩
  iapply (useV (load_sq d M (rC c) (fun _ => rfl) S128x2048 squeezes_S1x128x2048_S128x2048 shapeCasts_S128x2048_S1x128x2048 (View.loadsAt_vmem h_S1x128x2048) fullShare X)) $$ [HM]
  · iexact HM
  iintro HM
  ihave Hcs := (low d csM (sl c)) $$ Hcs
  icases Hcs with ⟨Hcs, Hback⟩
  iapply (useI (load_ex d csM (rSL (sl c)) (fun _ => rfl) S128x2048 squeezes_S1x128x2048_S128x2048 shapeCasts_S128x2048_S1x128x2048 (View.loadsAt_vmem h_S1x128x2048))) $$ [Hcs]
  · iexact Hcs
  iintro Hcs
  iapply (use (store_sq d csM (rSL (sl c)) (fun _ => rfl) S128x2048 squeezes_S1x128x2048_S128x2048 shapeCasts_S128x2048_S1x128x2048 (ex128 X) (wide_up X))) $$ [Hcs]
  · iexact Hcs
  iintro Hcs
  iapply (useLast (startCL_spec d (sl c) dst (ex128 X))) $$ [Hcs Hback Hdst Hz]
  · isplitl [Hcs]; · iexact Hcs
    isplitl [Hback]; · iapply Hback
    isplitl [Hdst]; · iexact Hdst
    iexact Hz
  iintro HF
  isplitl [HM]; · iexact HM
  iexact HF

def CF (d : Dev nD) (n : ℕ) : sProp 𝕄 := iprop(SCs m d n ∗ SCs m d (n + 1) ∗ Ow d (OW d (nF n n)))
def AF (d : Dev nD) (c : Fin 8) : sProp 𝕄 :=
  iprop((Cr d (cRcv 2 c) ∗ At0 d (cRcv 2 c)) ∗ (Cr d (cRcv 3 c) ∗ At0 d (cRcv 3 c)) ∗ STok d 4 c ∗ STok d 5 c ∗ Ex (zp d) (mC zfM c) ∗ Ex (yp d) (mC yfM c) ∗ Ex d (yDst d c) ∗ Ex d (zDst d c))
def BF (d : Dev nD) (c : Fin 8) : sProp 𝕄 :=
  iprop(At1 d (cRcv 2 c) ∗ At1 d (cRcv 3 c) ∗ Cr d (cSnd 4 c) ∗ Cr d (cSnd 5 c) ∗ Dy m d c ∗ Beh (Dz m d) c
    ∗ (owns (d : Thread nD τ) (mW ryM c) fullShare.right (RB m (yp d) c) ∗ owns (d : Thread nD τ) (mH ryM c 1) fullShare.left (rows 1 (RB m (yp d) c)))
    ∗ (owns (d : Thread nD τ) (mW rzM c) fullShare.right (RB m (zp d) c) ∗ owns (d : Thread nD τ) (mH rzM c 0) fullShare.left (rows 0 (RB m (zp d) c))))

theorem stepF_spec (d : Dev nD) (c : Fin 8) :
    iprop(Rec m K ∗ CF m d c.val ∗ AF d c) ⊢ WP d (stepF d c) fun _ => iprop(CF m d (c.val + 1) ∗ BF m d c) := by
  unfold CF AF BF stepF
  iintro ⟨#HR, ⟨HU, HU', HO⟩, HrY, HrZ, HT4, HT5, Hzf, Hyf, HyD, HzD⟩
  iapply (use (waitY_spec m K d c c.val c.val)) $$ [HrY HO]
  · isplitr; · iexact HR
    isplitl [HrY]; · iexact HrY
    iexact HO
  iintro ⟨⟨Hy, HatY⟩, HO⟩
  ihave Hy := (owns_split d (mW ryM c) fullShare (RB m (yp d) c)) $$ Hy
  icases Hy with ⟨HyL, HyR⟩
  ihave HyL := (splitH d ryM c fullShare.left (RB m (yp d) c)) $$ HyL
  icases HyL with ⟨Hy0, Hy1⟩
  iapply (use (sendZf_spec m K d c)) $$ [Hy0 Hzf HT4 HO]
  · isplitr; · iexact HR
    isplitl [Hy0]; · iexact Hy0
    isplitl [Hzf]; · iexact Hzf
    isplitl [HT4]; · iexact HT4
    iexact HO
  iintro ⟨HC4, HO⟩
  iapply (use (behind_out d cc0_scratch29 (fun c => (zDst d c).view.dmaCredit) (Dz m d) (Ecs (F := F) d) c (fun c' => waitCW (sl c') (zDst d c')) (Ow d (OW d (nF (c.val + 1) c.val))) (Rec m K)
    (fun c' => waitCW_spec m K d (nF (c.val + 1) c.val) (sl c') (zDst d c') iprop(Dz m d c' ∗ Ecs (F := F) d (sl c'))))) $$ [HU HO]
  · isplitr; · iexact HR
    isplitl [HU]; · iexact HU
    iexact HO
  iintro ⟨Hbeh, Hcs, HcsZ, HO⟩
  iapply (use (takeW_spec d ryM c (yDst d c) fullShare.right (RB m (yp d) c))) $$ [HyR Hcs HyD HcsZ]
  · isplitl [HyR]; · iexact HyR
    isplitl [Hcs]; · iexact Hcs
    isplitl [HyD]; · iexact HyD
    iexact HcsZ
  iintro ⟨HyR, HF⟩
  iapply (use (waitZ_spec m K d c (c.val + 1) c.val)) $$ [HrZ HO]
  · isplitr; · iexact HR
    isplitl [HrZ]; · iexact HrZ
    iexact HO
  iintro ⟨⟨Hz, HatZ⟩, HO⟩
  ihave Hz := (owns_split d (mW rzM c) fullShare (RB m (zp d) c)) $$ Hz
  icases Hz with ⟨HzL, HzR⟩
  ihave HzL := (splitH d rzM c fullShare.left (RB m (zp d) c)) $$ HzL
  icases HzL with ⟨Hz0, Hz1⟩
  iapply (use (sendYf_spec m K d c)) $$ [Hz1 Hyf HT5 HO]
  · isplitr; · iexact HR
    isplitl [Hz1]; · iexact Hz1
    isplitl [Hyf]; · iexact Hyf
    isplitl [HT5]; · iexact HT5
    iexact HO
  iintro ⟨HC5, HO⟩
  iapply (use (waitCW_spec m K d (nF (c.val + 1) (c.val + 1)) (sl c) (yDst d c) iprop(owns (d : Thread nD τ) (yDst d c) fullShare (ex256 (RB m (yp d) c)) ∗ Ecs (F := F) d (sl c)))) $$ [HF HO]
  · isplitr; · iexact HR
    isplitl [HF]; · iexact HF
    iexact HO
  iintro ⟨⟨HyD, Hcs⟩, HcsZ, HO⟩
  iapply (useLast (takeW_spec d rzM c (zDst d c) fullShare.right (RB m (zp d) c))) $$ [HzR Hcs HzD HcsZ]
  · isplitl [HzR]; · iexact HzR
    isplitl [Hcs]; · iexact Hcs
    isplitl [HzD]; · iexact HzD
    iexact HcsZ
  iintro ⟨HzR, HF⟩
  isplitl [HF HU' HO]
  · isplitl [HU']; · iexact HU'
    isplitl [HF]
    · have e : Fl d (s2 cc0_scratch29 (sl c)) (zDst d c).view.dmaCredit iprop(owns (d : Thread nD τ) (zDst d c) fullShare (ex256 (RB m (zp d) c)) ∗ Ecs (F := F) d (sl c)) ⊢ SCs m d (c.val + 1 + 1) :=
        Entails.of_eq (OutS_next d cc0_scratch29 (fun c => (zDst d c).view.dmaCredit) (Dz m d) (Ecs (F := F) d) c).symm
      iapply e; iexact HF
    iexact HO
  isplitl [HatY]; · iexact HatY
  isplitl [HatZ]; · iexact HatZ
  isplitl [HC4]; · iexact HC4
  isplitl [HC5]; · iexact HC5
  isplitl [HyD]; · unfold Dy; iexact HyD
  isplitl [Hbeh]; · iexact Hbeh
  isplitl [HyR Hy1]
  · isplitl [HyR]; · iexact HyR
    iexact Hy1
  isplitl [HzR]; · iexact HzR
  iexact Hz0

/-! ## The last loop -/

/-- The chunk six ahead. -/
def six (c : Fin 8) : Fin 8 := ⟨(c.val + 6) % 8, Nat.mod_lt _ (by decide)⟩

/-- The staging slot of step `n` of the last loop: still the third loop's copy in the first two steps, then the step's two before. -/
def SL (d : Dev nD) (n : ℕ) : sProp 𝕄 :=
  if 2 ≤ n then OutS d cc0_scratch29 (fun c => (yfDst d c).view.dmaCredit) (Dyf m d) (Ecs (F := F) d) n else SCs m d (n + 8)
/-- What the wait for it brings. -/
def Prev (d : Dev nD) (c : Fin 8) : sProp 𝕄 := if 2 ≤ c.val then Dyf m d (back c.val) else Dz m d (six c)

def CL (d : Dev nD) (n : ℕ) : sProp 𝕄 := iprop(SL m d n ∗ SL m d (n + 1) ∗ Ow d (OW d (nF 8 8)))
def AL (d : Dev nD) (c : Fin 8) : sProp 𝕄 :=
  iprop((Cr d (cRcv 4 c) ∗ At0 d (cRcv 4 c)) ∗ (Cr d (cRcv 5 c) ∗ At0 d (cRcv 5 c)) ∗ Ex d (zfDst d c) ∗ Ex d (yfDst d c))
def BL (d : Dev nD) (c : Fin 8) : sProp 𝕄 :=
  iprop(At1 d (cRcv 4 c) ∗ At1 d (cRcv 5 c) ∗ Ex d (mC zfM c) ∗ Ex d (mC yfM c) ∗ Dzf m d c ∗ Prev m d c)

theorem waitPrev_spec (d : Dev nD) (c : Fin 8) : iprop(Rec m K ∗ SL m d c.val ∗ Ow d (OW d (nF 8 8)))
    ⊢ WP d (waitPrev d c) fun _ => iprop((Prev m d c ∗ Ecs (F := F) d (sl c)) ∗ Zero d (s2 cc0_scratch29 (sl c)) ∗ Ow d (OW d (nF 8 8))) := by
  unfold waitPrev SL Prev
  by_cases h : 2 ≤ c.val
  · rw [if_pos h, if_pos h, if_pos h, back_val c h]
    have e : OutS d cc0_scratch29 (fun c => (yfDst d c).view.dmaCredit) (Dyf m d) (Ecs (F := F) d) c.val
        = Fl d (s2 cc0_scratch29 (sl c)) (yfDst d (back c.val)).view.dmaCredit iprop(Dyf m d (back c.val) ∗ Ecs (F := F) d (sl c)) := by
      unfold OutS; rw [if_pos h, ← sl_eq]
    rw [e]
    exact waitCL_spec m K d (nF 8 8) (sl c) (yfDst d (back c.val)) iprop(Dyf m d (back c.val) ∗ Ecs (F := F) d (sl c))
  · rw [if_neg h, if_neg h, if_neg h]
    have e : SCs m d (c.val + 8) = Fl d (s2 cc0_scratch29 (sl c)) (zDst d (six c)).view.dmaCredit iprop(Dz m d (six c) ∗ Ecs (F := F) d (sl c)) := by
      have e1 : slN (c.val + 8) = sl c := Fin.ext (by show (c.val + 8) % 2 = c.val % 2; omega)
      have e2 : back (c.val + 8) = six c := Fin.ext (by show (c.val + 8 - 2) % 8 = (c.val + 6) % 8; omega)
      show OutS _ _ _ _ _ _ = _
      unfold OutS; rw [if_pos (by omega), e1, e2]
    rw [e]
    exact waitCW_spec m K d (nF 8 8) (sl c) (zDst d (six c)) iprop(Dz m d (six c) ∗ Ecs (F := F) d (sl c))

theorem stepL_spec (d : Dev nD) (c : Fin 8) :
    iprop(Rec m K ∗ CL m d c.val ∗ AL d c) ⊢ WP d (stepL d c) fun _ => iprop(CL m d (c.val + 1) ∗ BL m d c) := by
  unfold CL AL BL stepL
  iintro ⟨#HR, ⟨HU, HU', HO⟩, Hr4, Hr5, HzD, HyD⟩
  iapply (use (waitZf_spec m K d c)) $$ [Hr4 HO]
  · isplitr; · iexact HR
    isplitl [Hr4]; · iexact Hr4
    iexact HO
  iintro ⟨⟨Hzf, Hat4⟩, HO⟩
  iapply (use (waitPrev_spec m K d c)) $$ [HU HO]
  · isplitr; · iexact HR
    isplitl [HU]; · iexact HU
    iexact HO
  iintro ⟨⟨Hprev, Hcs⟩, HcsZ, HO⟩
  iapply (use (takeL_spec d zfM c (zfDst d c) (rows 0 (RB m (yp (zp d)) c)))) $$ [Hzf Hcs HzD HcsZ]
  · isplitl [Hzf]; · iexact Hzf
    isplitl [Hcs]; · iexact Hcs
    isplitl [HzD]; · iexact HzD
    iexact HcsZ
  iintro ⟨Hzf, HF⟩
  iapply (use (waitYf_spec m K d c)) $$ [Hr5 HO]
  · isplitr; · iexact HR
    isplitl [Hr5]; · iexact Hr5
    iexact HO
  iintro ⟨⟨Hyf, Hat5⟩, HO⟩
  iapply (use (waitCL_spec m K d (nF 8 8) (sl c) (zfDst d c) iprop(owns (d : Thread nD τ) (zfDst d c) fullShare (ex128 (rows 0 (RB m (yp (zp d)) c))) ∗ Ecs (F := F) d (sl c)))) $$ [HF HO]
  · isplitr; · iexact HR
    isplitl [HF]; · iexact HF
    iexact HO
  iintro ⟨⟨HzD, Hcs⟩, HcsZ, HO⟩
  iapply (useLast (takeL_spec d yfM c (yfDst d c) (rows 1 (RB m (zp (yp d)) c)))) $$ [Hyf Hcs HyD HcsZ]
  · isplitl [Hyf]; · iexact Hyf
    isplitl [Hcs]; · iexact Hcs
    isplitl [HyD]; · iexact HyD
    iexact HcsZ
  iintro ⟨Hyf, HF⟩
  isplitl [HF HU' HO]
  · isplitl [HU']; · iexact HU'
    isplitl [HF]
    · have e : SL m d (c.val + 1 + 1) = OutFl d cc0_scratch29 (fun c => (yfDst d c).view.dmaCredit) (Dyf m d) (Ecs (F := F) d) c := by
        unfold SL; rw [if_pos (by omega)]; exact OutS_next d cc0_scratch29 (fun c => (yfDst d c).view.dmaCredit) (Dyf m d) (Ecs (F := F) d) c
      have e' : Fl d (s2 cc0_scratch29 (sl c)) (yfDst d c).view.dmaCredit iprop(owns (d : Thread nD τ) (yfDst d c) fullShare (ex128 (rows 1 (RB m (zp (yp d)) c))) ∗ Ecs (F := F) d (sl c)) ⊢ SL m d (c.val + 1 + 1) :=
        Entails.of_eq e.symm
      iapply e'; iexact HF
    iexact HO
  isplitl [Hat4]; · iexact Hat4
  isplitl [Hat5]; · iexact Hat5
  isplitl [Hzf]; · iapply (Ex_of_owns (mC zfM c) (rows 0 (RB m (yp (zp d)) c))); iexact Hzf
  isplitl [Hyf]; · iapply (Ex_of_owns (mC yfM c) (rows 1 (RB m (zp (yp d)) c))); iexact Hyf
  isplitl [HzD]; · unfold Dzf; iexact HzD
  iexact Hprev

end Cert.KernelIdeal.AR

end
-- ==== Proof.KernelIdeal.Hand.lean ====
/-
  The handshake and the first copies.
-/
module

public import proofs.«01_k».proof.Proof.KernelIdeal.Steps

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-! ## What is owed at first -/

/-- The unit device `d` owes its neighbour along axis `k` on the entry handshake's cell, -/
abbrev tB (d : Dev nD) (k : Fin 3) : CellTallies nD τ sig Unit := tallyAt (cell (ax k d) cBar) () 1
/-- and on the second handshake's. -/
abbrev tR (d : Dev nD) (k : Fin 3) : CellTallies nD τ sig Unit := tallyAt (cell (ax k d) (cRv k)) () 1

/-- What device `d` owes after the first three signals, -/
def O₁ (d : Dev nD) : CellTallies nD τ sig Unit := OW d (nX 0) + tR d 2 + tR d 1 + tR d 0
/-- and before them. -/
def O₀ (d : Dev nD) : CellTallies nD τ sig Unit := O₁ d + tB d 2 + tB d 1 + tB d 0

theorem O₁_pos {d : Dev nD} {g : GSem nD τ sig} {u : Unit} (h : 0 < O₁ d g u) : ∃ d' k, g = cell d' k ∧ 1 < lvC k := by
  unfold O₁ at h
  simp only [Pi.add_apply, Finsupp.add_apply] at h
  by_cases h0 : 0 < OW d (nX 0) g u
  · obtain ⟨f, c, -, rfl⟩ := OW_pos h0
    refine ⟨_, _, rfl, ?_⟩
    show 1 < lvR f c
    have := c.isLt
    fin_cases f <;> simp only [lvR] <;> omega
  by_cases h2 : 0 < tR d 2 g u
  · exact ⟨_, _, (Pipeline.tallyAt_pos h2).1, by show 1 < 2; omega⟩
  by_cases h1 : 0 < tR d 1 g u
  · exact ⟨_, _, (Pipeline.tallyAt_pos h1).1, by show 1 < 2; omega⟩
  have h0' : 0 < tR d 0 g u := by omega
  exact ⟨_, _, (Pipeline.tallyAt_pos h0').1, by show 1 < 2; omega⟩

/-! ## The handshake -/

/-- A signal to the neighbour along axis `k` on the entry handshake's cell. -/
theorem signalB (d : Dev nD) (k : Fin 3) (O : CellTallies nD τ sig Unit) :
    iprop(Rec m K ∗ barPay (F := F) (ax k d) k ∗ Tok (ax k d) cBar k ∗ Ow d (O + tB d k))
      ⊢ WP d (semSignalWord (ax k d) barS 1#32) fun _ => Ow d O := by
  unfold Ow WP WPv semSignalWord
  iintro ⟨#HR, Hp, Ht, ⟨%W, HO⟩⟩
  iapply (Rounds.wp_signal 𝒱₀ ER (Rd m) (d : Thread nD τ) none (dst := (ax k d : Thread nD τ)) (κ := K (ax k d, cBar)) (sem := barS) (r := 0) (d := k)
      (k := fun v => .ret v) (by have h := duties_cell m (ax k d) cBar; exact h ▸ Finset.mem_univ _) ((amount_cell m (ax k d) cBar k).trans (by decide)) () O rfl) $$ [HO Ht Hp]
  · isplitr; · iapply (Rec_inv m K (ax k d) cBar); iexact HR
    isplitl [HO]; · iexact HO
    isplitl [Ht]; · iexact Ht
    isplitl [Hp]
    · have e : barPay (F := F) (ax k d) k ⊢ (Rd m).payload ((ax k d : Thread nD τ), .reg barS) 0 k := Entails.of_eq (payload_cell m (ax k d) cBar k).symm
      iapply e; iexact Hp
    iapply (Rec_reached m K (ax k d) cBar); iexact HR
  iintro HO
  iapply le_wp_ret
  iexists W; iexact HO

/-- A signal to the neighbour along axis `k` on the second handshake's cell. -/
theorem signalR (d : Dev nD) (k : Fin 3) (O : CellTallies nD τ sig Unit) :
    iprop(Rec m K ∗ Tok (ax k d) (cRv k) 0 ∗ Ow d (O + tR d k))
      ⊢ WP d (semSignalWord (ax k d) (rvS k) 1#32) fun _ => Ow d O := by
  unfold Ow WP WPv semSignalWord
  iintro ⟨#HR, Ht, ⟨%W, HO⟩⟩
  iapply (Rounds.wp_signal 𝒱₀ ER (Rd m) (d : Thread nD τ) none (dst := (ax k d : Thread nD τ)) (κ := K (ax k d, cRv k)) (sem := rvS k) (r := 0) (d := 0)
      (k := fun v => .ret v) (by have h := duties_cell m (ax k d) (cRv k); exact h ▸ Finset.mem_singleton_self _) ((amount_cell m (ax k d) (cRv k) 0).trans rfl) () O rfl) $$ [HO Ht]
  · isplitr; · iapply (Rec_inv m K (ax k d) (cRv k)); iexact HR
    isplitl [HO]; · iexact HO
    isplitl [Ht]; · iexact Ht
    isplitr
    · have e : (iprop(emp) : sProp 𝕄) ⊢ (Rd m).payload ((ax k d : Thread nD τ), .reg (rvS k)) 0 0 := Entails.of_eq (payload_cell m (ax k d) (cRv k) 0).symm
      iapply e; iempintro
    iapply (Rec_reached m K (ax k d) (cRv k)); iexact HR
  iintro HO
  iapply le_wp_ret
  iexists W; iexact HO

/-- The wait for the three neighbours. -/
theorem waitB (d : Dev nD) :
    iprop(Rec m K ∗ Cr d cBar ∗ At0 d cBar ∗ Ow d (O₁ d))
      ⊢ WP d (semWaitWord barS 3#32) fun _ => iprop((bigSep Finset.univ fun k => barPay (F := F) d k) ∗ At1 d cBar ∗ Ow d (O₁ d)) := by
  have hx : (0 : ℕ) + 3 = (Rd m).expect (cell d cBar) 0 := by rw [expect_cell]; decide
  unfold Ow WP WPv semWaitWord
  iintro ⟨#HR, HC, Ha, ⟨%W, HO⟩⟩
  iapply (Rounds.wp_wait_rest_token 𝒱₀ ER (Rd m) (d : Thread nD τ) none (κ := K (d, cBar)) (wpE_semWait_eq 𝒱₀ (d : Thread nD τ) none Set.univ) (Set.mem_univ _) (k := fun v => .ret v) () (O := O₁ d) (W := W)
    (R := 0) (m := 0) (T := ∅) hx) $$ [HC Ha HO]
  · isplitr; · iapply (Rec_inv m K d cBar); iexact HR
    isplitl [HC]; · iexact HC
    isplitl [HO]; · iexact HO
    isplitr
    · iapply (mayWait d (csem cBar) (O₁ d) fun g u h => by rw [lvS_csem]; exact O₁_pos h); iapply (Rec_lev m K); iexact HR
    iexact Ha
  iintro ⟨HO, Ha, -, Hp⟩
  have e : bigSep ((Rd m).duties ((d : Thread nD τ), .reg barS) 0 \ ∅) (fun j => (Rd m).payload ((d : Thread nD τ), .reg barS) 0 j) ⊢ bigSep Finset.univ fun k => barPay (F := F) d k :=
    Entails.of_eq (rest_cell m d cBar)
  ihave Hp := e $$ Hp
  iapply le_wp_ret
  isplitl [Hp]; · iexact Hp
  isplitl [Ha]; · iexact Ha
  iexists _; iexact HO

/-- A wait for one neighbour. -/
theorem waitR (d : Dev nD) (k : Fin 3) :
    iprop(Rec m K ∗ (Cr d (cRv k) ∗ At0 d (cRv k)) ∗ Ow d (OW d (nX 0)))
      ⊢ WP d (semWaitWord (rvS k) 1#32) fun _ => iprop(At1 d (cRv k) ∗ Ow d (OW d (nX 0))) := by
  have h : iprop(Rec m K ∗ Cr d (cRv k) ∗ At0 d (cRv k) ∗ Ow d (OW d (nX 0))) ⊢ WP d (semWaitWord (rvS k) 1#32) fun _ => iprop(pay m d (cRv k) 0 ∗ At1 d (cRv k) ∗ Ow d (OW d (nX 0))) :=
    wait_cell m K d (cRv k) rfl (.semWait (rvS k) 1) 1 (wpE_semWait_eq 𝒱₀ (d : Thread nD τ) none Set.univ) rfl (nX 0)
    (fun f c _ => by show 2 < lvR f c; have := c.isLt; fin_cases f <;> simp only [lvR] <;> omega)
  iintro ⟨#HR, ⟨HC, Ha⟩, HO⟩
  ihave HW := h $$ [HC Ha HO]
  · isplitr; · iexact HR
    isplitl [HC]; · iexact HC
    isplitl [Ha]; · iexact Ha
    iexact HO
  iapply (WP_mono (p := (semWaitWord (rvS k) 1#32 : P F)) (Q := fun _ => iprop(pay m d (cRv k) 0 ∗ At1 d (cRv k) ∗ Ow d (OW d (nX 0)))) fun _ => by iintro ⟨-, H⟩; iexact H) $$ HW

/-- What the handshake needs, -/
def preH (d : Dev nD) : sProp 𝕄 :=
  iprop(Ow d (O₀ d) ∗ (bigSep Finset.univ fun k : Fin 3 => iprop(barPay (F := F) (ax k d) k ∗ Tok (ax k d) cBar k ∗ Tok (ax k d) (cRv k) 0 ∗ (Cr d (cRv k) ∗ At0 d (cRv k))))
    ∗ (Cr d cBar ∗ At0 d cBar))
/-- and leaves. -/
def postH (d : Dev nD) : sProp 𝕄 :=
  iprop(Ow d (OW d (nX 0)) ∗ (bigSep Finset.univ fun k : Fin 3 => iprop(barPay (F := F) d k ∗ At1 d (cRv k))) ∗ At1 d cBar)

theorem bigSep3 (Φ : Fin 3 → sProp 𝕄) : bigSep Finset.univ Φ = iprop(Φ 0 ∗ Φ 1 ∗ Φ 2) := bigSep_univ_eq_bigSepL [0, 1, 2] (by decide) (by decide) Φ

theorem handshake_spec (d : Dev nD) : iprop(Rec m K ∗ preH d) ⊢ WP d (handshake d) fun _ => postH d := by
  unfold preH postH handshake O₀
  rw [bigSep3, bigSep3]
  iintro ⟨#HR, HO, ⟨⟨Hp0, Ht0, Hr0, Hc0⟩, ⟨Hp1, Ht1, Hr1, Hc1⟩, ⟨Hp2, Ht2, Hr2, Hc2⟩⟩, HCb, Hab⟩
  iapply (use (signalB m K d 0 (O₁ d + tB d 2 + tB d 1))) $$ [HO Hp0 Ht0]
  · isplitr; · iexact HR
    isplitl [Hp0]; · iexact Hp0
    isplitl [Ht0]; · iexact Ht0
    iexact HO
  iintro HO
  iapply (use (signalB m K d 1 (O₁ d + tB d 2))) $$ [HO Hp1 Ht1]
  · isplitr; · iexact HR
    isplitl [Hp1]; · iexact Hp1
    isplitl [Ht1]; · iexact Ht1
    iexact HO
  iintro HO
  iapply (use (signalB m K d 2 (O₁ d))) $$ [HO Hp2 Ht2]
  · isplitr; · iexact HR
    isplitl [Hp2]; · iexact Hp2
    isplitl [Ht2]; · iexact Ht2
    iexact HO
  iintro HO
  iapply (use (waitB m K d)) $$ [HO HCb Hab]
  · isplitr; · iexact HR
    isplitl [HCb]; · iexact HCb
    isplitl [Hab]; · iexact Hab
    iexact HO
  rw [bigSep3]
  iintro ⟨⟨Hp0, Hp1, Hp2⟩, Hab, HO⟩
  unfold O₁
  iapply (use (signalR m K d 0 (OW d (nX 0) + tR d 2 + tR d 1))) $$ [HO Hr0]
  · isplitr; · iexact HR
    isplitl [Hr0]; · iexact Hr0
    iexact HO
  iintro HO
  iapply (use (signalR m K d 1 (OW d (nX 0) + tR d 2))) $$ [HO Hr1]
  · isplitr; · iexact HR
    isplitl [Hr1]; · iexact Hr1
    iexact HO
  iintro HO
  iapply (use (signalR m K d 2 (OW d (nX 0)))) $$ [HO Hr2]
  · isplitr; · iexact HR
    isplitl [Hr2]; · iexact Hr2
    iexact HO
  iintro HO
  iapply (use (waitR m K d 0)) $$ [HO Hc0]
  · isplitr; · iexact HR
    isplitl [Hc0]; · iexact Hc0
    iexact HO
  iintro ⟨Hc0, HO⟩
  iapply (use (waitR m K d 1)) $$ [HO Hc1]
  · isplitr; · iexact HR
    isplitl [Hc1]; · iexact Hc1
    iexact HO
  iintro ⟨Hc1, HO⟩
  iapply (useLast (waitR m K d 2)) $$ [HO Hc2]
  · isplitr; · iexact HR
    isplitl [Hc2]; · iexact Hc2
    iexact HO
  iintro ⟨Hc2, HO⟩
  isplitl [HO]; · iexact HO
  isplitr [Hab]
  · isplitl [Hp0 Hc0]
    · isplitl [Hp0]; · iexact Hp0
      iexact Hc0
    isplitl [Hp1 Hc1]
    · isplitl [Hp1]; · iexact Hp1
      iexact Hc1
    isplitl [Hp2]; · iexact Hp2
    iexact Hc2
  iexact Hab

/-! ## The first copies and the last waits -/

/-- The input streams at rest. -/
def preS (d : Dev nD) : sProp 𝕄 := iprop((IdPx m d 0 ∗ IdPx m d 1) ∗ (IdPm m d 0 ∗ IdPm m d 1) ∗ (IdRi m d 0 ∗ IdRi m d 1))
/-- Their first two chunks in flight. -/
def postS (d : Dev nD) : sProp 𝕄 := iprop((FlPx m d 0 ∗ FlPx m d 1) ∗ (FlPm m d 0 ∗ FlPm m d 1) ∗ (FlRi m d 0 ∗ FlRi m d 1))

theorem starts_spec (d : Dev nD) : preS m d ⊢ WP d (starts d) fun _ => postS m d := by
  unfold preS postS starts
  have h0 : IdPx m d 0 ⊢ WP d (startPx d 0) fun _ => FlPx m d 0 := startPx_spec m d 0
  have h1 : IdPx m d 1 ⊢ WP d (startPx d 1) fun _ => FlPx m d 1 := startPx_spec m d 1
  have h2 : IdPm m d 0 ⊢ WP d (startPm d 0) fun _ => FlPm m d 0 := startPm_spec m d 0
  have h3 : IdPm m d 1 ⊢ WP d (startPm d 1) fun _ => FlPm m d 1 := startPm_spec m d 1
  have h4 : IdRi m d 0 ⊢ WP d (startRi d 0) fun _ => FlRi m d 0 := startRi_spec m d 0
  have h5 : IdRi m d 1 ⊢ WP d (startRi d 1) fun _ => FlRi m d 1 := startRi_spec m d 1
  iintro ⟨⟨H0, H1⟩, ⟨H2, H3⟩, H4, H5⟩
  iapply (use h0) $$ H0
  iintro H0
  iapply (use h1) $$ H1
  iintro H1
  iapply (use h2) $$ H2
  iintro H2
  iapply (use h3) $$ H3
  iintro H3
  iapply (use h4) $$ H4
  iintro H4
  iapply (useLast h5) $$ H5
  iintro H5
  isplitl [H0 H1]
  · isplitl [H0]; · iexact H0
    iexact H1
  isplitl [H2 H3]
  · isplitl [H2]; · iexact H2
    iexact H3
  isplitl [H4]; · iexact H4
  iexact H5

end Cert.KernelIdeal.AR

end
-- ==== Proof.KernelIdeal.Loops.lean ====
/-
  The loops as a whole, and the last waits.
-/
module

public import proofs.«01_k».proof.Proof.KernelIdeal.Hand

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-- Something for each of the eight chunks. -/
abbrev E8 (Φ : Fin 8 → sProp 𝕄) : sProp 𝕄 := bigSep Finset.univ Φ

theorem bigSep6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

/-! ## The loops -/

theorem loopX_spec (d : Dev nD) :
    iprop(Rec m K ∗ CX m d 0 ∗ E8 (fun c => Ex (F := F) d (mC sxM c)) ∗ E8 (fun c => STok (F := F) d 0 c) ∗ E8 (fun c => Ex (F := F) (xp d) (mC rxM c)))
      ⊢ WP d (loop8 (stepX d)) fun _ => iprop(CX m d 8 ∗ E8 fun c => Cr (F := F) d (cSnd 0 c)) := by
  have h := loop8_spec d (stepX d) (Rec m K) (CX m d) (AX d) (BX d) (stepX_spec m K d)
  unfold AX BX at h
  simp only [bigSep_sep'] at h
  exact h

theorem loopM_spec (d : Dev nD) :
    iprop(Rec m K ∗ (CN m d 0 ∗ CG m d 0 ∗ CO (F := F) d 0 0)
        ∗ ((E8 (fun c => Cr (F := F) d (cRcv 0 c)) ∗ E8 (fun c => At0 (F := F) d (cRcv 0 c))) ∗ E8 (fun c => Ex (F := F) d (mH rbM c (hx d))) ∗ E8 (fun c => STok (F := F) d 1 c)
          ∗ E8 (fun c => Ex (F := F) (xp d) (mH rbM c (hx d))) ∗ E8 (fun c => Ex (F := F) d (ouDst d c)))
        ∗ ((E8 (fun c => Cr (F := F) d (cRcv 1 c)) ∗ E8 (fun c => At0 (F := F) d (cRcv 1 c))) ∗ E8 (fun c => STok (F := F) d 2 c) ∗ E8 (fun c => STok (F := F) d 3 c)
          ∗ E8 (fun c => Ex (F := F) (yp d) (mW ryM c)) ∗ E8 (fun c => Ex (F := F) (zp d) (mW rzM c)) ∗ E8 (fun c => Ex (F := F) d (phDst d c))))
      ⊢ WP d (midLoop d) fun _ => iprop((CN m d 8 ∗ CG m d 8 ∗ CO (F := F) d 8 8)
        ∗ E8 (fun c => At1 (F := F) d (cRcv 0 c)) ∗ E8 (fun c => At1 (F := F) d (cRcv 1 c)) ∗ E8 (fun c => Ex (F := F) d (mC rxM c)) ∗ E8 (fun c => Beh (Dou m d) c) ∗ E8 (fun c => Beh (Dph m d) c)
        ∗ E8 (fun c => Cr (F := F) d (cSnd 1 c)) ∗ E8 (fun c => Cr (F := F) d (cSnd 2 c)) ∗ E8 (fun c => Cr (F := F) d (cSnd 3 c))
        ∗ E8 (fun c => owns (d : Thread nD τ) (mH rbM c (hpx d)) fullShare.left (NB m (xp d) c))) := by
  have h := midLoop_spec d (Rec m K) (CN m d) (CG m d) (CO (F := F) d) (AN d) (BN m d) (AG d) (BG m d) (stepN_spec m K d) (stepG_spec m K d)
  unfold AN AG BG at h
  simp only [bigSep_sep'] at h
  exact h

theorem loopF_spec (d : Dev nD) :
    iprop(Rec m K ∗ CF m d 0
        ∗ (E8 (fun c => Cr (F := F) d (cRcv 2 c)) ∗ E8 (fun c => At0 (F := F) d (cRcv 2 c))) ∗ (E8 (fun c => Cr (F := F) d (cRcv 3 c)) ∗ E8 (fun c => At0 (F := F) d (cRcv 3 c)))
        ∗ E8 (fun c => STok (F := F) d 4 c) ∗ E8 (fun c => STok (F := F) d 5 c) ∗ E8 (fun c => Ex (F := F) (zp d) (mC zfM c)) ∗ E8 (fun c => Ex (F := F) (yp d) (mC yfM c))
        ∗ E8 (fun c => Ex (F := F) d (yDst d c)) ∗ E8 (fun c => Ex (F := F) d (zDst d c)))
      ⊢ WP d (loop8 (stepF d)) fun _ => iprop(CF m d 8
        ∗ E8 (fun c => At1 (F := F) d (cRcv 2 c)) ∗ E8 (fun c => At1 (F := F) d (cRcv 3 c)) ∗ E8 (fun c => Cr (F := F) d (cSnd 4 c)) ∗ E8 (fun c => Cr (F := F) d (cSnd 5 c))
        ∗ E8 (fun c => Dy m d c) ∗ E8 (fun c => Beh (Dz m d) c)
        ∗ (E8 (fun c => owns (d : Thread nD τ) (mW ryM c) fullShare.right (RB m (yp d) c)) ∗ E8 (fun c => owns (d : Thread nD τ) (mH ryM c 1) fullShare.left (rows 1 (RB m (yp d) c))))
        ∗ (E8 (fun c => owns (d : Thread nD τ) (mW rzM c) fullShare.right (RB m (zp d) c)) ∗ E8 (fun c => owns (d : Thread nD τ) (mH rzM c 0) fullShare.left (rows 0 (RB m (zp d) c))))) := by
  have h := loop8_spec d (stepF d) (Rec m K) (CF m d) (AF d) (BF m d) (stepF_spec m K d)
  unfold AF BF at h
  simp only [bigSep_sep'] at h
  exact h

theorem loopL_spec (d : Dev nD) :
    iprop(Rec m K ∗ CL m d 0
        ∗ (E8 (fun c => Cr (F := F) d (cRcv 4 c)) ∗ E8 (fun c => At0 (F := F) d (cRcv 4 c))) ∗ (E8 (fun c => Cr (F := F) d (cRcv 5 c)) ∗ E8 (fun c => At0 (F := F) d (cRcv 5 c)))
        ∗ E8 (fun c => Ex (F := F) d (zfDst d c)) ∗ E8 (fun c => Ex (F := F) d (yfDst d c)))
      ⊢ WP d (loop8 (stepL d)) fun _ => iprop(CL m d 8
        ∗ E8 (fun c => At1 (F := F) d (cRcv 4 c)) ∗ E8 (fun c => At1 (F := F) d (cRcv 5 c)) ∗ E8 (fun c => Ex (F := F) d (mC zfM c)) ∗ E8 (fun c => Ex (F := F) d (mC yfM c))
        ∗ E8 (fun c => Dzf m d c) ∗ E8 (fun c => Prev m d c)) := by
  have h := loop8_spec d (stepL d) (Rec m K) (CL m d) (AL d) (BL m d) (stepL_spec m K d)
  unfold AL BL at h
  simp only [bigSep_sep'] at h
  exact h

/-- What is owed at the end: nothing. -/
abbrev OE (d : Dev nD) : sProp 𝕄 := Ow d (OW d (nF 8 8))

/-- A loop of waits for the transfers of one kind sent. -/
theorem loopE_spec (d : Dev nD) (f : Fin 6) (w : Fin 8 → P F)
    (hw : ∀ c, iprop(Rec m K ∗ OE (F := F) d ∗ (Cr d (cSnd f c) ∗ At0 d (cSnd f c))) ⊢ WP d (w c) fun _ => iprop(OE (F := F) d ∗ (sndPay m d f c ∗ At1 d (cSnd f c)))) :
    iprop(Rec m K ∗ OE (F := F) d ∗ E8 (fun c => Cr (F := F) d (cSnd f c)) ∗ E8 (fun c => At0 (F := F) d (cSnd f c)))
      ⊢ WP d (loop8 w) fun _ => iprop(OE (F := F) d ∗ E8 (fun c => sndPay m d f c) ∗ E8 (fun c => At1 (F := F) d (cSnd f c))) := by
  have h := loop8_spec d w (Rec m K) (fun _ => OE (F := F) d) (fun c => iprop(Cr d (cSnd f c) ∗ At0 d (cSnd f c))) (fun c => iprop(sndPay m d f c ∗ At1 d (cSnd f c))) hw
  simp only [bigSep_sep'] at h
  exact h

/-! ## The last waits -/

/-- The result's copies still in flight, -/
def preW (d : Dev nD) : sProp 𝕄 := iprop((SOu m d 8 ∗ SOu m d 9) ∗ (SL m d 8 ∗ SL m d 9) ∗ (SPh m d 8 ∗ SPh m d 9))
/-- and what their waits bring. -/
def postW (d : Dev nD) : sProp 𝕄 :=
  iprop((Dou m d 6 ∗ Dou m d 7 ∗ (Eou (F := F) d 0 ∗ Zero d (s2 cc0_scratch28 0)) ∗ (Eou (F := F) d 1 ∗ Zero d (s2 cc0_scratch28 1)))
    ∗ (Dyf m d 6 ∗ Dyf m d 7 ∗ (Ecs (F := F) d 0 ∗ Zero d (s2 cc0_scratch29 0)) ∗ (Ecs (F := F) d 1 ∗ Zero d (s2 cc0_scratch29 1)))
    ∗ (Dph m d 6 ∗ Dph m d 7 ∗ (Eph (F := F) d 0 ∗ Zero d (s2 cc0_scratch30 0)) ∗ (Eph (F := F) d 1 ∗ Zero d (s2 cc0_scratch30 1))))

theorem finals_spec (d : Dev nD) : iprop(Rec m K ∗ preW m d ∗ OE (F := F) d) ⊢ WP d (finals d) fun _ => iprop(postW m d ∗ OE (F := F) d) := by
  unfold preW postW finals
  have e0 : SOu m d 8 = FlOu m d 6 := OutS_next d _ _ _ _ 6
  have e1 : SOu m d 9 = FlOu m d 7 := OutS_next d _ _ _ _ 7
  have e2 : SPh m d 8 = FlPh m d 6 := OutS_next d _ _ _ _ 6
  have e3 : SPh m d 9 = FlPh m d 7 := OutS_next d _ _ _ _ 7
  have e4 : SL m d 8 = Fl d (s2 cc0_scratch29 0) (yfDst d 6).view.dmaCredit iprop(Dyf m d 6 ∗ Ecs (F := F) d 0) := by
    unfold SL; rw [if_pos (by decide)]; exact OutS_next d cc0_scratch29 (fun c => (yfDst d c).view.dmaCredit) (Dyf m d) (Ecs (F := F) d) 6
  have e5 : SL m d 9 = Fl d (s2 cc0_scratch29 1) (yfDst d 7).view.dmaCredit iprop(Dyf m d 7 ∗ Ecs (F := F) d 1) := by
    unfold SL; rw [if_pos (by decide)]; exact OutS_next d cc0_scratch29 (fun c => (yfDst d c).view.dmaCredit) (Dyf m d) (Ecs (F := F) d) 7
  rw [e0, e1, e2, e3, e4, e5]
  have w0 : iprop(Rec m K ∗ FlOu m d 6 ∗ OE (F := F) d) ⊢ WP d (waitOu d 6) fun _ => iprop((Dou m d 6 ∗ Eou (F := F) d 0) ∗ Zero d (s2 cc0_scratch28 0) ∗ OE (F := F) d) := waitOu_spec m K d _ 6
  have w1 : iprop(Rec m K ∗ FlOu m d 7 ∗ OE (F := F) d) ⊢ WP d (waitOu d 7) fun _ => iprop((Dou m d 7 ∗ Eou (F := F) d 1) ∗ Zero d (s2 cc0_scratch28 1) ∗ OE (F := F) d) := waitOu_spec m K d _ 7
  have w2 : iprop(Rec m K ∗ FlPh m d 6 ∗ OE (F := F) d) ⊢ WP d (waitPh d 6) fun _ => iprop((Dph m d 6 ∗ Eph (F := F) d 0) ∗ Zero d (s2 cc0_scratch30 0) ∗ OE (F := F) d) := waitPh_spec m K d _ 6
  have w3 : iprop(Rec m K ∗ FlPh m d 7 ∗ OE (F := F) d) ⊢ WP d (waitPh d 7) fun _ => iprop((Dph m d 7 ∗ Eph (F := F) d 1) ∗ Zero d (s2 cc0_scratch30 1) ∗ OE (F := F) d) := waitPh_spec m K d _ 7
  iintro ⟨#HR, ⟨⟨H0, H1⟩, ⟨H4, H5⟩, H2, H3⟩, HO⟩
  iapply (use w0) $$ [H0 HO]
  · isplitr; · iexact HR
    isplitl [H0]; · iexact H0
    iexact HO
  iintro ⟨⟨D0, E0⟩, Z0, HO⟩
  iapply (use w1) $$ [H1 HO]
  · isplitr; · iexact HR
    isplitl [H1]; · iexact H1
    iexact HO
  iintro ⟨⟨D1, E1⟩, Z1, HO⟩
  iapply (use (waitCL_spec m K d (nF 8 8) 0 (yfDst d 6) iprop(Dyf m d 6 ∗ Ecs (F := F) d 0))) $$ [H4 HO]
  · isplitr; · iexact HR
    isplitl [H4]; · iexact H4
    iexact HO
  iintro ⟨⟨D4, E4⟩, Z4, HO⟩
  iapply (use (waitCL_spec m K d (nF 8 8) 1 (yfDst d 7) iprop(Dyf m d 7 ∗ Ecs (F := F) d 1))) $$ [H5 HO]
  · isplitr; · iexact HR
    isplitl [H5]; · iexact H5
    iexact HO
  iintro ⟨⟨D5, E5⟩, Z5, HO⟩
  iapply (use w2) $$ [H2 HO]
  · isplitr; · iexact HR
    isplitl [H2]; · iexact H2
    iexact HO
  iintro ⟨⟨D2, E2⟩, Z2, HO⟩
  iapply (useLast w3) $$ [H3 HO]
  · isplitr; · iexact HR
    isplitl [H3]; · iexact H3
    iexact HO
  iintro ⟨⟨D3, E3⟩, Z3, HO⟩
  isplitr [HO]
  · isplitl [D0 D1 E0 E1 Z0 Z1]
    · isplitl [D0]; · iexact D0
      isplitl [D1]; · iexact D1
      isplitl [E0 Z0]
      · isplitl [E0]; · iexact E0
        iexact Z0
      isplitl [E1]; · iexact E1
      iexact Z1
    isplitl [D4 D5 E4 E5 Z4 Z5]
    · isplitl [D4]; · iexact D4
      isplitl [D5]; · iexact D5
      isplitl [E4 Z4]
      · isplitl [E4]; · iexact E4
        iexact Z4
      isplitl [E5]; · iexact E5
      iexact Z5
    isplitl [D2]; · iexact D2
    isplitl [D3]; · iexact D3
    isplitl [E2 Z2]
    · isplitl [E2]; · iexact E2
      iexact Z2
    isplitl [E3]; · iexact E3
    iexact Z3
  iexact HO

/-- What the waits two steps behind bring, with the last two. -/
theorem behAll (D : Fin 8 → sProp 𝕄) : iprop(E8 (fun c => Beh D c) ∗ D 6 ∗ D 7) ⊢ E8 D := by
  unfold E8
  rw [bigSep8, bigSep8]
  have b0 : Beh D 0 = iprop(emp) := rfl
  have b1 : Beh D 1 = iprop(emp) := rfl
  have b2 : Beh D 2 = D 0 := rfl
  have b3 : Beh D 3 = D 1 := rfl
  have b4 : Beh D 4 = D 2 := rfl
  have b5 : Beh D 5 = D 3 := rfl
  have b6 : Beh D 6 = D 4 := rfl
  have b7 : Beh D 7 = D 5 := rfl
  rw [b0, b1, b2, b3, b4, b5, b6, b7]
  iintro ⟨⟨-, -, H0, H1, H2, H3, H4, H5⟩, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What the last loop's first waits bring, with its own and the last two. -/
theorem prevAll (d : Dev nD) : iprop(E8 (fun c => Beh (Dz m d) c) ∗ E8 (fun c => Prev m d c) ∗ Dyf m d 6 ∗ Dyf m d 7) ⊢ iprop(E8 (fun c => Dz m d c) ∗ E8 (fun c => Dyf m d c)) := by
  have hp : E8 (fun c => Prev m d c) ⊢ iprop((Dz m d 6 ∗ Dz m d 7) ∗ E8 (fun c => Beh (Dyf m d) c)) := by
    unfold E8
    rw [bigSep8, bigSep8]
    have p0 : Prev m d 0 = Dz m d 6 := rfl
    have p1 : Prev m d 1 = Dz m d 7 := rfl
    have q0 : Beh (Dyf m d) 0 = iprop(emp) := rfl
    have q1 : Beh (Dyf m d) 1 = iprop(emp) := rfl
    have hq : ∀ c : Fin 8, 2 ≤ c.val → Prev m d c = Beh (Dyf m d) c := fun c h => by unfold Prev Beh; rw [if_pos h, if_pos h]
    rw [p0, p1, q0, q1, hq 2 (by decide), hq 3 (by decide), hq 4 (by decide), hq 5 (by decide), hq 6 (by decide), hq 7 (by decide)]
    iintro ⟨H6, H7, H⟩
    isplitl [H6 H7]
    · isplitl [H6]; · iexact H6
      iexact H7
    isplitr; · iempintro
    isplitr; · iempintro
    iexact H
  iintro ⟨HZ, HP, H6, H7⟩
  ihave HP := hp $$ HP
  icases HP with ⟨⟨Z6, Z7⟩, HY⟩
  isplitl [HZ Z6 Z7]
  · iapply (behAll (Dz m d)); isplitl [HZ]; · iexact HZ
    isplitl [Z6]; · iexact Z6
    iexact Z7
  iapply (behAll (Dyf m d)); isplitl [HY]; · iexact HY
  isplitl [H6]; · iexact H6
  iexact H7

end Cert.KernelIdeal.AR

end
-- ==== Proof.KernelIdeal.Run.lean ====
/-
  The body as a whole.
-/
module

public import proofs.«01_k».proof.Proof.KernelIdeal.Loops

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-! ## Before and after -/

/-- The slots of the output streams at rest. -/
def outIdle (d : Dev nD) : sProp 𝕄 :=
  iprop(((Eou (F := F) d 0 ∗ Zero d (s2 cc0_scratch28 0)) ∗ (Eou (F := F) d 1 ∗ Zero d (s2 cc0_scratch28 1)))
    ∗ ((Ecs (F := F) d 0 ∗ Zero d (s2 cc0_scratch29 0)) ∗ (Ecs (F := F) d 1 ∗ Zero d (s2 cc0_scratch29 1)))
    ∗ ((Eph (F := F) d 0 ∗ Zero d (s2 cc0_scratch30 0)) ∗ (Eph (F := F) d 1 ∗ Zero d (s2 cc0_scratch30 1))))

/-- The pieces of the result, at some contents. -/
def outPre (d : Dev nD) : sProp 𝕄 :=
  iprop(E8 (fun c => Ex (F := F) d (ouDst d c)) ∗ E8 (fun c => Ex (F := F) d (phDst d c)) ∗ E8 (fun c => Ex (F := F) d (yDst d c)) ∗ E8 (fun c => Ex (F := F) d (zDst d c))
    ∗ E8 (fun c => Ex (F := F) d (zfDst d c)) ∗ E8 (fun c => Ex (F := F) d (yfDst d c)))
/-- The pieces of the result, written. -/
def outPost (d : Dev nD) : sProp 𝕄 :=
  iprop(E8 (fun c => Dou m d c) ∗ E8 (fun c => Dph m d c) ∗ E8 (fun c => Dy m d c) ∗ E8 (fun c => Dz m d c) ∗ E8 (fun c => Dzf m d c) ∗ E8 (fun c => Dyf m d c))

/-- What the body starts from, cut into the pieces the steps use. -/
def preP (d : Dev nD) : sProp 𝕄 :=
  iprop(preH (F := F) d ∗ preS m d ∗ owns (d : Thread nD τ) gammaM fullShare (gV m d) ∗ outIdle (F := F) d
    ∗ (E8 (fun c => Ex (F := F) d (mC sxM c)) ∗ E8 (fun c => Ex (F := F) d (mH rbM c (hx d)))) ∗ outPre (F := F) d
    ∗ (bigSep Finset.univ fun f : Fin 6 => E8 fun c => STok (F := F) d f c)
    ∗ (bigSep Finset.univ fun f : Fin 6 => iprop(E8 (fun c => Cr (F := F) d (cRcv f c)) ∗ E8 (fun c => At0 (F := F) d (cRcv f c))))
    ∗ (bigSep Finset.univ fun f : Fin 6 => E8 fun c => At0 (F := F) d (cSnd f c)))

/-- What is left of the buffers other than the sources of transfers. -/
def bufPost (d : Dev nD) : sProp 𝕄 :=
  iprop(E8 (fun c => Ex (F := F) d (mC rxM c)) ∗ E8 (fun c => Ex (F := F) d (mC zfM c)) ∗ E8 (fun c => Ex (F := F) d (mC yfM c))
    ∗ E8 (fun c => owns (d : Thread nD τ) (mH rbM c (hpx d)) fullShare.left (NB m (xp d) c))
    ∗ (E8 (fun c => owns (d : Thread nD τ) (mW ryM c) fullShare.right (RB m (yp d) c)) ∗ E8 (fun c => owns (d : Thread nD τ) (mH ryM c 1) fullShare.left (rows 1 (RB m (yp d) c))))
    ∗ (E8 (fun c => owns (d : Thread nD τ) (mW rzM c) fullShare.right (RB m (zp d) c)) ∗ E8 (fun c => owns (d : Thread nD τ) (mH rzM c 0) fullShare.left (rows 0 (RB m (zp d) c)))))

/-- What the body ends with. -/
def postP (d : Dev nD) : sProp 𝕄 :=
  iprop(Ow (F := F) d 0 ∗ preS m d ∗ owns (d : Thread nD τ) gammaM fullShare (gV m d) ∗ outIdle (F := F) d ∗ bufPost m d ∗ outPost m d
    ∗ (At1 (F := F) d cBar ∗ bigSep Finset.univ fun k : Fin 3 => At1 (F := F) d (cRv k))
    ∗ (bigSep Finset.univ fun f : Fin 6 => E8 fun c => At1 (F := F) d (cRcv f c))
    ∗ (bigSep Finset.univ fun f : Fin 6 => iprop(E8 (fun c => sndPay m d f c) ∗ E8 (fun c => At1 (F := F) d (cSnd f c)))))

theorem idle_at (d : Dev nD) (buf : Memref sig .tc .vmem S2x128x2048 .f32) (A : DmaSems sig S2) (V : Fin 8 → S128x2048.Idx → Elt F .f32) (arr : Fin 2 → sProp 𝕄) :
    InS d buf A V arr 8 = InIdle d buf A arr 0 ∧ InS d buf A V arr 9 = InIdle d buf A arr 1 := by
  constructor <;> unfold InS <;> rw [dif_neg (by decide)] <;> rfl

theorem fl_at (d : Dev nD) (buf : Memref sig .tc .vmem S2x128x2048 .f32) (A : DmaSems sig S2) (V : Fin 8 → S128x2048.Idx → Elt F .f32) (arr : Fin 2 → sProp 𝕄) :
    InS d buf A V arr 0 = InFl d buf A V arr 0 ∧ InS d buf A V arr (0 + 1) = InFl d buf A V arr 1 := by
  constructor <;> unfold InS <;> rw [dif_pos (by decide)] <;> rfl

theorem out_at (d : Dev nD) (A : DmaSems sig S2) (N : Fin 8 → ℕ) (D : Fin 8 → sProp 𝕄) (E : Fin 2 → sProp 𝕄) :
    OutS d A N D E 0 = iprop(E 0 ∗ Zero d (s2 A 0)) ∧ OutS d A N D E (0 + 1) = iprop(E 1 ∗ Zero d (s2 A 1)) := by
  constructor <;> unfold OutS <;> rw [if_neg (by decide)] <;> rfl

set_option maxHeartbeats 1000000 in
/-- The body, step by step. -/
theorem body_spec (d : Dev nD) : iprop(Rec m K ∗ preP m d) ⊢ WP d (bodyFrom d) fun _ => postP m d := by
  unfold preP postP bodyFrom outIdle outPre outPost bufPost
  simp only [bigSep6]
  iintro ⟨#HR, HH, HS, Hg, ⟨⟨HU0, HU1⟩, ⟨HC0, HC1⟩, ⟨HP0, HP1⟩⟩, ⟨Hsx, Hrb⟩, ⟨Oou, Oph, Oy, Oz, Ozf, Oyf⟩, ⟨T0, T1, T2, T3, T4, T5⟩,
    ⟨⟨C0, A0⟩, ⟨C1, A1⟩, ⟨C2, A2⟩, ⟨C3, A3⟩, ⟨C4, A4⟩, ⟨C5, A5⟩⟩, ⟨B0, B1, B2, B3, B4, B5⟩⟩
  iapply (use (handshake_spec m K d)) $$ [HH]
  · isplitr; · iexact HR
    iexact HH
  unfold postH barPay
  rw [bigSep3]
  simp only [bigSep_sep']
  iintro ⟨HO, ⟨⟨⟨X1, X2⟩, V0⟩, ⟨⟨Y1, Y2⟩, V1⟩, ⟨⟨Z1, Z2⟩, V2⟩⟩, Ab⟩
  iapply (use (starts_spec m d)) $$ HS
  unfold postS
  iintro ⟨⟨P0, P1⟩, ⟨M0, M1⟩, R0, R1⟩
  iapply (use (loopX_spec m K d)) $$ [P0 P1 HO Hsx T0 X1]
  · isplitr; · iexact HR
    isplitl [P0 P1 HO]
    · unfold CX
      isplitl [P0]; · iapply (Entails.of_eq (fl_at d pxM cc0_scratch25 (pxV m d) (arPx m d)).1.symm); iexact P0
      isplitl [P1]; · iapply (Entails.of_eq (fl_at d pxM cc0_scratch25 (pxV m d) (arPx m d)).2.symm); iexact P1
      iexact HO
    isplitl [Hsx]; · iexact Hsx
    isplitl [T0]; · iexact T0
    iexact X1
  unfold CX
  iintro ⟨⟨P0, P1, HO⟩, G0⟩
  iapply (use (loopM_spec m K d)) $$ [Hg M0 M1 R0 R1 HU0 HU1 HP0 HP1 HO C0 A0 Hrb T1 X2 Oou C1 A1 T2 T3 Y1 Z1 Oph]
  · isplitr; · iexact HR
    isplitl [Hg M0 M1 R0 R1 HU0 HU1 HP0 HP1 HO]
    · unfold CN CG CO
      isplitl [Hg M0 M1 R0 R1 HU0 HU1]
      · isplitl [Hg]; · iexact Hg
        isplitl [M0 M1]
        · isplitl [M0]; · iapply (Entails.of_eq (fl_at d pmM cc0_scratch26 (pmV m d) (arPm m d)).1.symm); iexact M0
          iapply (Entails.of_eq (fl_at d pmM cc0_scratch26 (pmV m d) (arPm m d)).2.symm); iexact M1
        isplitl [R0 R1]
        · isplitl [R0]; · iapply (Entails.of_eq (fl_at d riM cc0_scratch27 (riV m d) (arRi m d)).1.symm); iexact R0
          iapply (Entails.of_eq (fl_at d riM cc0_scratch27 (riV m d) (arRi m d)).2.symm); iexact R1
        isplitl [HU0]; · iapply (Entails.of_eq (out_at d cc0_scratch28 (fun c => (ouDst d c).view.dmaCredit) (Dou m d) (Eou (F := F) d)).1.symm); iexact HU0
        iapply (Entails.of_eq (out_at d cc0_scratch28 (fun c => (ouDst d c).view.dmaCredit) (Dou m d) (Eou (F := F) d)).2.symm); iexact HU1
      isplitl [HP0 HP1]
      · isplitl [HP0]; · iapply (Entails.of_eq (out_at d cc0_scratch30 (fun c => (phDst d c).view.dmaCredit) (Dph m d) (Eph (F := F) d)).1.symm); iexact HP0
        iapply (Entails.of_eq (out_at d cc0_scratch30 (fun c => (phDst d c).view.dmaCredit) (Dph m d) (Eph (F := F) d)).2.symm); iexact HP1
      iexact HO
    isplitl [C0 A0 Hrb T1 X2 Oou]
    · isplitl [C0 A0]
      · isplitl [C0]; · iexact C0
        iexact A0
      isplitl [Hrb]; · iexact Hrb
      isplitl [T1]; · iexact T1
      isplitl [X2]; · iexact X2
      iexact Oou
    isplitl [C1 A1]
    · isplitl [C1]; · iexact C1
      iexact A1
    isplitl [T2]; · iexact T2
    isplitl [T3]; · iexact T3
    isplitl [Y1]; · iexact Y1
    isplitl [Z1]; · iexact Z1
    iexact Oph
  unfold CN CG CO
  iintro ⟨⟨⟨Hg, ⟨M0, M1⟩, ⟨R0, R1⟩, HU0, HU1⟩, ⟨HP0, HP1⟩, HO⟩, A0, A1, Hrx, Bou, Bph, G1, G2, G3, HrbP⟩
  iapply (use (loopF_spec m K d)) $$ [HC0 HC1 HO C2 A2 C3 A3 T4 T5 Z2 Y2 Oy Oz]
  · isplitr; · iexact HR
    isplitl [HC0 HC1 HO]
    · unfold CF
      isplitl [HC0]; · iapply (Entails.of_eq (out_at d cc0_scratch29 (fun c => (zDst d c).view.dmaCredit) (Dz m d) (Ecs (F := F) d)).1.symm); iexact HC0
      isplitl [HC1]; · iapply (Entails.of_eq (out_at d cc0_scratch29 (fun c => (zDst d c).view.dmaCredit) (Dz m d) (Ecs (F := F) d)).2.symm); iexact HC1
      iexact HO
    isplitl [C2 A2]
    · isplitl [C2]; · iexact C2
      iexact A2
    isplitl [C3 A3]
    · isplitl [C3]; · iexact C3
      iexact A3
    isplitl [T4]; · iexact T4
    isplitl [T5]; · iexact T5
    isplitl [Z2]; · iexact Z2
    isplitl [Y2]; · iexact Y2
    isplitl [Oy]; · iexact Oy
    iexact Oz
  unfold CF
  iintro ⟨⟨HC0, HC1, HO⟩, A2, A3, G4, G5, DDy, Bz, HrY, HrZ⟩
  iapply (use (loopL_spec m K d)) $$ [HC0 HC1 HO C4 A4 C5 A5 Ozf Oyf]
  · isplitr; · iexact HR
    isplitl [HC0 HC1 HO]
    · unfold CL SL
      rw [if_neg (by decide), if_neg (by decide)]
      isplitl [HC0]; · iexact HC0
      isplitl [HC1]; · iexact HC1
      iexact HO
    isplitl [C4 A4]
    · isplitl [C4]; · iexact C4
      iexact A4
    isplitl [C5 A5]
    · isplitl [C5]; · iexact C5
      iexact A5
    isplitl [Ozf]; · iexact Ozf
    iexact Oyf
  unfold CL
  iintro ⟨⟨HL0, HL1, HO⟩, A4, A5, Hzf, Hyf, DDzf, HPrev⟩
  iapply (use (loopE_spec m K d 0 _ (endX1_spec m K d))) $$ [HO G0 B0]
  · isplitr; · iexact HR
    isplitl [HO]; · iexact HO
    isplitl [G0]; · iexact G0
    iexact B0
  iintro ⟨HO, G0, B0⟩
  iapply (use (loopE_spec m K d 1 _ (endX2_spec m K d))) $$ [HO G1 B1]
  · isplitr; · iexact HR
    isplitl [HO]; · iexact HO
    isplitl [G1]; · iexact G1
    iexact B1
  iintro ⟨HO, G1, B1⟩
  iapply (use (loopE_spec m K d 2 _ (endY_spec m K d))) $$ [HO G2 B2]
  · isplitr; · iexact HR
    isplitl [HO]; · iexact HO
    isplitl [G2]; · iexact G2
    iexact B2
  iintro ⟨HO, G2, B2⟩
  iapply (use (loopE_spec m K d 3 _ (endZ_spec m K d))) $$ [HO G3 B3]
  · isplitr; · iexact HR
    isplitl [HO]; · iexact HO
    isplitl [G3]; · iexact G3
    iexact B3
  iintro ⟨HO, G3, B3⟩
  iapply (use (loopE_spec m K d 4 _ (endZf_spec m K d))) $$ [HO G4 B4]
  · isplitr; · iexact HR
    isplitl [HO]; · iexact HO
    isplitl [G4]; · iexact G4
    iexact B4
  iintro ⟨HO, G4, B4⟩
  iapply (use (loopE_spec m K d 5 _ (endYf_spec m K d))) $$ [HO G5 B5]
  · isplitr; · iexact HR
    isplitl [HO]; · iexact HO
    isplitl [G5]; · iexact G5
    iexact B5
  iintro ⟨HO, G5, B5⟩
  iapply (useLast (finals_spec m K d)) $$ [HO HU0 HU1 HL0 HL1 HP0 HP1]
  · isplitr; · iexact HR
    isplitr [HO]
    · unfold preW
      isplitl [HU0 HU1]
      · isplitl [HU0]; · iexact HU0
        iexact HU1
      isplitl [HL0 HL1]
      · isplitl [HL0]; · iexact HL0
        iexact HL1
      isplitl [HP0]; · iexact HP0
      iexact HP1
    iexact HO
  unfold postW
  iintro ⟨⟨⟨Fou6, Fou7, HU0, HU1⟩, ⟨Fyf6, Fyf7, HC0, HC1⟩, ⟨Fph6, Fph7, HP0, HP1⟩⟩, HO⟩
  ihave Bou := (behAll (Dou m d)) $$ [Bou Fou6 Fou7]
  · isplitl [Bou]; · iexact Bou
    isplitl [Fou6]; · iexact Fou6
    iexact Fou7
  ihave Bph := (behAll (Dph m d)) $$ [Bph Fph6 Fph7]
  · isplitl [Bph]; · iexact Bph
    isplitl [Fph6]; · iexact Fph6
    iexact Fph7
  ihave Bzy := (prevAll m d) $$ [Bz HPrev Fyf6 Fyf7]
  · isplitl [Bz]; · iexact Bz
    isplitl [HPrev]; · iexact HPrev
    isplitl [Fyf6]; · iexact Fyf6
    iexact Fyf7
  icases Bzy with ⟨Bz, Byf⟩
  ihave HO := (Entails.of_eq (show OE (F := F) d = Ow d 0 from by unfold OE; rw [OW_done d (fun f => by fin_cases f <;> simp [nF])])) $$ HO
  isplitl [HO]; · iexact HO
  isplitl [P0 P1 M0 M1 R0 R1]
  · unfold preS
    isplitl [P0 P1]
    · isplitl [P0]; · iapply (Entails.of_eq (idle_at d pxM cc0_scratch25 (pxV m d) (arPx m d)).1); iexact P0
      iapply (Entails.of_eq (idle_at d pxM cc0_scratch25 (pxV m d) (arPx m d)).2); iexact P1
    isplitl [M0 M1]
    · isplitl [M0]; · iapply (Entails.of_eq (idle_at d pmM cc0_scratch26 (pmV m d) (arPm m d)).1); iexact M0
      iapply (Entails.of_eq (idle_at d pmM cc0_scratch26 (pmV m d) (arPm m d)).2); iexact M1
    isplitl [R0]; · iapply (Entails.of_eq (idle_at d riM cc0_scratch27 (riV m d) (arRi m d)).1); iexact R0
    iapply (Entails.of_eq (idle_at d riM cc0_scratch27 (riV m d) (arRi m d)).2); iexact R1
  isplitl [Hg]; · iexact Hg
  isplitl [HU0 HU1 HC0 HC1 HP0 HP1]
  · isplitl [HU0 HU1]
    · isplitl [HU0]; · iexact HU0
      iexact HU1
    isplitl [HC0 HC1]
    · isplitl [HC0]; · iexact HC0
      iexact HC1
    isplitl [HP0]; · iexact HP0
    iexact HP1
  isplitl [Hrx Hzf Hyf HrbP HrY HrZ]
  · isplitl [Hrx]; · iexact Hrx
    isplitl [Hzf]; · iexact Hzf
    isplitl [Hyf]; · iexact Hyf
    isplitl [HrbP]; · iexact HrbP
    isplitl [HrY]; · iexact HrY
    iexact HrZ
  isplitl [Bou Bph DDy Bz DDzf Byf]
  · isplitl [Bou]; · iexact Bou
    isplitl [Bph]; · iexact Bph
    isplitl [DDy]; · iexact DDy
    isplitl [Bz]; · iexact Bz
    isplitl [DDzf]; · iexact DDzf
    iexact Byf
  isplitl [Ab V0 V1 V2]
  · isplitl [Ab]; · iexact Ab
    rw [bigSep3]
    isplitl [V0]; · iexact V0
    isplitl [V1]; · iexact V1
    iexact V2
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [G0 B0]
  · isplitl [G0]; · iexact G0
    iexact B0
  isplitl [G1 B1]
  · isplitl [G1]; · iexact G1
    iexact B1
  isplitl [G2 B2]
  · isplitl [G2]; · iexact G2
    iexact B2
  isplitl [G3 B3]
  · isplitl [G3]; · iexact G3
    iexact B3
  isplitl [G4 B4]
  · isplitl [G4]; · iexact G4
    iexact B4
  isplitl [G5]; · iexact G5
  iexact B5

end Cert.KernelIdeal.AR

end
-- ==== Proof.KernelIdeal.Out.lean ====
/-
  The result buffer cut into the pieces the steps write, and put together again.
-/
module

public import proofs.«01_k».proof.Proof.KernelIdeal.Run

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The pieces of the result -/

/-- The rows of the result a piece is. -/
def oR (d : Dev nD) : Fin 6 × Fin 8 → Rect S8192x2048
  | (0, c) => Rect.unit (s := S8192x2048) (k0_off3 d (w256 c)) S128x2048.size (k0_off3_inb d c)
  | (1, c) => Rect.unit (s := S8192x2048) (k0_off6 d (w256 c)) S128x2048.size (k0_off6_inb d c)
  | (2, c) => Rect.unit (s := S8192x2048) (k0_off13 d (w256 c)) S256x2048.size (k0_off13_inb d c)
  | (3, c) => Rect.unit (s := S8192x2048) (k0_off14 d (w256 c)) S256x2048.size (k0_off14_inb d c)
  | (4, c) => Rect.unit (s := S8192x2048) (k0_off15 d (w256 c)) S128x2048.size (k0_off15_inb d c)
  | (5, c) => Rect.unit (s := S8192x2048) (k0_off16 d (w256 c)) S128x2048.size (k0_off16_inb d c)

/-- The kind of the piece row `r` is in: by the quarter of the rows and the half of the 256-row chunk. -/
def kindOf (d : Dev nD) (r : ℕ) : Fin 6 :=
  if r / 4096 = (d.val / 2) % 2 then
    if (r / 2048) % 2 = d.val % 2 then (if (r / 128) % 2 = d.val / 4 then 0 else 1) else 3
  else if (r / 2048) % 2 = d.val % 2 then 2 else (if (r / 128) % 2 = 0 then 4 else 5)

/-- The piece row `r` is in. -/
def pieceOf (d : Dev nD) (r : ℕ) : Fin 6 × Fin 8 := (kindOf d r, ⟨(r / 256) % 8, Nat.mod_lt _ (by decide)⟩)

theorem mem_rows (off : Fin 2 → ℕ) (n k : ℕ) (hoff : off = ![k, 0]) (inb) (i : S8192x2048.Idx) :
    i ∈ (Rect.unit (s := S8192x2048) off ![n, 2048] inb).set ↔ k ≤ (i 0).val ∧ (i 0).val < k + n := by
  subst hoff
  rw [Rect.mem_set_unit]
  constructor
  · intro h; have := h 0; simpa using this
  · intro h a
    have := (i 1).isLt
    fin_cases a
    · simpa using h
    · simpa using this

theorem mem_oR (d : Dev nD) (t : Fin 6 × Fin 8) (i : S8192x2048.Idx) : i ∈ (oR d t).set ↔ pieceOf d (i 0).val = t := by
  obtain ⟨f, c⟩ := t
  have hi : (i 0).val < 8192 := (i 0).isLt
  generalize hr : (i 0).val = r at hi
  have hd : d.val < 8 := d.isLt
  have hc := c.isLt
  have e4 : d.val / 4 < 2 := by omega
  have e2 : d.val / 2 % 2 < 2 := by omega
  have e1 : d.val % 2 < 2 := by omega
  have r1 : r = 4096 * (r / 4096) + 2048 * (r / 2048 % 2) + 256 * (r / 256 % 8) + 128 * (r / 128 % 2) + r % 128 := by omega
  have b1 : r / 4096 < 2 := by omega
  have b2 : r / 2048 % 2 < 2 := by omega
  have b3 : r / 256 % 8 < 8 := by omega
  have b4 : r / 128 % 2 < 2 := by omega
  have b5 : r % 128 < 128 := by omega
  have key : ∀ (k n : ℕ) (f : Fin 6), (k ≤ r ∧ r < k + n ↔ kindOf d r = f ∧ (r / 256) % 8 = c.val) →
      (k ≤ r ∧ r < k + n ↔ pieceOf d r = (f, c)) := fun k n f h => by
    rw [h]; unfold pieceOf; rw [Prod.mk.injEq, Fin.ext_iff (b := c)]
  unfold kindOf at key
  generalize r / 4096 = q1 at *
  generalize r / 2048 % 2 = q2 at *
  generalize r / 256 % 8 = q3 at *
  generalize r / 128 % 2 = q4 at *
  generalize r % 128 = q5 at *
  have h3 := k0_off3_eq d c
  have h6 := k0_off6_eq d c
  have h13 := k0_off13_eq d c
  have h14 := k0_off14_eq d c
  have h15 := k0_off15_eq d c
  have h16 := k0_off16_eq d c
  generalize d.val / 4 = a at *
  generalize d.val / 2 % 2 = b at *
  generalize d.val % 2 = e at *
  fin_cases f
  · refine (mem_rows _ 128 _ h3 (k0_off3_inb d c) i).trans ?_
    rw [hr]; refine key _ _ _ ?_
    split <;> split <;> (try split) <;> simp <;> omega
  · refine (mem_rows _ 128 _ h6 (k0_off6_inb d c) i).trans ?_
    rw [hr]; refine key _ _ _ ?_
    split <;> split <;> (try split) <;> simp <;> omega
  · refine (mem_rows _ 256 _ h13 (k0_off13_inb d c) i).trans ?_
    rw [hr]; refine key _ _ _ ?_
    split <;> split <;> (try split) <;> simp <;> omega
  · refine (mem_rows _ 256 _ h14 (k0_off14_inb d c) i).trans ?_
    rw [hr]; refine key _ _ _ ?_
    split <;> split <;> (try split) <;> simp <;> omega
  · refine (mem_rows _ 128 _ h15 (k0_off15_inb d c) i).trans ?_
    rw [hr]; refine key _ _ _ ?_
    split <;> split <;> (try split) <;> simp <;> omega
  · refine (mem_rows _ 128 _ h16 (k0_off16_inb d c) i).trans ?_
    rw [hr]; refine key _ _ _ ?_
    split <;> split <;> (try split) <;> simp <;> omega

/-- The elements of a piece. -/
def oK (d : Dev nD) (t : Fin 6 × Fin 8) : Finset (Idx (outM.view.loc (d : Thread nD τ))) := (oR d t).set.map outM.view.emb

theorem oK_disj (d : Dev nD) (t t' : Fin 6 × Fin 8) (h : t ≠ t') : Disjoint (oK d t) (oK d t') :=
  disj_map outM (Finset.disjoint_left.mpr fun i hi hi' => h (((mem_oR d t i).mp hi).symm.trans ((mem_oR d t' i).mp hi')))

theorem oK_cov (d : Dev nD) : Finset.univ.biUnion (oK d) = Finset.univ := by
  refine (map_cov outM (oR d)).trans ?_
  rw [show (Finset.univ.biUnion fun t => (oR d t).set) = Finset.univ from by
    ext i; simp only [Finset.mem_biUnion, Finset.mem_univ, true_and, iff_true]; exact ⟨_, (mem_oR d _ i).mpr rfl⟩]
  exact View.set_whole main_v1

/-- The result's contents have every piece as the steps write it. -/
def GoodAt (d : Dev nD) (g : Buf (Elt F) (outM.view.loc (d : Thread nD τ))) (t : Fin 6 × Fin 8) : Prop := match t.1 with
  | 0 => (ouDst d t.2).view.read (Elt F) g = NV m d t.2
  | 1 => (phDst d t.2).view.read (Elt F) g = ex128 (NB m (xp d) t.2)
  | 2 => (yDst d t.2).view.read (Elt F) g = ex256 (RB m (yp d) t.2)
  | 3 => (zDst d t.2).view.read (Elt F) g = ex256 (RB m (zp d) t.2)
  | 4 => (zfDst d t.2).view.read (Elt F) g = ex128 (rows 0 (RB m (yp (zp d)) t.2))
  | 5 => (yfDst d t.2).view.read (Elt F) g = ex128 (rows 1 (RB m (zp (yp d)) t.2))

/-- A slice of the result owned is a piece held. -/
theorem owns_piece (d : Dev nD) (r : Rect S8192x2048) (hu) (X : r.shape.Idx → Elt F .f32) :
    (owns (d : Thread nD τ) (outM.slice r hu) fullShare X : sProp 𝕄)
      = iprop(∃ f : Buf (Elt F) (outM.view.loc (d : Thread nD τ)), ⌜(outM.slice r hu).view.read (Elt F) f = X⌝ ∗ (outM.view.loc (d : Thread nD τ) ↦[r.set.map outM.view.emb]{fullShare} f)) := by
  have e : (outM.slice r hu).view.set = r.set.map outM.view.emb := View.set_slice _ _
  rw [← e]; rfl

theorem read_slice_congr (d : Dev nD) (r : Rect S8192x2048) (hu) (f g : Buf (Elt F) (outM.view.loc (d : Thread nD τ)))
    (h : ∀ i ∈ r.set.map outM.view.emb, g i = f i) : (outM.slice r hu).view.read (Elt F) g = (outM.slice r hu).view.read (Elt F) f := by
  have e : (outM.slice r hu).view.set = r.set.map outM.view.emb := View.set_slice _ _
  rw [← e] at h
  exact View.read_congr h

/-- The result buffer cut into the pieces, -/
theorem out_cut (d : Dev nD) (f : Buf (Elt F) (outM.view.loc (d : Thread nD τ))) :
    (outM.view.loc (d : Thread nD τ) ↦{fullShare} f : sProp 𝕄) ⊢ outPre (F := F) d := by
  have h := scatter (F := F) (outM.view.loc (d : Thread nD τ)) fullShare Finset.univ (oK d) f (oK_disj d) (oK_cov d)
  have h' := BI.bigSep_univ_prod (M := 𝕄) (fun t => iprop(outM.view.loc (d : Thread nD τ) ↦[oK d t]{fullShare} f))
  rw [h', bigSep6] at h
  refine BIBase.Entails.trans h ?_
  unfold outPre Ex
  have e (r : Rect S8192x2048) (hu) : (outM.view.loc (d : Thread nD τ) ↦[r.set.map outM.view.emb]{fullShare} f : sProp 𝕄)
      ⊢ iprop(∃ X, owns (d : Thread nD τ) (outM.slice r hu) fullShare X) := by
    iintro H
    iexists ((outM.slice r hu).view.read (Elt F) f)
    rw [owns_piece]
    iexists f; isplitr; · ipureintro; rfl
    iexact H
  refine BI.sep_mono (bigSep_mono fun c _ => e _ _) (BI.sep_mono (bigSep_mono fun c _ => e _ _) (BI.sep_mono (bigSep_mono fun c _ => e _ _)
    (BI.sep_mono (bigSep_mono fun c _ => e _ _) (BI.sep_mono (bigSep_mono fun c _ => e _ _) (bigSep_mono fun c _ => e _ _)))))

/-- and put together. -/
theorem out_paste (d : Dev nD) (f₀ : Buf (Elt F) (outM.view.loc (d : Thread nD τ))) :
    outPost m d ⊢ iprop(∃ g, ⌜∀ t, GoodAt m d g t⌝ ∗ (outM.view.loc (d : Thread nD τ) ↦{fullShare} g) : sProp 𝕄) := by
  have h := gather (F := F) (outM.view.loc (d : Thread nD τ)) fullShare Finset.univ (oK d) (fun t g => GoodAt m d g t) f₀
    (fun t f g hfg hP => by
      obtain ⟨k, c⟩ := t
      fin_cases k <;> exact (read_slice_congr d _ _ f g hfg).trans hP) (oK_disj d) (oK_cov d)
  have h' := BI.bigSep_univ_prod (M := 𝕄) (fun t => iprop(∃ f, ⌜GoodAt m d f t⌝ ∗ (outM.view.loc (d : Thread nD τ) ↦[oK d t]{fullShare} f)))
  rw [h', bigSep6] at h
  refine BIBase.Entails.trans ?_ h
  unfold outPost
  refine BI.sep_mono (bigSep_mono fun c _ => Entails.of_eq (owns_piece d _ _ _)) (BI.sep_mono (bigSep_mono fun c _ => Entails.of_eq (owns_piece d _ _ _)) (BI.sep_mono (bigSep_mono fun c _ => Entails.of_eq (owns_piece d _ _ _))
    (BI.sep_mono (bigSep_mono fun c _ => Entails.of_eq (owns_piece d _ _ _)) (BI.sep_mono (bigSep_mono fun c _ => Entails.of_eq (owns_piece d _ _ _)) (bigSep_mono fun c _ => Entails.of_eq (owns_piece d _ _ _))))))

end Cert.KernelIdeal.AR

end
-- ==== Proof.KernelIdeal.Ends.lean ====
/-
  A device's whole buffers and semaphores against the pieces the body starts from and ends with.
-/
module

public import proofs.«01_k».proof.Proof.KernelIdeal.Out

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ)

/-! ## Semaphores -/

/-- The kernel's own semaphores: the second handshake's, the senders', the receivers', the local copies'. -/
abbrev OS : Type := Fin 3 ⊕ ((Fin 6 × Fin 8) ⊕ ((Fin 6 × Fin 8) ⊕ (Fin 6 × Fin 2)))
def osem : OS → SemLoc sig
  | .inl k => .reg (rvS k)
  | .inr (.inl (f, c)) => .dma (s8 (sndA f) c)
  | .inr (.inr (.inl (f, c))) => .dma (s8 (rcvA f) c)
  | .inr (.inr (.inr (f, s))) => .dma (s2 (locA f) s)

/-- The local copies' semaphores at zero. -/
def Locs (d : Dev nD) : sProp 𝕄 := bigSep Finset.univ fun f : Fin 6 => bigSep Finset.univ fun s : Fin 2 => Zero (F := F) d (s2 (locA f) s)

/-- Something for every cell, kind by kind. -/
theorem cells_split (Φ : Cl → sProp 𝕄) : bigSep Finset.univ Φ
    = iprop((Φ cBar ∗ bigSep Finset.univ fun k : Fin 3 => Φ (cRv k))
      ∗ ((bigSep Finset.univ fun f : Fin 6 => E8 fun c => Φ (cSnd f c)) ∗ (bigSep Finset.univ fun f : Fin 6 => E8 fun c => Φ (cRcv f c)))) := by
  rw [BI.bigSep_univ_sum, BI.bigSep_univ_sum, BI.bigSep_univ_sum, BI.bigSep_univ_prod, BI.bigSep_univ_prod,
    bigSep_univ_eq_bigSepL [()] (by decide) (by decide)]
  rfl

theorem ownSems0_eq (d : Dev nD) : (Pipeline.ownSems0 (Ix := Unit) (Name := ℕ) (U := UU) (Lvl := ℕ) (Val := Elt F) (τ := τ) osem d : sProp 𝕄)
    = iprop((bigSep Finset.univ fun k : Fin 3 => semVal (cell d (cRv k)) 0)
      ∗ (bigSep Finset.univ fun f : Fin 6 => E8 fun c => semVal (cell d (cSnd f c)) 0)
      ∗ (bigSep Finset.univ fun f : Fin 6 => E8 fun c => semVal (cell d (cRcv f c)) 0) ∗ Locs (F := F) d) := by
  unfold Pipeline.ownSems0 Locs
  rw [BI.bigSep_univ_sum, BI.bigSep_univ_sum, BI.bigSep_univ_sum, BI.bigSep_univ_prod, BI.bigSep_univ_prod, BI.bigSep_univ_prod]
  rfl

theorem unscopedSems0_eq (d : Dev nD) : (unscopedSems0 d : sProp 𝕄) = semVal (cell d cBar) 0 := by
  unfold unscopedSems0; rw [bigSep_eq_bigSepL_of_eq [SemLoc.reg barS] (by decide +kernel) (by decide)]; rfl

/-- The semaphores at zero are the cells and the local copies'. -/
theorem sems0_in (d : Dev nD) :
    iprop(Pipeline.ownSems0 (Ix := Unit) (Name := ℕ) (U := UU) (Lvl := ℕ) (Val := Elt F) (τ := τ) osem d ∗ unscopedSems0 d)
      ⊢ iprop((bigSep Finset.univ fun k : Cl => semVal (cell d k) 0) ∗ Locs (F := F) d : sProp 𝕄) := by
  rw [ownSems0_eq, unscopedSems0_eq, cells_split fun k : Cl => (semVal (cell d k) 0 : sProp 𝕄)]
  iintro ⟨⟨H1, H2, H3, H4⟩, H0⟩
  isplitr [H4]
  · isplitl [H0 H1]
    · isplitl [H0]; · iexact H0
      iexact H1
    isplitl [H2]; · iexact H2
    iexact H3
  iexact H4

theorem sems0_out (d : Dev nD) :
    iprop((bigSep Finset.univ fun k : Cl => semVal (cell d k) 0) ∗ Locs (F := F) d)
      ⊢ (iprop(Pipeline.ownSems0 (Ix := Unit) (Name := ℕ) (U := UU) (Lvl := ℕ) (Val := Elt F) (τ := τ) osem d ∗ unscopedSems0 d) : sProp 𝕄) := by
  rw [ownSems0_eq, unscopedSems0_eq, cells_split fun k : Cl => (semVal (cell d k) 0 : sProp 𝕄)]
  iintro ⟨⟨⟨H0, H1⟩, H2, H3⟩, H4⟩
  isplitr [H0]
  · isplitl [H1]; · iexact H1
    isplitl [H2]; · iexact H2
    isplitl [H3]; · iexact H3
    iexact H4
  iexact H0

/-- Every cell waited for is given back at zero. -/
theorem close_all (d : Dev nD) : iprop(Rec m K ∗ bigSep Finset.univ fun k : Cl => At1 (F := F) d k) ⊢ |={Set.univ}=> bigSep Finset.univ fun k : Cl => (semVal (cell d k) 0 : sProp 𝕄) := by
  have h (k : Cl) : iprop(Rec m K ∗ At1 (F := F) d k) ⊢ |={Set.univ}=> (semVal (cell d k) 0 : sProp 𝕄) := by
    iintro ⟨#HR, HA⟩
    ihave HI := (Rec_inv m K d k) $$ [HR]
    · iexact HR
    iapply (Rounds.cell_close ER (Rd m) (Set.mem_univ (K (d, k))) (fun h => h) (R := 0 + 1) (duties_later m (cell d k)))
    isplitl [HI]; · iexact HI
    iexact HA
  refine BIBase.Entails.trans (sep_mono_left (BI.bigSep_of_persistent (Finset.univ : Finset Cl) (Rec m K))) ?_
  rw [← bigSep_sep']
  exact (bigSep_mono fun k _ => h k).trans (bigSep_fupd _ _)

/-! ## Buffers -/

/-- A scratch buffer of the device at some contents. -/
abbrev Buf1 (d : Dev nD) (b : Ref sig .tc) : sProp 𝕄 := iprop(∃ f : Buf (Elt F) ((d : Thread nD τ).loc b), ((d : Thread nD τ).loc b) ↦{fullShare} f)

theorem whole_C (d : Dev nD) (M : Memref sig .tc .vmem S8x128x2048 .bf16) (hM : M.view.set = Finset.univ) :
    (iprop(∃ f : Buf (Elt F) (M.view.loc (d : Thread nD τ)), M.view.loc (d : Thread nD τ) ↦{fullShare} f) : sProp 𝕄) ⊢ E8 fun c => Ex (F := F) d (mC M c) :=
  cutEx d M hM rC (fun _ _ => rfl) S128x2048 (fun _ => squeezes_S1x128x2048_S128x2048) disjC covC
theorem C_whole (d : Dev nD) (M : Memref sig .tc .vmem S8x128x2048 .bf16) (hM : M.view.set = Finset.univ) (f₀ : Buf (Elt F) (M.view.loc (d : Thread nD τ))) :
    (E8 fun c => Ex (F := F) d (mC M c)) ⊢ (iprop(∃ f : Buf (Elt F) (M.view.loc (d : Thread nD τ)), M.view.loc (d : Thread nD τ) ↦{fullShare} f) : sProp 𝕄) :=
  pasteEx d M hM rC (fun _ _ => rfl) S128x2048 (fun _ => squeezes_S1x128x2048_S128x2048) disjC covC f₀
theorem whole_W (d : Dev nD) (M : Memref sig .tc .vmem S8x256x2048 .bf16) (hM : M.view.set = Finset.univ) :
    (iprop(∃ f : Buf (Elt F) (M.view.loc (d : Thread nD τ)), M.view.loc (d : Thread nD τ) ↦{fullShare} f) : sProp 𝕄) ⊢ E8 fun c => Ex (F := F) d (mW M c) :=
  cutEx d M hM rW (fun _ _ => rfl) S256x2048 (fun _ => squeezes_S1x256x2048_S256x2048) disjW covW
theorem W_whole (d : Dev nD) (M : Memref sig .tc .vmem S8x256x2048 .bf16) (hM : M.view.set = Finset.univ) (f₀ : Buf (Elt F) (M.view.loc (d : Thread nD τ))) :
    (E8 fun c => Ex (F := F) d (mW M c)) ⊢ (iprop(∃ f : Buf (Elt F) (M.view.loc (d : Thread nD τ)), M.view.loc (d : Thread nD τ) ↦{fullShare} f) : sProp 𝕄) :=
  pasteEx d M hM rW (fun _ _ => rfl) S256x2048 (fun _ => squeezes_S1x256x2048_S256x2048) disjW covW f₀
theorem whole_S (d : Dev nD) (M : Memref sig .tc .vmem S2x128x2048 .f32) (hM : M.view.set = Finset.univ) :
    (iprop(∃ f : Buf (Elt F) (M.view.loc (d : Thread nD τ)), M.view.loc (d : Thread nD τ) ↦{fullShare} f) : sProp 𝕄) ⊢ iprop(Ex (F := F) d (mS M 0) ∗ Ex (F := F) d (mS M 1)) := by
  have h := cutEx (F := F) d M hM rS (fun _ _ => rfl) S128x2048 (fun _ => squeezes_S1x128x2048_S128x2048) disjS covS
  rw [bigSep_fin_two] at h; exact h
theorem S_whole (d : Dev nD) (M : Memref sig .tc .vmem S2x128x2048 .f32) (hM : M.view.set = Finset.univ) (f₀ : Buf (Elt F) (M.view.loc (d : Thread nD τ))) :
    iprop(Ex (F := F) d (mS M 0) ∗ Ex (F := F) d (mS M 1)) ⊢ (iprop(∃ f : Buf (Elt F) (M.view.loc (d : Thread nD τ)), M.view.loc (d : Thread nD τ) ↦{fullShare} f) : sProp 𝕄) := by
  have h := pasteEx (F := F) d M hM rS (fun _ _ => rfl) S128x2048 (fun _ => squeezes_S1x128x2048_S128x2048) disjS covS f₀
  rw [bigSep_fin_two] at h; exact h
theorem whole_SW (d : Dev nD) (M : Memref sig .tc .vmem S2x256x2048 .f32) (hM : M.view.set = Finset.univ) :
    (iprop(∃ f : Buf (Elt F) (M.view.loc (d : Thread nD τ)), M.view.loc (d : Thread nD τ) ↦{fullShare} f) : sProp 𝕄) ⊢ iprop(Ex (F := F) d (mSW M 0) ∗ Ex (F := F) d (mSW M 1)) := by
  have h := cutEx (F := F) d M hM rSW (fun _ _ => rfl) S256x2048 (fun _ => squeezes_S1x256x2048_S256x2048) disjSW covSW
  rw [bigSep_fin_two] at h; exact h
theorem SW_whole (d : Dev nD) (M : Memref sig .tc .vmem S2x256x2048 .f32) (hM : M.view.set = Finset.univ) (f₀ : Buf (Elt F) (M.view.loc (d : Thread nD τ))) :
    iprop(Ex (F := F) d (mSW M 0) ∗ Ex (F := F) d (mSW M 1)) ⊢ (iprop(∃ f : Buf (Elt F) (M.view.loc (d : Thread nD τ)), M.view.loc (d : Thread nD τ) ↦{fullShare} f) : sProp 𝕄) := by
  have h := pasteEx (F := F) d M hM rSW (fun _ _ => rfl) S256x2048 (fun _ => squeezes_S1x256x2048_S256x2048) disjSW covSW f₀
  rw [bigSep_fin_two] at h; exact h

/-- The two slots of each staging buffer. -/
def slots (d : Dev nD) : sProp 𝕄 :=
  iprop((Ex (F := F) d (mS pxM 0) ∗ Ex (F := F) d (mS pxM 1)) ∗ (Ex (F := F) d (mS pmM 0) ∗ Ex (F := F) d (mS pmM 1)) ∗ (Ex (F := F) d (mS riM 0) ∗ Ex (F := F) d (mS riM 1))
    ∗ (Eou (F := F) d 0 ∗ Eou (F := F) d 1) ∗ (Ecs (F := F) d 0 ∗ Ecs (F := F) d 1) ∗ (Eph (F := F) d 0 ∗ Eph (F := F) d 1))

/-- What a device hands over at entry, from its own buffers. -/
theorem barPay_own (d : Dev nD) : (bigSep Finset.univ fun k : Fin 3 => barPay (F := F) (ax k d) k)
    = iprop((E8 (fun c => Ex (F := F) d (mC rxM c)) ∗ E8 (fun c => Ex (F := F) d (mH rbM c (hpx d))))
      ∗ (E8 (fun c => Ex (F := F) d (mW ryM c)) ∗ E8 (fun c => Ex (F := F) d (mC yfM c)))
      ∗ (E8 (fun c => Ex (F := F) d (mW rzM c)) ∗ E8 (fun c => Ex (F := F) d (mC zfM c)))) := by
  rw [bigSep3]
  have h0 : barPay (F := F) (ax 0 d) 0 = bigSep Finset.univ fun c : Fin 8 => iprop(Ex (F := F) (xp (xp d)) (mC rxM c) ∗ Ex (F := F) (xp (xp d)) (mH rbM c (hx (xp d)))) := rfl
  have h1 : barPay (F := F) (ax 1 d) 1 = bigSep Finset.univ fun c : Fin 8 => iprop(Ex (F := F) (yp (yp d)) (mW ryM c) ∗ Ex (F := F) (yp (yp d)) (mC yfM c)) := rfl
  have h2 : barPay (F := F) (ax 2 d) 2 = bigSep Finset.univ fun c : Fin 8 => iprop(Ex (F := F) (zp (zp d)) (mW rzM c) ∗ Ex (F := F) (zp (zp d)) (mC zfM c)) := rfl
  rw [h0, h1, h2, xp_xp, yp_yp, zp_zp, hx_xp, bigSep_sep', bigSep_sep', bigSep_sep']

/-- The scratch buffers cut for the body. -/
theorem scratch_in (d : Dev nD) : (Pipeline.scopedRest (Ix := Unit) (Name := ℕ) (U := UU) (Lvl := ℕ) (Val := Elt F) cfg0.spec d : sProp 𝕄)
    ⊢ iprop((bigSep Finset.univ fun k : Fin 3 => barPay (F := F) (ax k d) k) ∗ slots (F := F) d
      ∗ (E8 (fun c => Ex (F := F) d (mC sxM c)) ∗ E8 (fun c => Ex (F := F) d (mH rbM c (hx d))))) := by
  refine BIBase.Entails.trans (Entails.of_eq (scopedRest0_eq d)) ?_
  rw [barPay_own]
  unfold slots
  iintro ⟨H0, H1, H2, H3, H4, H5, H6, H7, H8, H9, H10, H11, H12⟩
  ihave H2 := (whole_W (F := F) d rbM (View.set_whole _)) $$ H2
  have hs : (E8 fun c => Ex (F := F) d (mW rbM c)) ⊢ iprop(E8 (fun c => Ex (F := F) d (mH rbM c (hx d))) ∗ E8 (fun c => Ex (F := F) d (mH rbM c (hpx d)))) := by
    rw [← bigSep_sep']; exact bigSep_mono fun c _ => splitHx d d rbM c
  ihave H2 := hs $$ H2
  icases H2 with ⟨H2, H2'⟩
  isplitl [H1 H2' H3 H6 H4 H5]
  · isplitl [H1 H2']
    · isplitl [H1]; · iapply (whole_C (F := F) d rxM (View.set_whole _)); iexact H1
      iexact H2'
    isplitl [H3 H6]
    · isplitl [H3]; · iapply (whole_W (F := F) d ryM (View.set_whole _)); iexact H3
      iapply (whole_C (F := F) d yfM (View.set_whole _)); iexact H6
    isplitl [H4]; · iapply (whole_W (F := F) d rzM (View.set_whole _)); iexact H4
    iapply (whole_C (F := F) d zfM (View.set_whole _)); iexact H5
  isplitl [H7 H8 H9 H10 H11 H12]
  · isplitl [H7]; · iapply (whole_S (F := F) d pxM (View.set_whole _)); iexact H7
    isplitl [H8]; · iapply (whole_S (F := F) d pmM (View.set_whole _)); iexact H8
    isplitl [H9]; · iapply (whole_S (F := F) d riM (View.set_whole _)); iexact H9
    isplitl [H10]; · iapply (whole_S (F := F) d ouM (View.set_whole _)); iexact H10
    isplitl [H11]; · iapply (whole_SW (F := F) d csM (View.set_whole _)); iexact H11
    iapply (whole_S (F := F) d phM (View.set_whole _)); iexact H12
  isplitl [H0]; · iapply (whole_C (F := F) d sxM (View.set_whole _)); iexact H0
  iexact H2

/-- A chunk of the second scratch buffer from the shares its transfers gave back. -/
theorem rb_chunk (d : Dev nD) (c : Fin 8) :
    iprop(owns (d : Thread nD τ) (mH rbM c (hpx d)) fullShare.left (NB m (xp d) c) ∗ owns (d : Thread nD τ) (mH rbM c (hx d)) fullShare.left (NB m d c)
        ∗ owns (d : Thread nD τ) (mW rbM c) fullShare.right.left (RB m d c) ∗ owns (d : Thread nD τ) (mW rbM c) fullShare.right.right (RB m d c))
      ⊢ (Ex d (mW rbM c) : sProp 𝕄) := by
  iintro ⟨H1, H2, H3, H4⟩
  ihave Hl := (joinHx (F := F) d d rbM c fullShare.left (NB m d c) (NB m (xp d) c) (m _)) $$ [H1 H2]
  · isplitl [H2] <;> iassumption
  ihave Hr := (owns_join (F := F) d (mW rbM c) fullShare.right (RB m d c) (RB m d c)) $$ [H3 H4]
  · isplitl [H3] <;> iassumption
  iapply (Ex_of_owns (d := d) (mW rbM c) _)
  iapply (owns_join (F := F) d (mW rbM c) fullShare _ _)
  isplitl [Hl] <;> iassumption

/-- The same of the buffers two halves of which were sent on apart. -/
theorem half_chunk (d : Dev nD) (M : Memref sig .tc .vmem S8x256x2048 .bf16) (c : Fin 8) (X Y : S256x2048.Idx → Elt F .bf16) (f₀ : Buf (Elt F) (M.view.loc (d : Thread nD τ))) :
    iprop(owns (d : Thread nD τ) (mW M c) fullShare.right X ∗ owns (d : Thread nD τ) (mH M c 0) fullShare.left (rows 0 Y) ∗ owns (d : Thread nD τ) (mH M c 1) fullShare.left (rows 1 Y))
      ⊢ (Ex d (mW M c) : sProp 𝕄) := by
  iintro ⟨H1, H2, H3⟩
  ihave Hl := (joinH (F := F) d M c fullShare.left (fun h => rows h Y) f₀) $$ [H2 H3]
  · isplitl [H2] <;> iassumption
  iapply (Ex_of_owns (d := d) (mW M c) _)
  iapply (owns_join (F := F) d (mW M c) fullShare _ _)
  isplitl [Hl] <;> iassumption

/-- The scratch buffers put together again. -/
theorem scratch_out (d : Dev nD) :
    iprop(bufPost m d ∗ (bigSep Finset.univ fun f : Fin 6 => E8 fun c => sndPay m d f c) ∗ slots (F := F) d)
      ⊢ (Pipeline.scopedRest (Ix := Unit) (Name := ℕ) (U := UU) (Lvl := ℕ) (Val := Elt F) cfg0.spec d : sProp 𝕄) := by
  refine BIBase.Entails.trans ?_ (Entails.of_eq (scopedRest0_eq d).symm)
  rw [bigSep6]
  unfold slots bufPost
  iintro ⟨⟨H1, H5, H6, Hp, ⟨Hy, Hy1⟩, ⟨Hz, Hz0⟩⟩, ⟨S0, S1, S2, S3, S4, S5⟩, H7, H8, H9, H10, H11, H12⟩
  have h0 : (E8 fun c => sndPay m d 0 c) ⊢ E8 fun c => Ex (F := F) d (mC sxM c) := bigSep_mono fun c _ => Ex_of_owns (mC sxM c) (SX m d c)
  have h2 : iprop(E8 (fun c => owns (d : Thread nD τ) (mH rbM c (hpx d)) fullShare.left (NB m (xp d) c)) ∗ E8 (fun c => sndPay m d 1 c) ∗ E8 (fun c => sndPay m d 2 c) ∗ E8 (fun c => sndPay m d 3 c))
      ⊢ E8 fun c => Ex (F := F) d (mW rbM c) := by
    rw [← bigSep_sep', ← bigSep_sep', ← bigSep_sep']; exact bigSep_mono fun c _ => rb_chunk m d c
  have h3 : iprop(E8 (fun c => owns (d : Thread nD τ) (mW ryM c) fullShare.right (RB m (yp d) c)) ∗ E8 (fun c => sndPay m d 4 c) ∗ E8 (fun c => owns (d : Thread nD τ) (mH ryM c 1) fullShare.left (rows 1 (RB m (yp d) c))))
      ⊢ E8 fun c => Ex (F := F) d (mW ryM c) := by
    rw [← bigSep_sep', ← bigSep_sep']; exact bigSep_mono fun c _ => half_chunk d ryM c _ _ (m _)
  have h4 : iprop(E8 (fun c => owns (d : Thread nD τ) (mW rzM c) fullShare.right (RB m (zp d) c)) ∗ E8 (fun c => owns (d : Thread nD τ) (mH rzM c 0) fullShare.left (rows 0 (RB m (zp d) c))) ∗ E8 (fun c => sndPay m d 5 c))
      ⊢ E8 fun c => Ex (F := F) d (mW rzM c) := by
    rw [← bigSep_sep', ← bigSep_sep']; exact bigSep_mono fun c _ => half_chunk d rzM c _ _ (m _)
  isplitl [S0]; · iapply (C_whole (F := F) d sxM (View.set_whole _) (m _)); iapply h0; iexact S0
  isplitl [H1]; · iapply (C_whole (F := F) d rxM (View.set_whole _) (m _)); iexact H1
  isplitl [Hp S1 S2 S3]
  · iapply (W_whole (F := F) d rbM (View.set_whole _) (m _)); iapply h2
    isplitl [Hp]; · iexact Hp
    isplitl [S1]; · iexact S1
    isplitl [S2] <;> iassumption
  isplitl [Hy Hy1 S4]
  · iapply (W_whole (F := F) d ryM (View.set_whole _) (m _)); iapply h3
    isplitl [Hy]; · iexact Hy
    isplitl [S4] <;> iassumption
  isplitl [Hz Hz0 S5]
  · iapply (W_whole (F := F) d rzM (View.set_whole _) (m _)); iapply h4
    isplitl [Hz]; · iexact Hz
    isplitl [Hz0] <;> iassumption
  isplitl [H5]; · iapply (C_whole (F := F) d zfM (View.set_whole _) (m _)); iexact H5
  isplitl [H6]; · iapply (C_whole (F := F) d yfM (View.set_whole _) (m _)); iexact H6
  isplitl [H7]; · iapply (S_whole (F := F) d pxM (View.set_whole _) (m _)); iexact H7
  isplitl [H8]; · iapply (S_whole (F := F) d pmM (View.set_whole _) (m _)); iexact H8
  isplitl [H9]; · iapply (S_whole (F := F) d riM (View.set_whole _) (m _)); iexact H9
  isplitl [H10]; · iapply (S_whole (F := F) d ouM (View.set_whole _) (m _)); iexact H10
  isplitl [H11]; · iapply (SW_whole (F := F) d csM (View.set_whole _) (m _)); iexact H11
  iapply (S_whole (F := F) d phM (View.set_whole _) (m _)); iexact H12

/-! ## Arrays -/

/-- An argument array at a share in two. -/
theorem arr_split (ℓ : Loc nD τ sig) (q : PosShare TreeShare) (f : Buf (Elt F) ℓ) :
    (ℓ ↦{q} f : sProp 𝕄) ⊣⊢ iprop((ℓ ↦{q.left} f) ∗ ℓ ↦{q.right} f) := pointsTo_share (PosShare.mem_left_op_right q)

theorem args_in (d : Dev nD) : iprop(((d : Thread nD τ).loc main_arg0 ↦{fullShare} m ((d : Thread nD τ).loc main_arg0)) ∗ ((d : Thread nD τ).loc main_arg1 ↦{fullShare} m ((d : Thread nD τ).loc main_arg1)))
    ⊣⊢ (iprop((arPx m d 0 ∗ arPx m d 1) ∗ (arPm m d 0 ∗ arPm m d 1) ∗ (arRi m d 0 ∗ arRi m d 1)) : sProp 𝕄) := by
  have h0 := arr_split (F := F) ((d : Thread nD τ).loc main_arg0) fullShare (m _)
  have hl := arr_split (F := F) ((d : Thread nD τ).loc main_arg0) fullShare.left (m _)
  have hr := arr_split (F := F) ((d : Thread nD τ).loc main_arg0) fullShare.right (m _)
  have h1 := arr_split (F := F) ((d : Thread nD τ).loc main_arg1) fullShare (m _)
  refine ⟨BIBase.Entails.trans (BI.sep_mono (h0.1.trans (BI.sep_mono hl.1 hr.1)) h1.1) (P := iprop(((d : Thread nD τ).loc main_arg0 ↦{fullShare} m ((d : Thread nD τ).loc main_arg0)) ∗ ((d : Thread nD τ).loc main_arg1 ↦{fullShare} m ((d : Thread nD τ).loc main_arg1))))
      (show _ ⊢ _ from sep_assoc.1), ?_⟩
  exact BIBase.Entails.trans (show _ ⊢ iprop(((arPx m d 0 ∗ arPx m d 1) ∗ (arPm m d 0 ∗ arPm m d 1)) ∗ (arRi m d 0 ∗ arRi m d 1)) from sep_assoc.2) (BI.sep_mono ((BI.sep_mono hl.2 hr.2).trans h0.2) h1.2)

/-! ## From what the launch deals to what the body starts from -/

/-- The tokens of the duties device `d` pays. -/
def payToks (d : Dev nD) : sProp 𝕄 :=
  iprop((bigSep Finset.univ fun k : Fin 3 => Tok (F := F) (ax k d) cBar k) ∗ (bigSep Finset.univ fun k : Fin 3 => Tok (F := F) (ax k d) (cRv k) 0)
    ∗ (bigSep Finset.univ fun f : Fin 6 => E8 fun c => STok (F := F) d f c))
/-- The credits of the cells device `d` waits on. -/
def creds (d : Dev nD) : sProp 𝕄 :=
  iprop(Cr (F := F) d cBar ∗ (bigSep Finset.univ fun k : Fin 3 => Cr (F := F) d (cRv k)) ∗ (bigSep Finset.univ fun f : Fin 6 => E8 fun c => Cr (F := F) d (cRcv f c)))
/-- What the launch deals device `d`. -/
def dealt (d : Dev nD) : sProp 𝕄 :=
  iprop(Locs (F := F) d ∗ payToks (F := F) d ∗ (bigSep Finset.univ fun k : Cl => At0 (F := F) d k) ∗ creds (F := F) d)
/-- The arrays of device `d`. -/
def arrs (d : Dev nD) : sProp 𝕄 :=
  iprop((((d : Thread nD τ).loc main_arg0 ↦{fullShare} m ((d : Thread nD τ).loc main_arg0)) ∗ ((d : Thread nD τ).loc main_arg1 ↦{fullShare} m ((d : Thread nD τ).loc main_arg1)))
    ∗ ((d : Thread nD τ).loc main_v1 ↦{fullShare} m ((d : Thread nD τ).loc main_v1)))

theorem locs_eq (d : Dev nD) : Locs (F := F) d = iprop((Zero (F := F) d (s2 cc0_scratch25 0) ∗ Zero (F := F) d (s2 cc0_scratch25 1)) ∗ (Zero (F := F) d (s2 cc0_scratch26 0) ∗ Zero (F := F) d (s2 cc0_scratch26 1))
    ∗ (Zero (F := F) d (s2 cc0_scratch27 0) ∗ Zero (F := F) d (s2 cc0_scratch27 1)) ∗ (Zero (F := F) d (s2 cc0_scratch28 0) ∗ Zero (F := F) d (s2 cc0_scratch28 1))
    ∗ (Zero (F := F) d (s2 cc0_scratch29 0) ∗ Zero (F := F) d (s2 cc0_scratch29 1)) ∗ (Zero (F := F) d (s2 cc0_scratch30 0) ∗ Zero (F := F) d (s2 cc0_scratch30 1))) := by
  unfold Locs
  rw [bigSep6]
  simp only [bigSep_fin_two]
  rfl

/-- The local copies' slots, semaphores and argument shares. -/
theorem idle_in (d : Dev nD) : iprop(slots (F := F) d ∗ Locs (F := F) d ∗ ((arPx m d 0 ∗ arPx m d 1) ∗ (arPm m d 0 ∗ arPm m d 1) ∗ (arRi m d 0 ∗ arRi m d 1)))
    ⊢ iprop(preS m d ∗ outIdle (F := F) d) := by
  rw [locs_eq]
  unfold slots preS outIdle IdPx IdPm IdRi InIdle
  iintro ⟨⟨⟨A0, A1⟩, ⟨B0, B1⟩, ⟨C0, C1⟩, ⟨D0, D1⟩, ⟨E0, E1⟩, ⟨F0, F1⟩⟩, ⟨⟨a0, a1⟩, ⟨b0, b1⟩, ⟨c0, c1⟩, ⟨d0, d1⟩, ⟨e0, e1⟩, ⟨f0, f1⟩⟩, ⟨⟨x0, x1⟩, ⟨y0, y1⟩, ⟨z0, z1⟩⟩⟩
  isplitl [A0 A1 B0 B1 C0 C1 a0 a1 b0 b1 c0 c1 x0 x1 y0 y1 z0 z1]
  · isplitl [A0 A1 a0 a1 x0 x1]
    · isplitl [A0 a0 x0]
      · isplitl [A0]; · iexact A0
        isplitl [a0] <;> iassumption
      · isplitl [A1]; · iexact A1
        isplitl [a1] <;> iassumption
    isplitl [B0 B1 b0 b1 y0 y1]
    · isplitl [B0 b0 y0]
      · isplitl [B0]; · iexact B0
        isplitl [b0] <;> iassumption
      · isplitl [B1]; · iexact B1
        isplitl [b1] <;> iassumption
    · isplitl [C0 c0 z0]
      · isplitl [C0]; · iexact C0
        isplitl [c0] <;> iassumption
      · isplitl [C1]; · iexact C1
        isplitl [c1] <;> iassumption
  isplitl [D0 D1 d0 d1]
  · isplitl [D0 d0]
    · isplitl [D0] <;> iassumption
    · isplitl [D1] <;> iassumption
  isplitl [E0 E1 e0 e1]
  · isplitl [E0 e0]
    · isplitl [E0] <;> iassumption
    · isplitl [E1] <;> iassumption
  · isplitl [F0 f0]
    · isplitl [F0] <;> iassumption
    · isplitl [F1] <;> iassumption

theorem idle_out (d : Dev nD) : iprop(preS m d ∗ outIdle (F := F) d)
    ⊢ iprop(slots (F := F) d ∗ Locs (F := F) d ∗ ((arPx m d 0 ∗ arPx m d 1) ∗ (arPm m d 0 ∗ arPm m d 1) ∗ (arRi m d 0 ∗ arRi m d 1))) := by
  rw [locs_eq]
  unfold slots preS outIdle IdPx IdPm IdRi InIdle
  iintro ⟨⟨⟨⟨A0, a0, x0⟩, ⟨A1, a1, x1⟩⟩, ⟨⟨B0, b0, y0⟩, ⟨B1, b1, y1⟩⟩, ⟨⟨C0, c0, z0⟩, ⟨C1, c1, z1⟩⟩⟩, ⟨⟨D0, d0⟩, ⟨D1, d1⟩⟩, ⟨⟨E0, e0⟩, ⟨E1, e1⟩⟩, ⟨⟨F0, f0⟩, ⟨F1, f1⟩⟩⟩
  isplitl [A0 A1 B0 B1 C0 C1 D0 D1 E0 E1 F0 F1]
  · isplitl [A0 A1]; · isplitl [A0] <;> iassumption
    isplitl [B0 B1]; · isplitl [B0] <;> iassumption
    isplitl [C0 C1]; · isplitl [C0] <;> iassumption
    isplitl [D0 D1]; · isplitl [D0] <;> iassumption
    isplitl [E0 E1]; · isplitl [E0] <;> iassumption
    isplitl [F0] <;> iassumption
  isplitl [a0 a1 b0 b1 c0 c1 d0 d1 e0 e1 f0 f1]
  · isplitl [a0 a1]; · isplitl [a0] <;> iassumption
    isplitl [b0 b1]; · isplitl [b0] <;> iassumption
    isplitl [c0 c1]; · isplitl [c0] <;> iassumption
    isplitl [d0 d1]; · isplitl [d0] <;> iassumption
    isplitl [e0 e1]; · isplitl [e0] <;> iassumption
    isplitl [f0] <;> iassumption
  isplitl [x0 x1]; · isplitl [x0] <;> iassumption
  isplitl [y0 y1]; · isplitl [y0] <;> iassumption
  isplitl [z0] <;> iassumption

theorem enter (d : Dev nD) :
    iprop(Ow (F := F) d (O₀ d) ∗ owns (d : Thread nD τ) gammaM fullShare (gV m d) ∗ dealt (F := F) d
        ∗ Pipeline.scopedRest (Ix := Unit) (Name := ℕ) (U := UU) (Lvl := ℕ) (Val := Elt F) cfg0.spec d ∗ arrs m d)
      ⊢ preP m d := by
  unfold dealt payToks creds arrs
  rw [cells_split fun k : Cl => (At0 (F := F) d k : sProp 𝕄)]
  iintro ⟨HO, Hg, ⟨HL, ⟨Ht1, Ht2, Ht3⟩, ⟨⟨Ha0, Ha1⟩, Ha2, Ha3⟩, ⟨Hc0, Hc1, Hc2⟩⟩, Hs, ⟨Hab, Hv⟩⟩
  ihave Hs := (scratch_in (F := F) d) $$ Hs
  icases Hs with ⟨Hbp, Hsl, Hsx, Hrb⟩
  ihave Har := (args_in m d).1 $$ Hab
  ihave Hid := (idle_in m d) $$ [Hsl HL Har]
  · isplitl [Hsl]; · iexact Hsl
    isplitl [HL] <;> iassumption
  icases Hid with ⟨HpS, Hoi⟩
  ihave Ho := (out_cut (F := F) d _) $$ Hv
  unfold preP preH
  simp only [bigSep_sep']
  isplitl [HO Hbp Ht1 Ht2 Hc1 Ha1 Hc0 Ha0]
  · isplitl [HO]; · iexact HO
    isplitl [Hbp Ht1 Ht2 Hc1 Ha1]
    · isplitl [Hbp]; · iexact Hbp
      isplitl [Ht1]; · iexact Ht1
      isplitl [Ht2]; · iexact Ht2
      isplitl [Hc1] <;> iassumption
    isplitl [Hc0] <;> iassumption
  isplitl [HpS]; · iexact HpS
  isplitl [Hg]; · iexact Hg
  isplitl [Hoi]; · iexact Hoi
  isplitl [Hsx Hrb]
  · isplitl [Hsx] <;> iassumption
  isplitl [Ho]; · iexact Ho
  isplitl [Ht3]; · iexact Ht3
  isplitl [Hc2 Ha3]
  · isplitl [Hc2] <;> iassumption
  iexact Ha2

/-! ## From what the body ends with to what the kernel hands back -/

/-- What device `d` holds after the kernel. -/
def Φ₁ (d : Dev nD) : sProp 𝕄 :=
  iprop((Pipeline.ownSems0 (Ix := Unit) (Name := ℕ) (U := UU) (Lvl := ℕ) (Val := Elt F) (τ := τ) osem d ∗ unscopedSems0 d)
    ∗ Pipeline.scopedRest (Ix := Unit) (Name := ℕ) (U := UU) (Lvl := ℕ) (Val := Elt F) cfg0.spec d
    ∗ (((d : Thread nD τ).loc main_arg0 ↦{fullShare} m ((d : Thread nD τ).loc main_arg0)) ∗ ((d : Thread nD τ).loc main_arg1 ↦{fullShare} m ((d : Thread nD τ).loc main_arg1)))
    ∗ ∃ g : Buf (Elt F) ((d : Thread nD τ).loc main_v1), ⌜∀ t, GoodAt m d g t⌝ ∗ ((d : Thread nD τ).loc main_v1 ↦{fullShare} g))

theorem leave (d : Dev nD) : iprop(Rec m K ∗ postP m d)
    ⊢ |={Set.univ}=> iprop(Ow (F := F) d 0 ∗ owns (d : Thread nD τ) gammaM fullShare (gV m d) ∗ Φ₁ m d) := by
  unfold postP
  simp only [bigSep_sep']
  iintro ⟨#HR, HO, HpS, Hg, Hoi, Hb, Ho, ⟨A0, A1⟩, A3, ⟨Hsp, A2⟩⟩
  imod (close_all m K d) $$ [A0 A1 A2 A3] with Hz
  · isplitr; · iexact HR
    rw [cells_split fun k : Cl => (At1 (F := F) d k : sProp 𝕄)]
    isplitl [A0 A1]
    · isplitl [A0] <;> iassumption
    isplitl [A2] <;> iassumption
  imodintro
  ihave Hid := (idle_out m d) $$ [HpS Hoi]
  · isplitl [HpS] <;> iassumption
  icases Hid with ⟨Hsl, HL, Har⟩
  isplitl [HO]; · iexact HO
  isplitl [Hg]; · iexact Hg
  unfold Φ₁
  isplitl [Hz HL]
  · iapply (sems0_out (F := F) d); isplitl [Hz] <;> iassumption
  isplitl [Hb Hsp Hsl]
  · iapply (scratch_out m d)
    isplitl [Hb]; · iexact Hb
    isplitl [Hsp] <;> iassumption
  isplitl [Har]; · iapply (args_in m d).2; iexact Har
  iapply (out_paste m d (m _)); iexact Ho

end Cert.KernelIdeal.AR

end
-- ==== Proof.KernelIdeal.Eqn.lean ====
/-
  The printed body is the sequence of steps of `Prog.lean`, at each of the eight devices.
-/
module

public import proofs.«01_k».proof.Proof.KernelIdeal.Prog

@[expose] public section

noncomputable section

namespace Cert.KernelIdeal.AR

open Idealize.ShloMosaic Idealize.ShloMosaic.TcCoe
open Idealize.SL Idealize.SL.Sem
open Cert.KernelIdeal.Gen

variable {F : FTy → Type} [FloatOps F]

/-- What a program that starts by reading the device's number goes on with when it reads `d`. -/
def afterId (d : Dev nD) : P F → P F
  | .op .deviceId k => k d
  | p => p

/-- The printed body reads the device's number first. -/
theorem body_id (t : Fin cfg0.N) : bodyAt0 (F := F) t = .op .deviceId fun d => afterId d (bodyAt0 t) := by chain_rfl

/-- What follows it is the sequence of steps, at each device. -/
theorem body_from (t : Fin cfg0.N) : ∀ d : Dev nD, afterId d (bodyAt0 (F := F) t) = bodyFrom d
  | ⟨0, _⟩ => by chain_rfl
  | ⟨1, _⟩ => by chain_rfl
  | ⟨2, _⟩ => by chain_rfl
  | ⟨3, _⟩ => by chain_rfl
  | ⟨4, _⟩ => by chain_rfl
  | ⟨5, _⟩ => by chain_rfl
  | ⟨6, _⟩ => by chain_rfl
  | ⟨7, _⟩ => by chain_rfl

/-- The printed body: the device's number read, then the sequence of steps. -/
theorem body_eq (t : Fin cfg0.N) : bodyAt0 (F := F) t = (Prog.lift .deviceId >>= fun d => bodyFrom (F := F) d) := by
  rw [body_id]
  exact congrArg (Prog.op .deviceId) (funext fun d => body_from (F := F) t d)

end Cert.KernelIdeal.AR

end
-- ==== Proof.KernelIdeal.Body.lean ====
/-
  The kernel's proof data and the obligation of its body.
-/
module

public import proofs.«01_k».proof.Proof.KernelIdeal.Ends
public import proofs.«01_k».proof.Proof.KernelIdeal.Eqn

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg) (K : Dev nD × Cl → ℕ)

/-- What device `d` holds before the kernel. -/
def Φ₀ (d : Dev nD) : sProp 𝕄 :=
  iprop(((∃ K, Rec m K) ∗ dealt (F := F) d ∗ arrs m d) ∗ Pipeline.scopedRest (Ix := Unit) (Name := ℕ) (U := UU) (Lvl := ℕ) (Val := Elt F) cfg0.spec d)

/-- The proof data: gamma's block is left in place, everything else is the body's own. -/
def dats (_ : Fin 1) (d : Dev nD) : Dat τ (Elt F) Unit ℕ UU ℕ cfg0 d where
  A w := (s₀ m ρ).mem ((cfg0.win w).arr.view.loc (d : Thread nD τ))
  after w _ := match w with
    | ⟨0, _⟩ => gV m d
  Φ t := match t with
    | ⟨0, _⟩ => Φ₀ m d
    | ⟨_ + 1, _⟩ => Φ₁ m d
  q _ := fullShare
  owed t := match t with
    | ⟨0, _⟩ => O₀ d
    | ⟨_ + 1, _⟩ => 0

theorem before_gamma (d : Dev nD) (b) : (dats m ρ 0 d).before (0 : Fin 1) t0_0 b = gV m d := by
  unfold Dat.before; rw [if_pos (fetch0_0 t0_0)]; rfl

/-- An update left over at the end of a program. -/
theorem WP_fupd (d : Dev nD) (p : P F) (Q : PUnit → sProp 𝕄) :
    WP d p (fun a => iprop(|={Set.univ}=> Q a)) ⊢ wp frame (wpE (defs₀ (F := F)) 𝒱₀ (d : Thread nD τ) none) Set.univ p Q := by
  unfold WP WPv; exact wp_fupd frame (wpE (defs₀ (F := F)) 𝒱₀ (d : Thread nD τ) none) Set.univ p Q

/-- The body, and its cells closed. -/
theorem body_end (d : Dev nD) : iprop(Rec m K ∗ preP m d)
    ⊢ WP (F := F) d (bodyFrom (F := F) d) fun _ => iprop(|={Set.univ}=> (Ow (F := F) d 0 ∗ owns (d : Thread nD τ) gammaM fullShare (gV m d) ∗ Φ₁ m d)) := by
  iintro ⟨#HR, Hp⟩
  iapply (useLast (body_spec m K d)) $$ [Hp]
  · isplitr; · iexact HR
    iexact Hp
  iintro H
  iapply (leave m K d)
  isplitr; · iexact HR
  iexact H

/-- The body from what the pipeline hands it to what the pipeline takes back. -/
theorem body_run (d : Dev nD) :
    iprop(Φ₀ m d ∗ (dats m ρ 0 d).owesAt () t0_0.castSucc ∗ owns (d : Thread nD τ) gammaM fullShare (gV m d))
      ⊢ wp frame (wpE (defs₀ (F := F)) 𝒱₀ (d : Thread nD τ) none) Set.univ (bodyAt0 (F := F) t0_0)
        fun _ => iprop(Φ₁ m d ∗ (dats m ρ 0 d).owesAt () t0_0.succ ∗ owns (d : Thread nD τ) gammaM fullShare (gV m d)) := by
  rw [body_eq]
  simp only [Prog.lift, Prog.bind_op, Prog.bind_ret, Prog.pure_eq_ret, wp_deviceId]
  unfold Φ₀ Dat.owesAt Pipeline.owesWithin
  rw [show (dats m ρ 0 d).owed t0_0.castSucc = O₀ d from rfl, show (dats m ρ 0 d).owed t0_0.succ = 0 from rfl]
  iintro ⟨⟨⟨⟨%K, #HR⟩, Hd, Ha⟩, Hs⟩, ⟨%W, %hW, HO⟩, Hg⟩
  ihave Hpre := (enter m d) $$ [HO Hg Hd Hs Ha]
  · isplitl [HO]; · unfold Ow; iexists W; iexact HO
    isplitl [Hg]; · iexact Hg
    isplitl [Hd]; · iexact Hd
    isplitl [Hs] <;> iassumption
  have hb := BIBase.Entails.trans (body_end m K d) (WP_fupd d (bodyFrom (F := F) d) fun _ => iprop(Ow (F := F) d 0 ∗ owns (d : Thread nD τ) gammaM fullShare (gV m d) ∗ Φ₁ m d))
  iapply (BIBase.Entails.trans hb (wp_mono frame _ _ fun _ => ?_))
  · unfold Ow
    iintro ⟨⟨%W', HO⟩, Hg, HΦ⟩
    isplitl [HΦ]; · iexact HΦ
    isplitl [HO]
    · iexists W'
      isplitr; · ipureintro; exact fun _ _ => Or.inl trivial
      iexact HO
    iexact Hg
  · isplitr; · iexact HR
    iexact Hpre

set_option maxRecDepth 4000 in
/-- The body's obligation. -/
theorem body_obligation (d : Dev nD) : BodyObligation (dats (F := F) m ρ 0 d) (defs₀ (F := F)) 𝒱₀ () Set.univ := fun t => by
  rw [fin_N0 t, bigSep_W0, bigSep_W0]
  show iprop(Φ₀ m d ∗ (dats m ρ 0 d).owesAt () t0_0.castSucc ∗ (∃ b, owns (d : Thread nD τ) gammaM fullShare ((dats m ρ 0 d).before (0 : Fin 1) t0_0 b)))
    ⊢ wp frame (wpE (defs₀ (F := F)) 𝒱₀ (d : Thread nD τ) none) Set.univ (bodyAt0 (F := F) t0_0)
      fun _ => iprop(Φ₁ m d ∗ (dats m ρ 0 d).owesAt () t0_0.succ ∗ owns (d : Thread nD τ) gammaM fullShare (gV m d))
  iintro ⟨H, HO, ⟨%b, Hg⟩⟩
  iapply (body_run m ρ d)
  isplitl [H]; · iexact H
  isplitl [HO]; · iexact HO
  ihave Hg' := (Entails.of_eq (congrArg (fun X => (owns (d : Thread nD τ) gammaM fullShare X : sProp 𝕄)) (before_gamma m ρ d b))) $$ Hg
  iexact Hg'

end Cert.KernelIdeal.AR

end
-- ==== Proof.KernelIdeal.Launch.lean ====
/-
  The launch: the handshakes' and transfers' cells made for all devices, the duties dealt to the devices which pay them, and the run.
-/
module

public import proofs.«01_k».proof.Proof.KernelIdeal.Body
public import Idealize.ShloMosaic.Lib.Pipeline.CollectiveSegs

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

theorem ownSemFacts : Pipeline.OwnSemFacts cfg0.spec osem := by decide +kernel

theorem share_eq (d : Dev nD) (w : Fin cfg0.W) : (dats m ρ 0 d).share w = fullShare := by unfold Dat.share; split <;> rfl

/-! ## The launch element -/

theorem cell_injective : Function.Injective (fun p : Dev nD × Cl => cell p.1 p.2) := by
  rintro ⟨d, k⟩ ⟨d', k'⟩ h
  have h1 : d = d' := congrArg (fun g : GSem nD τ sig => g.1.1) h
  have h2 : k = k' := csem_injective (congrArg Prod.snd h)
  rw [h1, h2]
def arCells : Finset (GSem nD τ sig) := Finset.univ.map ⟨fun p : Dev nD × Cl => cell p.1 p.2, cell_injective⟩

/-- The duties of one device's cells. -/
abbrev Du : Type := Fin 3 ⊕ (Fin 3 ⊕ ((Fin 6 × Fin 8) ⊕ (Fin 6 × Fin 8)))
def duOf : Du → Cl × Fin 3
  | .inl k => (cBar, k)
  | .inr (.inl k) => (cRv k, 0)
  | .inr (.inr (.inl (f, c))) => (cSnd f c, 0)
  | .inr (.inr (.inr (f, c))) => (cRcv f c, 0)
theorem duOf_injective : Function.Injective duOf := by
  rintro (k | k | ⟨f, c⟩ | ⟨f, c⟩) (k' | k' | ⟨f', c'⟩ | ⟨f', c'⟩) h <;> simp_all [duOf]
theorem tok_injective : Function.Injective (fun p : Dev nD × Du => ((cell p.1 (duOf p.2).1, 0, (duOf p.2).2) : GSem nD τ sig × ℕ × Fin 3)) := by
  rintro ⟨d, i⟩ ⟨d', i'⟩ h
  have h0 : (d, (duOf i).1) = (d', (duOf i').1) := cell_injective (congrArg Prod.fst h)
  have h1 : (duOf i).2 = (duOf i').2 := congrArg (fun x : GSem nD τ sig × ℕ × Fin 3 => x.2.2) h
  have h2 : i = i' := duOf_injective (Prod.ext (congrArg Prod.snd h0) h1)
  have h3 : d = d' := congrArg Prod.fst h0
  rw [h2, h3]
def arToks : Finset (GSem nD τ sig × ℕ × Fin 3) := Finset.univ.map ⟨_, tok_injective⟩

def u₀ : UU := (initOf (Pipeline.cells cfgs cellOf_inj) (Pipeline.launchToks cfgs cellOf_inj), (initOf arCells arToks, 1))

/-- The duty tokens of device `d`'s own cells. -/
def toks (d : Dev nD) : sProp 𝕄 :=
  iprop((bigSep Finset.univ fun k : Fin 3 => Tok (F := F) d cBar k) ∗ (bigSep Finset.univ fun k : Fin 3 => Tok (F := F) d (cRv k) 0)
    ∗ (bigSep Finset.univ fun f : Fin 6 => E8 fun c => Tok (F := F) d (cSnd f c) 0) ∗ (bigSep Finset.univ fun f : Fin 6 => E8 fun c => Tok (F := F) d (cRcv f c) 0))

/-- What the launch element deals device `d`. -/
def G (d : Dev nD) : sProp 𝕄 :=
  iprop((bigSep Finset.univ fun k : Cl => roundState ER (Rd m) (cell d k) 0)
    ∗ ((bigSep Finset.univ fun k : Cl => At0 (F := F) d k) ∗ (bigSep Finset.univ fun k : Cl => reached ER (cell d k) 0)) ∗ toks (F := F) d)

theorem fund_ar : BI.own (ER (initOf arCells arToks)) ⊢ (|==> bigSep Finset.univ (G m) : sProp 𝕄) := by
  have hX (Φ : GSem nD τ sig → sProp 𝕄) : bigSep arCells Φ = bigSep Finset.univ fun d : Dev nD => bigSep Finset.univ fun k : Cl => Φ (cell d k) := by
    unfold arCells; rw [bigSep_map, bigSep_univ_prod]; rfl
  have hT : bigSep arToks (fun x => (dutyTok ER x.1 x.2.1 x.2.2 : sProp 𝕄)) = bigSep Finset.univ fun d : Dev nD => toks (F := F) d := by
    unfold arToks; rw [bigSep_map, bigSep_univ_prod]
    refine bigSep_congr fun d _ => ?_
    unfold toks
    rw [BI.bigSep_univ_sum, BI.bigSep_univ_sum, BI.bigSep_univ_sum, BI.bigSep_univ_prod, BI.bigSep_univ_prod]
    rfl
  iintro HX
  imod (Rounds.fund ER (Rd m) arCells arToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_at : BI.own (embR (initOf arCells arToks, (1 : Counters))) ⊢ (|==> bigSep Finset.univ (G m) : sProp 𝕄) := fund_ar m

/-! ## The cells made and the duties dealt -/

theorem core_alloc (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k : Cl => iprop(∃ κ : ℕ, cellInv ER (Rd m) κ (cell d k)))
          ∗ (bigSep Finset.univ fun k : Cl => At0 (F := F) d k) ∗ (bigSep Finset.univ fun k : Cl => reached ER (cell d k) 0) ∗ toks (F := F) d ∗ Locs (F := F) d) := by
  have ha : iprop((bigSep Finset.univ fun k : Cl => semVal (cell d k) 0) ∗ bigSep Finset.univ fun k : Cl => roundState ER (Rd m) (cell d k) 0)
      ⊢ (|={Set.univ}=> bigSep Finset.univ fun k => iprop(∃ κ : ℕ, cellInv ER (Rd m) κ (cell d k)) : sProp 𝕄) := by
    rw [← bigSep_sep']
    exact (bigSep_mono fun k _ => (Rounds.body_intro ER (Rd m) (cell d k)).trans inv_alloc).trans (bigSep_fupd _ _)
  unfold G
  iintro ⟨Hos, Hus, Hst, ⟨Hat, Hr⟩, Htok⟩
  ihave Hv := (sems0_in (F := F) d) $$ [Hos Hus]
  · isplitl [Hos] <;> iassumption
  icases Hv with ⟨Hv, HL⟩
  imod ha $$ [Hv Hst] with Hinv
  · isplitl [Hv] <;> iassumption
  imodintro
  isplitl [Hinv]; · iexact Hinv
  isplitl [Hat]; · iexact Hat
  isplitl [Hr]; · iexact Hr
  isplitl [Htok] <;> iassumption

/-- A family over the devices and some kinds, each kind moved along an axis of its own. -/
theorem deal {I : Type} [Fintype I] [DecidableEq I] (a : I → Fin 3) (Φ : Dev nD → I → sProp 𝕄) :
    (bigSep Finset.univ fun d : Dev nD => bigSep Finset.univ fun i : I => Φ d i) = bigSep Finset.univ fun d : Dev nD => bigSep Finset.univ fun i : I => Φ (ax (a i) d) i := by
  rw [← BI.bigSep_univ_prod (fun p : Dev nD × I => Φ p.1 p.2), ← BI.bigSep_univ_prod (fun p : Dev nD × I => Φ (ax (a p.2) p.1) p.2)]
  exact bigSep_univ_equiv (⟨fun p => (ax (a p.2) p.1, p.2), fun p => (ax (a p.2) p.1, p.2), fun p => by simp only [ax_ax], fun p => by simp only [ax_ax]⟩ : Dev nD × I ≃ Dev nD × I)
    (fun p : Dev nD × I => Φ p.1 p.2)

theorem toks_around : (bigSep Finset.univ fun d : Dev nD => toks (F := F) d) ⊢ bigSep Finset.univ fun d : Dev nD => payToks (F := F) d := by
  unfold toks payToks STok
  simp only [bigSep_sep', E8]
  rw [deal (fun k => k) (fun d k => Tok (F := F) d cBar k), deal (fun k => k) (fun d k => Tok (F := F) d (cRv k) 0),
    deal axOf (fun d f => bigSep Finset.univ fun c : Fin 8 => Tok (F := F) d (cRcv f c) 0)]

/-- What the step over all devices makes of it. -/
def G' (d : Dev nD) : sProp 𝕄 :=
  iprop((∃ K : Dev nD × Cl → ℕ, (bigSep Finset.univ fun p : Dev nD × Cl => cellInv ER (Rd m) (K p) (cell p.1 p.2)) ∗ (bigSep Finset.univ fun p : Dev nD × Cl => reached ER (cell p.1 p.2) 0))
    ∗ Locs (F := F) d ∗ payToks (F := F) d ∗ bigSep Finset.univ fun k : Cl => At0 (F := F) d k)

theorem regroup :
    (bigSep Finset.univ fun d : Dev nD => iprop((bigSep Finset.univ fun k : Cl => iprop(∃ κ : ℕ, cellInv ER (Rd m) κ (cell d k)))
          ∗ (bigSep Finset.univ fun k : Cl => At0 (F := F) d k) ∗ (bigSep Finset.univ fun k : Cl => reached ER (cell d k) 0) ∗ toks (F := F) d ∗ Locs (F := F) d) : sProp 𝕄)
      ⊢ bigSep Finset.univ (G' m) := by
  simp only [bigSep_sep']
  rw [← BI.bigSep_univ_prod (fun p : Dev nD × Cl => iprop(∃ κ : ℕ, cellInv ER (Rd m) κ (cell p.1 p.2))), ← BI.bigSep_univ_prod (fun p : Dev nD × Cl => (reached ER (cell p.1 p.2) 0 : sProp 𝕄))]
  iintro ⟨HI, Hat, #HR, Htok, HL⟩
  ihave HK := (BI.bigSep_exists_pi Finset.univ (fun (p : Dev nD × Cl) (κ : ℕ) => (cellInv ER (Rd m) κ (cell p.1 p.2) : sProp 𝕄))) $$ HI
  icases HK with ⟨%K, #HI⟩
  ihave Htk := (toks_around (F := F)) $$ Htok
  have hp : iprop(((bigSep Finset.univ fun p : Dev nD × Cl => cellInv ER (Rd m) (K p) (cell p.1 p.2)) ∗ (bigSep Finset.univ fun p : Dev nD × Cl => reached ER (cell p.1 p.2) 0))
      ∗ bigSep Finset.univ fun d : Dev nD => iprop(Locs (F := F) d ∗ payToks (F := F) d ∗ bigSep Finset.univ fun k : Cl => At0 (F := F) d k)) ⊢ bigSep Finset.univ (G' m) := by
    refine BIBase.Entails.trans (sep_mono_left (BI.bigSep_of_persistent (Finset.univ : Finset (Dev nD)) _)) ?_
    rw [← bigSep_sep']
    refine bigSep_mono fun d _ => ?_
    show (iprop(_ ∗ _) : sProp 𝕄) ⊢ iprop((∃ K : Dev nD × Cl → ℕ, _) ∗ _)
    iintro ⟨H1, H2⟩
    isplitl [H1]; · iexists K; iexact H1
    iexact H2
  iapply hp
  simp only [bigSep_sep']
  isplitr
  · isplitr; · iexact HI
    iexact HR
  isplitl [HL]; · iexact HL
  isplitl [Htk] <;> iassumption

theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

/-! ## The credit -/

theorem cred_ax (k : Fin 3) (s : Cl) (n : ℕ) (d : Dev nD) :
    (Pipeline.launchCred (fun d => tallyAt (cell (ax k d) s) () n) d : sProp 𝕄) ⊢ cred (tallyAt (cell d s) () n) :=
  Pipeline.launchCred_tallyAt (csem s) (ax k) (ax k) (ax_ax k) (ax_ax k) () n d

theorem rem_zero (d : Dev nD) (f : Fin 6) : rem d f (nX 0 f) = ∑ c : Fin 8, tallyAt (tgt d f c) () (amt f) := by
  unfold rem
  rw [Finset.filter_true_of_mem fun c _ => by fin_cases f <;> exact Nat.zero_le _]

theorem creds_intro (d : Dev nD) : (Pipeline.launchCred O₀ d : sProp 𝕄) ⊢ creds (F := F) d := by
  have hO : (O₀ : Dev nD → CellTallies nD τ sig Unit) = fun d => ((((((∑ f : Fin 6, ∑ c : Fin 8, tallyAt (tgt d f c) () (amt f)) + tR d 2) + tR d 1) + tR d 0) + tB d 2) + tB d 1) + tB d 0 := by
    funext d
    unfold O₀ O₁ OW
    rw [Finset.sum_congr rfl fun f _ => rem_zero d f]
  have hW : (Pipeline.launchCred (fun d => ∑ f : Fin 6, ∑ c : Fin 8, tallyAt (tgt d f c) () (amt f)) d : sProp 𝕄)
      ⊢ bigSep Finset.univ fun f : Fin 6 => E8 fun c => Cr (F := F) d (cRcv f c) := by
    rw [Pipeline.launchCred_sum]
    refine bigSep_mono fun f _ => ?_
    rw [Pipeline.launchCred_sum]
    refine bigSep_mono fun c _ => ?_
    have h := cred_ax (F := F) (axOf f) (cRcv f c) (amt f) d
    unfold Cr; rw [need_rcv]; exact h
  have hc : iprop(cred (tallyAt (cell d cBar) () 1) ∗ cred (tallyAt (cell d cBar) () 1) ∗ cred (tallyAt (cell d cBar) () 1)) ⊢ Cr (F := F) d cBar := by
    show _ ⊢ cred (tallyAt (cell d cBar) () 3)
    rw [show (tallyAt (cell d cBar) () 3 : CellTallies nD τ sig Unit) = tallyAt (cell d cBar) () 1 + (tallyAt (cell d cBar) () 1 + tallyAt (cell d cBar) () 1) from by
      rw [tallyAt_add, tallyAt_add]]
    exact (sep_mono_right (cred_add _ _).2).trans (cred_add _ _).2
  rw [hO, Pipeline.launchCred_add, Pipeline.launchCred_add, Pipeline.launchCred_add, Pipeline.launchCred_add, Pipeline.launchCred_add, Pipeline.launchCred_add]
  unfold creds
  rw [bigSep3]
  iintro ⟨⟨⟨⟨⟨⟨HW, HR2⟩, HR1⟩, HR0⟩, HB2⟩, HB1⟩, HB0⟩
  isplitl [HB0 HB1 HB2]
  · iapply hc
    isplitl [HB0]; · iapply (cred_ax (F := F) 0 cBar 1 d); iexact HB0
    isplitl [HB1]; · iapply (cred_ax (F := F) 1 cBar 1 d); iexact HB1
    iapply (cred_ax (F := F) 2 cBar 1 d); iexact HB2
  isplitl [HR0 HR1 HR2]
  · isplitl [HR0]; · iapply (cred_ax (F := F) 0 (cRv 0) 1 d); iexact HR0
    isplitl [HR1]; · iapply (cred_ax (F := F) 1 (cRv 1) 1 d); iexact HR1
    iapply (cred_ax (F := F) 2 (cRv 2) 1 d); iexact HR2
  iapply hW; iexact HW

/-! ## The conditions of the run -/

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(((∃ K, Rec m K) ∗ dealt (F := F) d ∗ arrs m d) ∗ emp) := by
  have hr : (Pipeline.unscopedRestP Pipeline.Prefetch.none cfg0.spec d (fun b => m ((d : Thread nD τ).loc b)) : sProp 𝕄) ⊢ arrs m d := by
    refine BIBase.Entails.trans (Entails.of_eq (unscopedRest0_eq d _)) ?_
    unfold arrs
    exact sep_assoc.2
  unfold G' dealt
  iintro ⟨Hrest, Hlev, Hcr, -, ⟨⟨%K, HK⟩, HL, Htk, Hat⟩⟩
  ihave Hc := (creds_intro (F := F) d) $$ Hcr
  ihave Ha := hr $$ Hrest
  imodintro
  isplitl
  · isplitl [HK Hlev]
    · iexists K
      unfold Rec
      icases HK with ⟨H1, H2⟩
      isplitl [H1]; · iexact H1
      isplitl [H2] <;> iassumption
    isplitr [Ha]
    · isplitl [HL]; · iexact HL
      isplitl [Htk]; · iexact Htk
      isplitl [Hat] <;> iassumption
    iexact Ha
  · iempintro

theorem phi0_intro (d : Dev nD) :
    iprop(((∃ K, Rec m K) ∗ dealt (F := F) d ∗ arrs m d) ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m d from rfl]
  unfold Φ₀
  iintro ⟨Hs, -, Hr⟩
  isplitl [Hs] <;> iassumption

/-- What device `d` passes on at the exit. -/
def exitY (d : Dev nD) : sProp 𝕄 :=
  iprop(unscopedSems0 d
    ∗ (((d : Thread nD τ).loc main_arg0 ↦{fullShare} m ((d : Thread nD τ).loc main_arg0)) ∗ ((d : Thread nD τ).loc main_arg1 ↦{fullShare} m ((d : Thread nD τ).loc main_arg1)))
    ∗ ∃ g : Buf (Elt F) ((d : Thread nD τ).loc main_v1), ⌜∀ t, GoodAt m d g t⌝ ∗ ((d : Thread nD τ).loc main_v1 ↦{fullShare} g))

theorem phi1_exit (d : Dev nD) :
    (dats m ρ 0 d).Φ (Fin.last cfg0.N) ⊢ iprop(exitY m d ∗ Pipeline.ownSems0 osem d ∗ Pipeline.scopedRest cfg0.spec d) := by
  rw [show (dats m ρ 0 d).Φ (Fin.last cfg0.N) = Φ₁ m d from rfl]
  unfold Φ₁ exitY
  iintro ⟨⟨Ho, Hu⟩, Hr, Hab, Hv⟩
  isplitr [Ho Hr]
  · isplitl [Hu]; · iexact Hu
    isplitl [Hab] <;> iassumption
  isplitl [Ho] <;> iassumption

theorem waits (d : Dev nD) : (levAts L lv : sProp 𝕄) ⊢ Pipeline.cellsWaits cfgs (dats m ρ) () 0 d :=
  Pipeline.cellsWaits_intro cfgs (dats m ρ) () 0 d fun w s t => by
    have hn : ∀ k, csem k ≠ .dma ((cfg0.win w).sem s) := by
      intro k
      fin_cases w
      have h : ∀ (s : Fin (cfg0.win 0).nbuf) (k : Cl), csem k ≠ .dma ((cfg0.win 0).sem s) := by decide +kernel
      exact h s k
    refine mayWait d _ _ fun g u h => ?_
    rw [lvS_none hn]
    rcases t with ⟨_ | _, ht⟩
    · have h' : 0 < O₀ d g u := h
      unfold O₀ at h'
      simp only [Pi.add_apply, Finsupp.add_apply] at h'
      by_cases h1 : 0 < O₁ d g u
      · obtain ⟨d', k, e, hk⟩ := O₁_pos h1; exact ⟨d', k, e, by omega⟩
      have hb : ∃ k, 0 < tB d k g u := by
        by_contra hc
        simp only [not_exists, not_lt, Nat.le_zero] at hc
        rw [hc 0, hc 1, hc 2] at h'; omega
      obtain ⟨k, hk⟩ := hb
      exact ⟨_, cBar, (Pipeline.tallyAt_pos hk).1, Nat.one_pos⟩
    · exact absurd (show 0 < (0 : CellTallies nD τ sig Unit) g u from h) (Nat.lt_irrefl 0)

/-! ## The run -/

/-- Reading one array of a device off the final state. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) (Val := Elt F) ({()} : Finset Unit) (fun _ => ℓ) (fun _ => f) s'
  rw [BI.bigSep_singleton] at h
  iintro H
  ihave H' := h $$ H
  icases H' with ⟨%h', HS⟩
  isplitr; · ipureintro; exact h' () (Finset.mem_singleton_self _)
  iexact HS

/-- What the final state says of device `d`, gamma and the counters apart. -/
def QY (d : Dev nD) (s : MemSt nD τ sig (Elt F)) : Prop :=
  (∀ sm : SemLoc sig, sm.isScoped .tc = false → s.sem ((d.tc : Thread nD τ), sm) = 0)
    ∧ s.mem ((d : Thread nD τ).loc main_arg0) = m ((d : Thread nD τ).loc main_arg0) ∧ s.mem ((d : Thread nD τ).loc main_arg1) = m ((d : Thread nD τ).loc main_arg1)
    ∧ ∀ t, GoodAt m d (s.mem ((d : Thread nD τ).loc main_v1)) t

theorem read_exit (d : Dev nD) (s' : Phys nD τ sig (Elt F)) : iprop(exitY m d ∗ emp ∗ SI s') ⊢ |={Set.univ}=> iprop(⌜QY m d s'.mem⌝ ∗ SI s') := by
  unfold exitY
  iintro ⟨⟨Hu, ⟨Ha, Hb⟩, ⟨%g, %hg, Hv⟩⟩, -, HS⟩
  ihave HA := (read_one _ _ s') $$ [Ha HS]
  · isplitl [Ha] <;> iassumption
  icases HA with ⟨%ha, HS⟩
  ihave HA := (read_one _ _ s') $$ [Hb HS]
  · isplitl [Hb] <;> iassumption
  icases HA with ⟨%hb, HS⟩
  ihave HA := (read_one _ _ s') $$ [Hv HS]
  · isplitl [Hv] <;> iassumption
  icases HA with ⟨%hv, HS⟩
  imod (Pipeline.unscopedSems0_read (X := unscopedSems0 d) (c := d) fupd_intro s') $$ [Hu HS] with ⟨%hu, HS⟩
  · isplitl [Hu] <;> iassumption
  imodintro
  isplitr
  · ipureintro; exact ⟨hu, ha, hb, hv ▸ hg⟩
  iexact HS

set_option maxRecDepth 8000 in
/-- Every run ends, with the arguments as they were, every counter at zero and each device's result as described. -/
theorem run_main : θ_run defs (onTc (τ := τ) (main (F := F))) (s₀ m ρ) (fun r =>
    (∀ d : Dev nD, r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ ∀ t, GoodAt m d (r.2.mem ((d : Thread nD τ).loc main_v1)) t) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_at m) $$ HX with HG
      imodintro
      isplitl [HP] <;> iassumption)
    (hglob := glob m)
    (hA := fun _ _ => rfl) (hpf := fun _ k => k.elim0)
    (X := fun d => iprop((∃ K, Rec m K) ∗ dealt (F := F) d ∗ arrs m d)) (Y := exitY m) (Z := fun _ => iprop(emp))
    (hX := start_intro m ρ) (hin := phi0_intro m ρ) (hout := phi1_exit m ρ)
    (QY := QY m)
    (hY := read_exit m)
    (hQ := fun s h hs => ⟨fun d => ⟨(h d).2.2.2.1, (h d).2.2.2.2.1, ((h d).1 (0 : Fin 1)).trans ((dats m ρ 0 d).arrAt_in (0 : Fin 1) rfl _), (h d).2.2.2.2.2⟩,
      sem_eq_zero hs fun d => (h d).2.2.1⟩)

end Cert.KernelIdeal.AR

end
-- ==== Proof.Frames.lean ====
/-
  The claims on termination: every run of the three programs ends, the arguments unchanged and the counters at zero.
-/
module

public import proofs.«01_k».proof.Defs
public import proofs.«01_k».proof.Proof.Same
public import proofs.«01_k».proof.Proof.Plain
public import proofs.«01_k».proof.Proof.KernelIdeal.Launch

@[expose] public section

noncomputable section

namespace Cert.Proof

open Idealize.ShloMosaic Idealize.SL.Sem

/-- The kernel read over the reals. -/
theorem frame_ideal : Cert.quiescent_KernelIdeal := fun m ρ _ =>
  (θ_run _ _ _).mono (fun _ h => ⟨fun c => ⟨(h.1 c).1, (h.1 c).2.1, (h.1 c).2.2.1⟩, h.2⟩) (Cert.KernelIdeal.AR.run_main (F := Ideal) m ρ)

/-- The kernel at its own float words: the same program. -/
theorem frame_words : Cert.quiescent_Kernel := fun m ρ _ => by
  have h := Cert.KernelIdeal.AR.run_main (F := Bits) m ρ
  rw [← Cert.Same.defs_eq, ← Cert.Same.main_eq] at h
  exact (θ_run _ _ _).mono (fun _ h => ⟨fun c => ⟨(h.1 c).1, (h.1 c).2.1, (h.1 c).2.2.1⟩, h.2⟩) h

/-- The reference. -/
theorem frame_plain : Cert.quiescent_ReferenceIdeal := fun m ρ _ =>
  (θ_run _ _ _).mono (fun r h => ⟨fun c => (h c).2, sem_eq_zero_of_no_sems (by decide) r.2⟩) (Cert.Plain.run_main (F := Ideal) m ρ)

end Cert.Proof

end
-- ==== Proof.Value.lean ====
/-
  Over the reals every device's result is the reference's: the rows one device computes, read at an index, and the
  received rows, which are the rows that other devices computed.
-/
module

public import proofs.«01_k».proof.Proof.Plain
public import proofs.«01_k».proof.Proof.KernelIdeal.Launch
public import Idealize.ShloMosaic.Lib.Pointwise

@[expose] public section

noncomputable section

namespace Cert.Value

open Cert.KernelIdeal Cert.KernelIdeal.Gen Cert.KernelIdeal.AR
open Idealize.ShloMosaic Idealize.ShloMosaic.TcCoe Idealize.SL.Sem

/-! ## Scalars -/

theorem count_word : Ideal.ofBits .f32 0x45000000#32 = ((2048 : ℝ) : EReal) := by
  simp [Ideal.ofBits, Ideal.ieee, -EReal.coe_mul]; norm_num

theorem small_pos : 0 < Ideal.ofBits .f32 0x358637BD#32 := by
  simp [Ideal.ofBits, Ideal.ieee, -EReal.coe_mul]

theorem square_nonneg (x : EReal) : 0 ≤ x * x := by
  induction x with
  | bot => simp
  | top => simp
  | coe r => rw [← EReal.coe_mul]; exact EReal.coe_nonneg.mpr (mul_self_nonneg r)

/-- A mean of squares with the small constant added is positive. -/
theorem mean_pos {n : ℕ} (y : Fin n → EReal) :
    0 < Ideal.div (∑ x, y x * y x) (Ideal.ofBits .f32 0x45000000#32) + Ideal.ofBits .f32 0x358637BD#32 := by
  have hs : 0 ≤ ∑ x, y x * y x := Finset.sum_nonneg fun x _ => square_nonneg (y x)
  generalize (∑ x, y x * y x) = s at hs
  have hd : 0 ≤ Ideal.div s (Ideal.ofBits .f32 0x45000000#32) := by
    rw [count_word]
    unfold Ideal.div
    rw [if_neg (by norm_num), ← EReal.coe_inv]
    exact mul_nonneg hs (EReal.coe_nonneg.mpr (by norm_num))
  exact lt_of_lt_of_le small_pos (le_add_of_nonneg_left hd)

/-- Dividing by the root of a positive number is multiplying by its reciprocal root. -/
theorem div_root (y a : EReal) (h : 0 < a) : Ideal.div y (Ideal.sqrt a) = y * Ideal.rsqrt a := by
  induction a with
  | bot => exact absurd h (by simp)
  | top => rw [Ideal.sqrt_top, Ideal.rsqrt_top]; simp [Ideal.div]
  | coe r =>
    have hr : 0 < r := EReal.coe_pos.mp h
    have hq : 0 < Real.sqrt r := Real.sqrt_pos.mpr hr
    rw [Ideal.rsqrt_coe, Ideal.sqrt_coe, if_neg (not_lt.mpr hr.le), if_neg (not_lt.mpr hr.le), if_neg hr.ne']
    unfold Ideal.div
    rw [if_neg (by exact_mod_cast hq.ne'), EReal.coe_inv]

/-! ## The reference at an index -/

variable (p : Cert.ReferenceIdeal.S2x8192x2048.Idx → EReal) (r : S8192x2048.Idx → EReal) (g : S2048.Idx → EReal)

/-- The sum at an index. -/
def sumAt (i : S8192x2048.Idx) : EReal := p (ix3 0 (i 0) (i 1)) + p (ix3 1 (i 0) (i 1)) + r i

/-- The normalised sum at an index. -/
def normAt (i : S8192x2048.Idx) : EReal :=
  sumAt p r i * Ideal.rsqrt (Ideal.div (∑ x, sumAt p r (ix2 (i 0) x) * sumAt p r (ix2 (i 0) x)) (Ideal.ofBits .f32 0x45000000#32)
    + Ideal.ofBits .f32 0x358637BD#32) * g (ix1 (i 1))

theorem total_apply (i : S8192x2048.Idx) : Cert.Plain.total (F := Ideal) p r i = sumAt p r i := by
  unfold Cert.Plain.total sumAt
  pointwise
  rw [Fin.sum_univ_two]

theorem result_apply (i : S8192x2048.Idx) : Cert.Plain.result (F := Ideal) p r g i = normAt p r g i := by
  unfold Cert.Plain.result Cert.Plain.root
  pointwise
  simp only [total_apply]
  unfold normAt
  rw [div_root _ _ (mean_pos _)]

/-! ## The kernel's rows at an index -/

theorem norm_apply (pm : S128x2048.Idx → Elt Ideal .f32) (px : S128x2048.Idx → Elt Ideal .bf16) (q : S128x2048.Idx → Elt Ideal .f32)
    (g : Vec Ideal S2048 .f32) (j : S128x2048.Idx) (i : S8192x2048.Idx) (h1 : (i 1).val = (j 1).val)
    (h : ∀ x : Fin 2048, pm (ix2 (j 0) x) + px (ix2 (j 0) x) + q (ix2 (j 0) x) = sumAt p r (ix2 (i 0) x)) :
    Cert.KernelIdeal.AR.norm (F := Ideal) (up pm) (up px) (up q) g j = normAt p r g i := by
  have e : (j 1 : Fin 2048) = i 1 := Fin.ext h1.symm
  have hj : pm j + px j + q j = sumAt p r i := by
    have := h (j 1)
    rw [← eq_ix2 j, e, ← eq_ix2 i] at this
    exact this
  unfold Cert.KernelIdeal.AR.norm Cert.KernelIdeal.AR.up
  pointwise
  unfold normAt
  rw [hj, Finset.sum_congr rfl fun x _ => by rw [h x]]
  rw [show (ix1 (j 1) : S2048.Idx) = ix1 (i 1) from congrArg ix1 e]
  rfl

theorem half_xp (d : Dev nD) : (xp d).val / 4 = 1 - d.val / 4 := by revert d; decide +kernel
theorem y_xp (d : Dev nD) : (xp d).val / 2 % 2 = d.val / 2 % 2 := by revert d; decide +kernel
theorem z_xp (d : Dev nD) : (xp d).val % 2 = d.val % 2 := by revert d; decide +kernel
theorem half_yp (d : Dev nD) : (yp d).val / 4 = d.val / 4 := by revert d; decide +kernel
theorem y_yp (d : Dev nD) : (yp d).val / 2 % 2 = 1 - d.val / 2 % 2 := by revert d; decide +kernel
theorem z_yp (d : Dev nD) : (yp d).val % 2 = d.val % 2 := by revert d; decide +kernel
theorem half_zp (d : Dev nD) : (zp d).val / 4 = d.val / 4 := by revert d; decide +kernel
theorem y_zp (d : Dev nD) : (zp d).val / 2 % 2 = d.val / 2 % 2 := by revert d; decide +kernel
theorem z_zp (d : Dev nD) : (zp d).val % 2 = 1 - d.val % 2 := by revert d; decide +kernel

/-- The first row of the 256 that device `d` and its neighbour across the first axis compute as chunk `c`. -/
def base (d : Dev nD) (c : Fin 8) : ℕ := 4096 * (d.val / 2 % 2) + 2048 * (d.val % 2) + 256 * c.val

variable (m : (ℓ : Loc nD τ sig) → Buf (Elt Ideal) ℓ)

/-- What the devices hold of the three arrays: the half of the first that the first mesh axis names, and copies. -/
def Holds : Prop := ∀ d : Dev nD,
  m ((d.tc : Thread nD τ).loc main_arg0) = Layout.blockN ⟨3, ![1, 8192, 2048]⟩ ⟨3, ![2, 8192, 2048]⟩ (Layout.meshBlock [2, 2, 2] ![[0], [], []] d) p
    ∧ m ((d.tc : Thread nD τ).loc main_arg1) = r ∧ m ((d.tc : Thread nD τ).loc main_arg2) = g

variable {p r g m}

/-- A device's part of the first array at an index. -/
theorem part_apply (h : Holds p r g m) (d : Dev nD) (i : S1x8192x2048.Idx) :
    (m ((d.tc : Thread nD τ).loc main_arg0) : S1x8192x2048.Idx → EReal) i = p (ix3 (hx d) (i 1) (i 2)) := by
  rw [(h d).1]
  refine congrArg p (funext fun a => ?_)
  have h0 : (i 0).val = 0 := by have : (i 0).val < 1 := (i 0).isLt; omega
  have hd : ((Layout.meshBlock [2, 2, 2] ![[0], [], []] d) 0).val = d.val / 4 := by revert d; decide +kernel
  have h1 : ((Layout.meshBlock [2, 2, 2] ![[0], [], []] d) 1).val = 0 := by revert d; decide +kernel
  have h2 : ((Layout.meshBlock [2, 2, 2] ![[0], [], []] d) 2).val = 0 := by revert d; decide +kernel
  fin_cases a <;> refine Fin.ext ?_
  · show ((Layout.meshBlock [2, 2, 2] ![[0], [], []] d) 0).val * 1 + (i 0).val = d.val / 4
    omega
  · show ((Layout.meshBlock [2, 2, 2] ![[0], [], []] d) 1).val * 8192 + (i 1).val = (i 1).val
    omega
  · show ((Layout.meshBlock [2, 2, 2] ![[0], [], []] d) 2).val * 2048 + (i 2).val = (i 2).val
    omega

/-- A leading dimension of one dropped, at an index. -/
theorem drop_lead (G : S1x128x2048.Idx → EReal) (j : S128x2048.Idx) :
    shapeCast S128x2048 G shapeCasts_S1x128x2048_S128x2048 j = G (ix3 0 (j 0) (j 1)) := by
  pointwise

/-- 128 rows of it, as a slice of one leading index reads them. -/
theorem part_rows (h : Holds p r g m) (d : Dev nD) (off : Fin 3 → ℕ) (inb) (hu hs) (k : ℕ) (hoff : off = ![0, k, 0]) (j : S128x2048.Idx)
    (i : S8192x2048.Idx) (h0 : (i 0).val = k + (j 0).val) (h1 : (i 1).val = (j 1).val) :
    (((partialM.slice (Rect.unit (s := S1x8192x2048) off S1x128x2048.size inb) hu).squeeze S128x2048 hs).view.read (Elt Ideal)
      (m ((d.tc : Thread nD τ).loc main_arg0)) : S128x2048.Idx → EReal) j = p (ix3 (hx d) (i 0) (i 1)) := by
  subst hoff
  refine Eq.trans (b := shapeCast S128x2048 (((partialM.slice (Rect.unit (s := S1x8192x2048) ![0, k, 0] S1x128x2048.size inb) hu).view.read (Elt Ideal)
      (m ((d.tc : Thread nD τ).loc main_arg0)) : S1x128x2048.Idx → EReal)) shapeCasts_S1x128x2048_S128x2048 j) rfl ?_
  rw [drop_lead]
  refine (part_apply h d _).trans (congrArg p ?_)
  refine congrArg₂ (ix3 (hx d)) (Fin.ext ?_) (Fin.ext ?_)
  · show k + 1 * (j 0).val = (i 0).val; omega
  · show 0 + 1 * (j 1).val = (i 1).val; omega

theorem pm_apply (h : Holds p r g m) (d : Dev nD) (c : Fin 8) (j : S128x2048.Idx) (i : S8192x2048.Idx)
    (h0 : (i 0).val = base d c + 128 * (d.val / 4) + (j 0).val) (h1 : (i 1).val = (j 1).val) : pmV m d c j = p (ix3 (hx d) (i 0) (i 1)) :=
  part_rows h d _ _ _ _ _ (k0_off2_eq d c) j i h0 h1

theorem px_apply (h : Holds p r g m) (d : Dev nD) (c : Fin 8) (j : S128x2048.Idx) (i : S8192x2048.Idx)
    (h0 : (i 0).val = base d c + 128 * (d.val / 4) + (j 0).val) (h1 : (i 1).val = (j 1).val) :
    SX m (xp d) c j = p (ix3 (hpx d) (i 0) (i 1)) := by
  rw [← hx_xp]
  refine Eq.trans (b := pxV m (xp d) c j) rfl ?_
  refine part_rows h (xp d) _ _ _ _ _ (k0_off1_eq (xp d) c) j i ?_ h1
  rw [half_xp, y_xp, z_xp]
  unfold base at h0
  have : d.val / 4 < 2 := by have := d.isLt; simp only [nD] at this; omega
  omega

theorem ri_apply (h : Holds p r g m) (d : Dev nD) (c : Fin 8) (j : S128x2048.Idx) (i : S8192x2048.Idx)
    (h0 : (i 0).val = base d c + 128 * (d.val / 4) + (j 0).val) (h1 : (i 1).val = (j 1).val) : riV m d c j = r i := by
  have e := k0_off3_eq d c
  refine Eq.trans (b := m ((d.tc : Thread nD τ).loc main_arg1) ((Rect.unit (s := S8192x2048) (k0_off3 d (w256 c)) S128x2048.size (k0_off3_inb d c)).emb j)) rfl ?_
  rw [(h d).2.1]
  refine congrArg r (funext fun a => ?_)
  have e0 := congrFun e 0
  have e1 := congrFun e 1
  fin_cases a <;> refine Fin.ext ?_
  · show k0_off3 d (w256 c) 0 + 1 * (j 0).val = (i 0).val
    rw [e0, h0]; show _ + 1 * (j 0).val = _; unfold base; simp
  · show k0_off3 d (w256 c) 1 + 1 * (j 1).val = (i 1).val
    rw [e1, h1]; simp

theorem g_apply (h : Holds p r g m) (d : Dev nD) : (gV m d : S2048.Idx → EReal) = g := by
  funext i
  refine Eq.trans (b := m ((d.tc : Thread nD τ).loc main_arg2) ((win0_0.rect (0 : Fin 1)).emb i)) rfl ?_
  rw [(h d).2.2]
  refine congrArg g (funext fun a => ?_)
  fin_cases a
  refine Fin.ext ?_
  show 0 * 2048 + 1 * (i 0).val = (i 0).val
  omega

/-- The rows a device computes are the reference's. -/
theorem computed (h : Holds p r g m) (d : Dev nD) (c : Fin 8) (j : S128x2048.Idx) (i : S8192x2048.Idx)
    (h0 : (i 0).val = base d c + 128 * (d.val / 4) + (j 0).val) (h1 : (i 1).val = (j 1).val) : NV m d c j = normAt p r g i := by
  unfold NV
  rw [g_apply h]
  refine norm_apply p r _ _ _ g j i h1 fun x => ?_
  rw [pm_apply h d c (ix2 (j 0) x) (ix2 (i 0) x) h0 rfl, px_apply h d c (ix2 (j 0) x) (ix2 (i 0) x) h0 rfl, ri_apply h d c (ix2 (j 0) x) (ix2 (i 0) x) h0 rfl]
  unfold sumAt
  have hd : d.val / 4 < 2 := by have := d.isLt; simp only [nD] at this; omega
  obtain hz | ho : d.val / 4 = 0 ∨ d.val / 4 = 1 := by omega
  · rw [show hx d = 0 from Fin.ext hz, show hpx d = 1 from Fin.ext (by show 1 - d.val / 4 = 1; omega)]
  · rw [show hx d = 1 from Fin.ext ho, show hpx d = 0 from Fin.ext (by show 1 - d.val / 4 = 0; omega), add_comm (p _) (p _)]

/-- So are the 256 rows of a device and its neighbour. -/
theorem glued (h : Holds p r g m) (d : Dev nD) (c : Fin 8) (j : S256x2048.Idx) (i : S8192x2048.Idx)
    (h0 : (i 0).val = base d c + (j 0).val) (h1 : (i 1).val = (j 1).val) : RB m d c j = normAt p r g i := by
  have hd : d.val / 4 < 2 := by have := d.isLt; simp only [nD] at this; omega
  have hj : (j 0).val < 256 := (j 0).isLt
  unfold RB glue
  show (if halfOf j = hx d then NB m d c else NB m (xp d) c) (rowIn j) = _
  by_cases hh : halfOf j = hx d
  · rw [if_pos hh]
    have hv : (j 0).val / 128 = d.val / 4 := congrArg Fin.val hh
    refine computed h d c (rowIn j) i ?_ h1
    show (i 0).val = base d c + 128 * (d.val / 4) + (j 0).val % 128
    omega
  · rw [if_neg hh]
    have hv : (j 0).val / 128 ≠ d.val / 4 := fun e => hh (Fin.ext e)
    refine computed h (xp d) c (rowIn j) i ?_ h1
    show (i 0).val = base (xp d) c + 128 * ((xp d).val / 4) + (j 0).val % 128
    unfold base
    rw [half_xp, y_xp, z_xp]
    unfold base at h0
    omega

/-! ## The whole result -/

/-- The result read through a slice of rows, at a row of the slice. -/
theorem slice_row (d : Dev nD) (f : Buf (Elt Ideal) (outM.view.loc (d.tc : Thread nD τ))) {n : ℕ} (off : Fin 2 → ℕ) (inb) (hu) (k : ℕ) (hoff : off = ![k, 0])
    (i : S8192x2048.Idx) (j : (⟨2, ![n, 2048]⟩ : Shape).Idx) (h0 : (i 0).val = k + (j 0).val) (h1 : (i 1).val = (j 1).val) :
    ((outM.slice (Rect.unit (s := S8192x2048) off ![n, 2048] inb) hu).view.read (Elt Ideal) f : (⟨2, ![n, 2048]⟩ : Shape).Idx → EReal) j = f i := by
  subst hoff
  refine Eq.trans (b := f ((Rect.unit (s := S8192x2048) ![k, 0] ![n, 2048] inb).emb j)) rfl ?_
  refine congrArg f (funext fun a => ?_)
  fin_cases a <;> refine Fin.ext ?_
  · show k + 1 * (j 0).val = (i 0).val; omega
  · show 0 + 1 * (j 1).val = (i 1).val; omega

/-- The row of a slice that row `i` of the result is, the slice starting at row `k`. -/
def rowOf (n k : ℕ) (i : S8192x2048.Idx) (h : (i 0).val < k + n) (hk : k ≤ (i 0).val) : (⟨2, ![n, 2048]⟩ : Shape).Idx :=
  ix2 ⟨(i 0).val - k, by omega⟩ (i 1)

/-- A slice of the result holding the reference's rows, the result holds them there. -/
theorem slice_good (d : Dev nD) (f : Buf (Elt Ideal) (outM.view.loc (d.tc : Thread nD τ))) (n : ℕ) (off : Fin 2 → ℕ) (inb) (hu) (k : ℕ) (hoff : off = ![k, 0])
    (X : (⟨2, ![n, 2048]⟩ : Shape).Idx → EReal) (hX : ∀ (j : (⟨2, ![n, 2048]⟩ : Shape).Idx) (i : S8192x2048.Idx),
      (i 0).val = k + (j 0).val → (i 1).val = (j 1).val → X j = normAt p r g i)
    (hf : (outM.slice (Rect.unit (s := S8192x2048) off ![n, 2048] inb) hu).view.read (Elt Ideal) f = X)
    (i : S8192x2048.Idx) (hi : i ∈ (Rect.unit (s := S8192x2048) off ![n, 2048] inb).set) : f i = normAt p r g i := by
  obtain ⟨hk, h⟩ := (mem_rows off n k hoff inb i).mp hi
  have h0 : (i 0).val = k + ((rowOf n k i h hk) 0).val := by show (i 0).val = k + ((i 0).val - k); omega
  rw [← hX (rowOf n k i h hk) i h0 rfl, ← hf]
  exact (slice_row d f off inb hu k hoff i (rowOf n k i h hk) h0 rfl).symm

theorem rows_apply (X : S256x2048.Idx → EReal) (q : Fin 2) (j : S128x2048.Idx) (i : S8192x2048.Idx) (d : Dev nD) (c : Fin 8)
    (hX : ∀ j : S256x2048.Idx, (i 0).val = base d c + (j 0).val → (i 1).val = (j 1).val → X j = normAt p r g i)
    (h0 : (i 0).val = base d c + 128 * q.val + (j 0).val) (h1 : (i 1).val = (j 1).val) : rows q X j = normAt p r g i :=
  hX (rowIx q j) (by show (i 0).val = base d c + (128 * q.val + (j 0).val); omega) h1

/-- A device's result, once each piece is as the steps write it, is the reference's. -/
theorem result_good (h : Holds p r g m) (d : Dev nD) (f : Buf (Elt Ideal) (outM.view.loc (d.tc : Thread nD τ)))
    (hf : ∀ t, GoodAt m d f t) : f = normAt p r g := by
  funext i
  obtain ⟨t, ht⟩ : ∃ t, i ∈ (oR d t).set := ⟨_, (mem_oR d _ i).mpr rfl⟩
  have hd : d.val < 8 := d.isLt
  have e4 : d.val / 4 < 2 := by omega
  have e2 : d.val / 2 % 2 < 2 := by omega
  have e1 : d.val % 2 < 2 := by omega
  have hg := hf t
  obtain ⟨k, c⟩ := t
  fin_cases k
  · refine slice_good d f 128 _ _ _ _ (k0_off3_eq d c) _ (fun j i h0 h1 => ?_) hg i ht
    exact computed h d c j i (by unfold base; omega) h1
  · refine slice_good d f 128 _ _ _ _ (k0_off6_eq d c) _ (fun j i h0 h1 => ?_) hg i ht
    refine computed h (xp d) c j i ?_ h1
    unfold base; rw [half_xp, y_xp, z_xp]; omega
  · refine slice_good d f 256 _ _ _ _ (k0_off13_eq d c) _ (fun j i h0 h1 => ?_) hg i ht
    refine glued h (yp d) c j i ?_ h1
    unfold base; rw [y_yp, z_yp]; omega
  · refine slice_good d f 256 _ _ _ _ (k0_off14_eq d c) _ (fun j i h0 h1 => ?_) hg i ht
    refine glued h (zp d) c j i ?_ h1
    unfold base; rw [y_zp, z_zp]; omega
  · refine slice_good d f 128 _ _ _ _ (k0_off15_eq d c) _ (fun j i h0 h1 => ?_) hg i ht
    refine rows_apply _ 0 j i (yp (zp d)) c (fun j => glued h _ c j i) ?_ h1
    unfold base; rw [y_yp, z_yp, y_zp, z_zp]; simp only [Fin.val_zero]; omega
  · refine slice_good d f 128 _ _ _ _ (k0_off16_eq d c) _ (fun j i h0 h1 => ?_) hg i ht
    refine rows_apply _ 1 j i (zp (yp d)) c (fun j => glued h _ c j i) ?_ h1
    unfold base; rw [y_zp, z_zp, y_yp, z_yp]; simp only [Fin.val_one]; omega

end Cert.Value

end
-- ==== Proof.lean ====
/-
  The certificate: the three programs' runs end with the arguments unchanged and the counters at zero, and over the reals
  every device's result is the reference's.
-/
module

public import proofs.«01_k».proof.Defs
public import proofs.«01_k».proof.Proof.Frames
public import proofs.«01_k».proof.Proof.Value

@[expose] public section

noncomputable section

namespace Cert.Proof

open Idealize.ShloMosaic Idealize.ShloMosaic.TcCoe Idealize.SL.Sem

/-- Over the reals every device ends with the reference's result. -/
theorem same_result : Cert.algebraic_KernelIdeal_ReferenceIdeal := by
  intro m ρ m' ρ' _ hagree
  refine ⟨Cert.Value.normAt (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1))
    (m' (((0 : Dev Cert.ReferenceIdeal.nD) : Thread Cert.ReferenceIdeal.nD Cert.ReferenceIdeal.τ).loc Cert.ReferenceIdeal.main_arg2)), ?_, ?_⟩
  · refine (θ_run _ _ _).mono (fun _ h d => ?_) (Cert.KernelIdeal.AR.run_main (F := Ideal) m ρ)
    exact ⟨Cert.Value.result_good hagree d _ (h.1 d).2.2.2, (h.1 d).1, (h.1 d).2.1, (h.1 d).2.2.1⟩
  · refine (θ_run _ _ _).mono (fun _ h => ?_) (Cert.Plain.run_main (F := Ideal) m' ρ')
    exact ⟨(h 0).1.trans (funext fun i => Cert.Value.result_apply _ _ _ i), (h 0).2⟩

theorem claim : Cert.Claim := ⟨Cert.Kernel.Gen.facts, Cert.KernelIdeal.Gen.facts, Cert.ReferenceIdeal.Gen.facts,
  frame_words, frame_ideal, frame_plain, trivial, same_result⟩

end Cert.Proof

end
